-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.bf16_pair.PackStatement Cert.KernelIdeal.S8x128
  ∧ IdealRules.bf16_pair.Statement Cert.KernelIdeal.S16x128 Cert.KernelIdeal.S8x128

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1x128x4096 : Shape := ⟨3, ![1, 128, 4096]⟩
abbrev S14336x512 : Shape := ⟨2, ![14336, 512]⟩
abbrev S14336 : Shape := ⟨1, ![14336]⟩
abbrev S14336x16 : Shape := ⟨2, ![14336, 16]⟩
abbrev S4096 : Shape := ⟨1, ![4096]⟩
abbrev S_ : Shape := ⟨0, ![]⟩

class Facts : Prop where
  bcast_S_S1x128x4096 : S_.BroadcastsInDim S1x128x4096 (![] : Fin 0 → Fin S1x128x4096.rank)
  bcast_S_S14336 : S_.BroadcastsInDim S14336 (![] : Fin 0 → Fin S14336.rank)
  bcast_S_S14336x16 : S_.BroadcastsInDim S14336x16 (![] : Fin 0 → Fin S14336x16.rank)
  bcast_S_S4096 : S_.BroadcastsInDim S4096 (![] : Fin 0 → Fin S4096.rank)

variable [Facts]

def fn {F : FTy → Type} [FloatOps F] (main_arg0 : FVec F S1x128x4096 .bf16) (main_arg1 : IVec S14336x512 16) (main_arg2 : FVec F S14336 .f32) (main_arg3 : FVec F S14336x16 .f32) (main_arg4 : FVec F S4096 .f32) (main_arg5 : FVec F S14336 .f32) : IVec S1x128x4096 1 × IVec S14336 1 × IVec S14336x16 1 × IVec S4096 1 :=
  let main_v0 : FVec F S1x128x4096 .bf16 := Host.absf main_arg0
  let main_cst : FVec F S_ .bf16 := constant S_ .bf16 0x7F80#16
  let main_v1 : FVec F S1x128x4096 .bf16 := broadcastInDim S1x128x4096 ![] bcast_S_S1x128x4096 main_cst
  let main_v2 : IVec S1x128x4096 1 := cmpf .olt main_v0 main_v1
  let main_v3 : FVec F S14336 .f32 := Host.absf main_arg2
  let main_cst_0 : FVec F S_ .f32 := constant S_ .f32 0x7F800000#32
  let main_v4 : FVec F S14336 .f32 := broadcastInDim S14336 ![] bcast_S_S14336 main_cst_0
  let main_v5 : IVec S14336 1 := cmpf .olt main_v3 main_v4
  let main_v6 : FVec F S14336x16 .f32 := Host.absf main_arg3
  let main_cst_1 : FVec F S_ .f32 := constant S_ .f32 0x7F800000#32
  let main_v7 : FVec F S14336x16 .f32 := broadcastInDim S14336x16 ![] bcast_S_S14336x16 main_cst_1
  let main_v8 : IVec S14336x16 1 := cmpf .olt main_v6 main_v7
  let main_v9 : FVec F S4096 .f32 := Host.absf main_arg4
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  (main_v2, main_v5, main_v8, main_v11)
-- ==== Kernel.lean ====
abbrev S1x128x4096 : Shape := ⟨3, ![1, 128, 4096]⟩
abbrev S14336x512 : Shape := ⟨2, ![14336, 512]⟩
abbrev S14336 : Shape := ⟨1, ![14336]⟩
abbrev S14336x16 : Shape := ⟨2, ![14336, 16]⟩
abbrev S4096 : Shape := ⟨1, ![4096]⟩
abbrev S128x4096 : Shape := ⟨2, ![128, 4096]⟩
abbrev S1x14336 : Shape := ⟨2, ![1, 14336]⟩
abbrev S1x4096 : Shape := ⟨2, ![1, 4096]⟩
abbrev S128x14336 : Shape := ⟨2, ![128, 14336]⟩
abbrev S1024x512 : Shape := ⟨2, ![1024, 512]⟩
abbrev S1x1024 : Shape := ⟨2, ![1, 1024]⟩
abbrev S1024x16 : Shape := ⟨2, ![1024, 16]⟩
abbrev S128x1024 : Shape := ⟨2, ![128, 1024]⟩
abbrev S256x256 : Shape := ⟨2, ![256, 256]⟩
abbrev S4096x128 : Shape := ⟨2, ![4096, 128]⟩
abbrev S1024x128 : Shape := ⟨2, ![1024, 128]⟩
abbrev S4x1024x128 : Shape := ⟨3, ![4, 1024, 128]⟩
abbrev S2x8x256x128 : Shape := ⟨4, ![2, 8, 256, 128]⟩
abbrev S128x256 : Shape := ⟨2, ![128, 256]⟩
abbrev S1x256 : Shape := ⟨2, ![1, 256]⟩
abbrev S128x128 : Shape := ⟨2, ![128, 128]⟩
abbrev S8x128 : Shape := ⟨2, ![8, 128]⟩
abbrev S16x128 : Shape := ⟨2, ![16, 128]⟩
abbrev S16x512 : Shape := ⟨2, ![16, 512]⟩
abbrev S1x1024x128 : Shape := ⟨3, ![1, 1024, 128]⟩
abbrev S1x16x128 : Shape := ⟨3, ![1, 16, 128]⟩
abbrev S1x1x16x128 : Shape := ⟨4, ![1, 1, 16, 128]⟩
abbrev S1x1x256x128 : Shape := ⟨4, ![1, 1, 256, 128]⟩
abbrev S256x128 : Shape := ⟨2, ![256, 128]⟩

abbrev nBuf : Space → Nat
  | .hbm => 12
  | .vmem => 19
  | .smem => 0
  | _ => 0

abbrev bufTy : (tb : Table) → Fin (tcTables nBuf tb) → BufTy
  | .hbm, ⟨0, _⟩ => ⟨S1x128x4096, .bf16⟩
  | .hbm, ⟨1, _⟩ => ⟨S14336x512, .i16⟩
  | .hbm, ⟨2, _⟩ => ⟨S14336, .f32⟩
  | .hbm, ⟨3, _⟩ => ⟨S14336x16, .f32⟩
  | .hbm, ⟨4, _⟩ => ⟨S4096, .f32⟩
  | .hbm, ⟨5, _⟩ => ⟨S14336, .f32⟩
  | .hbm, ⟨6, _⟩ => ⟨S128x4096, .bf16⟩
  | .hbm, ⟨7, _⟩ => ⟨S1x14336, .f32⟩
  | .hbm, ⟨8, _⟩ => ⟨S1x4096, .f32⟩
  | .hbm, ⟨9, _⟩ => ⟨S1x14336, .f32⟩
  | .hbm, ⟨10, _⟩ => ⟨S128x14336, .bf16⟩
  | .hbm, ⟨11, _⟩ => ⟨S128x4096, .bf16⟩
  | .local _ .vmem, ⟨0, _⟩ => ⟨S128x4096, .bf16⟩
  | .local _ .vmem, ⟨1, _⟩ => ⟨S1024x512, .i16⟩
  | .local _ .vmem, ⟨2, _⟩ => ⟨S1024x512, .i16⟩
  | .local _ .vmem, ⟨3, _⟩ => ⟨S1x1024, .f32⟩
  | .local _ .vmem, ⟨4, _⟩ => ⟨S1x1024, .f32⟩
  | .local _ .vmem, ⟨5, _⟩ => ⟨S1024x16, .f32⟩
  | .local _ .vmem, ⟨6, _⟩ => ⟨S1024x16, .f32⟩
  | .local _ .vmem, ⟨7, _⟩ => ⟨S1x4096, .f32⟩
  | .local _ .vmem, ⟨8, _⟩ => ⟨S1x1024, .f32⟩
  | .local _ .vmem, ⟨9, _⟩ => ⟨S1x1024, .f32⟩
  | .local _ .vmem, ⟨10, _⟩ => ⟨S128x1024, .bf16⟩
  | .local _ .vmem, ⟨11, _⟩ => ⟨S128x1024, .bf16⟩
  | .local _ .vmem, ⟨12, _⟩ => ⟨S128x4096, .bf16⟩
  | .local _ .vmem, ⟨13, _⟩ => ⟨S256x256, .bf16⟩
  | .local _ .vmem, ⟨14, _⟩ => ⟨S4096x128, .bf16⟩
  | .local _ .vmem, ⟨15, _⟩ => ⟨S1024x128, .f32⟩
  | .local _ .vmem, ⟨16, _⟩ => ⟨S4x1024x128, .bf16⟩
  | .local _ .vmem, ⟨17, _⟩ => ⟨S2x8x256x128, .bf16⟩
  | .local _ .vmem, ⟨18, _⟩ => ⟨S1024x128, .f32⟩
  | _, _ => ⟨S1x128x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_scratch5 : Ref sig .tc := ⟨.vmem, 18, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [BitOps F]

abbrev grid0 : Pipeline.Grid := ⟨1, ![14], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_60 : BitVec 32 := 0#32
  let c4_i32_61 : BitVec 32 := 4#32
  let v161 : BitVec 32 := Scalar.addi c0_i32_60 c4_i32_61
  let c1_i32_62 : BitVec 32 := 1#32
  ⟨c0_i32_60, v161, c1_i32_62⟩
def k0_mult1 (k0_t1 : Fin k0_t1_loop.trips) : BitVec 32 :=
  let c0_i32_65 : BitVec 32 := 0#32
  let c0_i32_60 : BitVec 32 := 0#32
  let c1_i32_62 : BitVec 32 := 1#32
  let arg15 : BitVec 32 := Scf.iv c0_i32_60 c1_i32_62 k0_t1
  let c1_i32_64 : BitVec 32 := 1#32
  let v162 : BitVec 32 := Scalar.muli arg15 c1_i32_64
  let v163 : BitVec 32 := Scalar.addi c0_i32_65 v162
  let c1024_i32 : BitVec 32 := 1024#32
  let v164 : BitVec 32 := Scalar.muli v163 c1024_i32
  let c0_i32_66 : BitVec 32 := 0#32
  let v165 : BitVec 32 := Scalar.addi v164 c0_i32_66
  v165
def k0_off1 (k0_t1 : Fin k0_t1_loop.trips) (c0_i32_66 : BitVec 32) : Fin 2 → Nat :=
  let c0_67 : Index := 0#32
  let c0_i32_65 : BitVec 32 := 0#32
  let c0_i32_60 : BitVec 32 := 0#32
  let c1_i32_62 : BitVec 32 := 1#32
  let arg15 : BitVec 32 := Scf.iv c0_i32_60 c1_i32_62 k0_t1
  let c1_i32_64 : BitVec 32 := 1#32
  let v162 : BitVec 32 := Scalar.muli arg15 c1_i32_64
  let v163 : BitVec 32 := Scalar.addi c0_i32_65 v162
  let c1024_i32 : BitVec 32 := 1024#32
  let v164 : BitVec 32 := Scalar.muli v163 c1024_i32
  let v165 : BitVec 32 := Scalar.addi v164 c0_i32_66
  let v166 : BitVec 32 := v165
  let v167 : Index := Scalar.indexCast v166
  ![0, v167.toNat]
def k0_off2 (k0_t1 : Fin k0_t1_loop.trips) (c0_i32_66 : BitVec 32) : Fin 2 → Nat :=
  let c0_68 : Index := 0#32
  let c0_i32_65 : BitVec 32 := 0#32
  let c0_i32_60 : BitVec 32 := 0#32
  let c1_i32_62 : BitVec 32 := 1#32
  let arg15 : BitVec 32 := Scf.iv c0_i32_60 c1_i32_62 k0_t1
  let c1_i32_64 : BitVec 32 := 1#32
  let v162 : BitVec 32 := Scalar.muli arg15 c1_i32_64
  let v163 : BitVec 32 := Scalar.addi c0_i32_65 v162
  let c1024_i32 : BitVec 32 := 1024#32
  let v164 : BitVec 32 := Scalar.muli v163 c1024_i32
  let v165 : BitVec 32 := Scalar.addi v164 c0_i32_66
  let v166 : BitVec 32 := v165
  let v171 : Index := Scalar.indexCast v166
  ![0, v171.toNat]
def k0_mult2 (k0_t1 : Fin k0_t1_loop.trips) : BitVec 32 :=
  let c0_i32_65 : BitVec 32 := 0#32
  let c0_i32_60 : BitVec 32 := 0#32
  let c1_i32_62 : BitVec 32 := 1#32
  let arg15 : BitVec 32 := Scf.iv c0_i32_60 c1_i32_62 k0_t1
  let c1_i32_64 : BitVec 32 := 1#32
  let v162 : BitVec 32 := Scalar.muli arg15 c1_i32_64
  let v163 : BitVec 32 := Scalar.addi c0_i32_65 v162
  let c1024_i32 : BitVec 32 := 1024#32
  let v164 : BitVec 32 := Scalar.muli v163 c1024_i32
  let c256_i32 : BitVec 32 := 256#32
  let v176 : BitVec 32 := Scalar.addi v164 c256_i32
  v176
def k0_mult3 (k0_t1 : Fin k0_t1_loop.trips) : BitVec 32 :=
  let c0_i32_65 : BitVec 32 := 0#32
  let c0_i32_60 : BitVec 32 := 0#32
  let c1_i32_62 : BitVec 32 := 1#32
  let arg15 : BitVec 32 := Scf.iv c0_i32_60 c1_i32_62 k0_t1
  let c1_i32_64 : BitVec 32 := 1#32
  let v162 : BitVec 32 := Scalar.muli arg15 c1_i32_64
  let v163 : BitVec 32 := Scalar.addi c0_i32_65 v162
  let c1024_i32 : BitVec 32 := 1024#32
  let v164 : BitVec 32 := Scalar.muli v163 c1024_i32
  let c512_i32 : BitVec 32 := 512#32
  let v187 : BitVec 32 := Scalar.addi v164 c512_i32
  v187
def k0_mult4 (k0_t1 : Fin k0_t1_loop.trips) : BitVec 32 :=
  let c0_i32_65 : BitVec 32 := 0#32
  let c0_i32_60 : BitVec 32 := 0#32
  let c1_i32_62 : BitVec 32 := 1#32
  let arg15 : BitVec 32 := Scf.iv c0_i32_60 c1_i32_62 k0_t1
  let c1_i32_64 : BitVec 32 := 1#32
  let v162 : BitVec 32 := Scalar.muli arg15 c1_i32_64
  let v163 : BitVec 32 := Scalar.addi c0_i32_65 v162
  let c1024_i32 : BitVec 32 := 1024#32
  let v164 : BitVec 32 := Scalar.muli v163 c1024_i32
  let c768_i32 : BitVec 32 := 768#32
  let v198 : BitVec 32 := Scalar.addi v164 c768_i32
  v198
def k0_mult5 (k0_t1 : Fin k0_t1_loop.trips) : BitVec 32 :=
  let c0_i32_65 : BitVec 32 := 0#32
  let c0_i32_60 : BitVec 32 := 0#32
  let c1_i32_62 : BitVec 32 := 1#32
  let arg15 : BitVec 32 := Scf.iv c0_i32_60 c1_i32_62 k0_t1
  let c1_i32_64 : BitVec 32 := 1#32
  let v162 : BitVec 32 := Scalar.muli arg15 c1_i32_64
  let v163 : BitVec 32 := Scalar.addi c0_i32_65 v162
  let c1024_i32 : BitVec 32 := 1024#32
  let v164 : BitVec 32 := Scalar.muli v163 c1024_i32
  let c0_i32_88 : BitVec 32 := 0#32
  let v268 : BitVec 32 := Scalar.addi v164 c0_i32_88
  v268
def k0_mult6 (k0_t1 : Fin k0_t1_loop.trips) : BitVec 32 :=
  let c0_i32_65 : BitVec 32 := 0#32
  let c0_i32_60 : BitVec 32 := 0#32
  let c1_i32_62 : BitVec 32 := 1#32
  let arg15 : BitVec 32 := Scf.iv c0_i32_60 c1_i32_62 k0_t1
  let c1_i32_64 : BitVec 32 := 1#32
  let v162 : BitVec 32 := Scalar.muli arg15 c1_i32_64
  let v163 : BitVec 32 := Scalar.addi c0_i32_65 v162
  let c1024_i32 : BitVec 32 := 1024#32
  let v164 : BitVec 32 := Scalar.muli v163 c1024_i32
  let c256_i32_94 : BitVec 32 := 256#32
  let v286 : BitVec 32 := Scalar.addi v164 c256_i32_94
  v286
def k0_mult7 (k0_t1 : Fin k0_t1_loop.trips) : BitVec 32 :=
  let c0_i32_65 : BitVec 32 := 0#32
  let c0_i32_60 : BitVec 32 := 0#32
  let c1_i32_62 : BitVec 32 := 1#32
  let arg15 : BitVec 32 := Scf.iv c0_i32_60 c1_i32_62 k0_t1
  let c1_i32_64 : BitVec 32 := 1#32
  let v162 : BitVec 32 := Scalar.muli arg15 c1_i32_64
  let v163 : BitVec 32 := Scalar.addi c0_i32_65 v162
  let c1024_i32 : BitVec 32 := 1024#32
  let v164 : BitVec 32 := Scalar.muli v163 c1024_i32
  let c512_i32_100 : BitVec 32 := 512#32
  let v304 : BitVec 32 := Scalar.addi v164 c512_i32_100
  v304
def k0_mult8 (k0_t1 : Fin k0_t1_loop.trips) : BitVec 32 :=
  let c0_i32_65 : BitVec 32 := 0#32
  let c0_i32_60 : BitVec 32 := 0#32
  let c1_i32_62 : BitVec 32 := 1#32
  let arg15 : BitVec 32 := Scf.iv c0_i32_60 c1_i32_62 k0_t1
  let c1_i32_64 : BitVec 32 := 1#32
  let v162 : BitVec 32 := Scalar.muli arg15 c1_i32_64
  let v163 : BitVec 32 := Scalar.addi c0_i32_65 v162
  let c1024_i32 : BitVec 32 := 1024#32
  let v164 : BitVec 32 := Scalar.muli v163 c1024_i32
  let c768_i32_106 : BitVec 32 := 768#32
  let v322 : BitVec 32 := Scalar.addi v164 c768_i32_106
  v322
@[reducible] def k0_t2_loop : Scf.Loop 32 :=
  let c0_i32_111 : BitVec 32 := 0#32
  let c8_i32 : BitVec 32 := 8#32
  let v337 : BitVec 32 := Scalar.addi c0_i32_111 c8_i32
  let c1_i32_112 : BitVec 32 := 1#32
  ⟨c0_i32_111, v337, c1_i32_112⟩
@[reducible] def k0_t3_loop : Scf.Loop 32 :=
  let c0_i32_116 : BitVec 32 := 0#32
  let c8_i32_117 : BitVec 32 := 8#32
  let v340 : BitVec 32 := Scalar.addi c0_i32_116 c8_i32_117
  let c1_i32_118 : BitVec 32 := 1#32
  ⟨c0_i32_116, v340, c1_i32_118⟩
def k0_off3 (k0_t2 : Fin k0_t2_loop.trips) (k0_t3 : Fin k0_t3_loop.trips) : Fin 2 → Nat :=
  let c8_i32_122 : BitVec 32 := 8#32
  let c0_i32_121 : BitVec 32 := 0#32
  let c0_i32_116 : BitVec 32 := 0#32
  let c1_i32_118 : BitVec 32 := 1#32
  let arg17 : BitVec 32 := Scf.iv c0_i32_116 c1_i32_118 k0_t3
  let c1_i32_120 : BitVec 32 := 1#32
  let v341 : BitVec 32 := Scalar.muli arg17 c1_i32_120
  let v342 : BitVec 32 := Scalar.addi c0_i32_121 v341
  let c16_i32 : BitVec 32 := 16#32
  let v343 : BitVec 32 := Scalar.muli v342 c16_i32
  let v344 : BitVec 32 := Scalar.muli c8_i32_122 v343
  let c0_i32_115 : BitVec 32 := 0#32
  let c0_i32_111 : BitVec 32 := 0#32
  let c1_i32_112 : BitVec 32 := 1#32
  let arg16 : BitVec 32 := Scf.iv c0_i32_111 c1_i32_112 k0_t2
  let c1_i32_114 : BitVec 32 := 1#32
  let v338 : BitVec 32 := Scalar.muli arg16 c1_i32_114
  let v339 : BitVec 32 := Scalar.addi c0_i32_115 v338
  let v345 : BitVec 32 := Scalar.addi v344 v339
  let v346 : Index := Scalar.indexCast v345
  let c0_123 : Index := 0#32
  ![v346.toNat, 0]
def k0_off4 (k0_t2 : Fin k0_t2_loop.trips) (k0_t3 : Fin k0_t3_loop.trips) : Fin 2 → Nat :=
  let c8_i32_124 : BitVec 32 := 8#32
  let c0_i32_121 : BitVec 32 := 0#32
  let c0_i32_116 : BitVec 32 := 0#32
  let c1_i32_118 : BitVec 32 := 1#32
  let arg17 : BitVec 32 := Scf.iv c0_i32_116 c1_i32_118 k0_t3
  let c1_i32_120 : BitVec 32 := 1#32
  let v341 : BitVec 32 := Scalar.muli arg17 c1_i32_120
  let v342 : BitVec 32 := Scalar.addi c0_i32_121 v341
  let c16_i32 : BitVec 32 := 16#32
  let v343 : BitVec 32 := Scalar.muli v342 c16_i32
  let v348 : BitVec 32 := Scalar.muli c8_i32_124 v343
  let c8_i32_125 : BitVec 32 := 8#32
  let v349 : BitVec 32 := Scalar.addi v348 c8_i32_125
  let c0_i32_115 : BitVec 32 := 0#32
  let c0_i32_111 : BitVec 32 := 0#32
  let c1_i32_112 : BitVec 32 := 1#32
  let arg16 : BitVec 32 := Scf.iv c0_i32_111 c1_i32_112 k0_t2
  let c1_i32_114 : BitVec 32 := 1#32
  let v338 : BitVec 32 := Scalar.muli arg16 c1_i32_114
  let v339 : BitVec 32 := Scalar.addi c0_i32_115 v338
  let v350 : BitVec 32 := Scalar.addi v349 v339
  let v351 : Index := Scalar.indexCast v350
  let c0_126 : Index := 0#32
  ![v351.toNat, 0]
def k0_mult9 (k0_t1 : Fin k0_t1_loop.trips) (k0_t2 : Fin k0_t2_loop.trips) (k0_t3 : Fin k0_t3_loop.trips) : BitVec 32 :=
  let c0_i32_65 : BitVec 32 := 0#32
  let c0_i32_60 : BitVec 32 := 0#32
  let c1_i32_62 : BitVec 32 := 1#32
  let arg15 : BitVec 32 := Scf.iv c0_i32_60 c1_i32_62 k0_t1
  let c1_i32_64 : BitVec 32 := 1#32
  let v162 : BitVec 32 := Scalar.muli arg15 c1_i32_64
  let v163 : BitVec 32 := Scalar.addi c0_i32_65 v162
  let c1024_i32 : BitVec 32 := 1024#32
  let v164 : BitVec 32 := Scalar.muli v163 c1024_i32
  let c0_i32_115 : BitVec 32 := 0#32
  let c0_i32_111 : BitVec 32 := 0#32
  let c1_i32_112 : BitVec 32 := 1#32
  let arg16 : BitVec 32 := Scf.iv c0_i32_111 c1_i32_112 k0_t2
  let c1_i32_114 : BitVec 32 := 1#32
  let v338 : BitVec 32 := Scalar.muli arg16 c1_i32_114
  let v339 : BitVec 32 := Scalar.addi c0_i32_115 v338
  let c128_i32 : BitVec 32 := 128#32
  let v354 : BitVec 32 := Scalar.muli v339 c128_i32
  let v355 : BitVec 32 := Scalar.addi v164 v354
  let c0_i32_121 : BitVec 32 := 0#32
  let c0_i32_116 : BitVec 32 := 0#32
  let c1_i32_118 : BitVec 32 := 1#32
  let arg17 : BitVec 32 := Scf.iv c0_i32_116 c1_i32_118 k0_t3
  let c1_i32_120 : BitVec 32 := 1#32
  let v341 : BitVec 32 := Scalar.muli arg17 c1_i32_120
  let v342 : BitVec 32 := Scalar.addi c0_i32_121 v341
  let c16_i32 : BitVec 32 := 16#32
  let v343 : BitVec 32 := Scalar.muli v342 c16_i32
  let v356 : BitVec 32 := Scalar.addi v355 v343
  v356
def k0_off5 (k0_t1 : Fin k0_t1_loop.trips) (k0_t2 : Fin k0_t2_loop.trips) (k0_t3 : Fin k0_t3_loop.trips) : Fin 2 → Nat :=
  let c0_i32_65 : BitVec 32 := 0#32
  let c0_i32_60 : BitVec 32 := 0#32
  let c1_i32_62 : BitVec 32 := 1#32
  let arg15 : BitVec 32 := Scf.iv c0_i32_60 c1_i32_62 k0_t1
  let c1_i32_64 : BitVec 32 := 1#32
  let v162 : BitVec 32 := Scalar.muli arg15 c1_i32_64
  let v163 : BitVec 32 := Scalar.addi c0_i32_65 v162
  let c1024_i32 : BitVec 32 := 1024#32
  let v164 : BitVec 32 := Scalar.muli v163 c1024_i32
  let c0_i32_115 : BitVec 32 := 0#32
  let c0_i32_111 : BitVec 32 := 0#32
  let c1_i32_112 : BitVec 32 := 1#32
  let arg16 : BitVec 32 := Scf.iv c0_i32_111 c1_i32_112 k0_t2
  let c1_i32_114 : BitVec 32 := 1#32
  let v338 : BitVec 32 := Scalar.muli arg16 c1_i32_114
  let v339 : BitVec 32 := Scalar.addi c0_i32_115 v338
  let c128_i32 : BitVec 32 := 128#32
  let v354 : BitVec 32 := Scalar.muli v339 c128_i32
  let v355 : BitVec 32 := Scalar.addi v164 v354
  let c0_i32_121 : BitVec 32 := 0#32
  let c0_i32_116 : BitVec 32 := 0#32
  let c1_i32_118 : BitVec 32 := 1#32
  let arg17 : BitVec 32 := Scf.iv c0_i32_116 c1_i32_118 k0_t3
  let c1_i32_120 : BitVec 32 := 1#32
  let v341 : BitVec 32 := Scalar.muli arg17 c1_i32_120
  let v342 : BitVec 32 := Scalar.addi c0_i32_121 v341
  let c16_i32 : BitVec 32 := 16#32
  let v343 : BitVec 32 := Scalar.muli v342 c16_i32
  let v356 : BitVec 32 := Scalar.addi v355 v343
  let v357 : BitVec 32 := v356
  let v359 : Index := Scalar.indexCast v357
  let c0_127 : Index := 0#32
  ![v359.toNat, 0]
@[reducible] def k0_t4_loop : Scf.Loop 32 :=
  let c0_i32_14 : BitVec 32 := 0#32
  let c4_i32 : BitVec 32 := 4#32
  let v37 : BitVec 32 := Scalar.addi c0_i32_14 c4_i32
  let c1_i32 : BitVec 32 := 1#32
  ⟨c0_i32_14, v37, c1_i32⟩
@[reducible] def k0_t5_loop : Scf.Loop 32 :=
  let c0_i32_53 : BitVec 32 := 0#32
  let c16_i32 : BitVec 32 := 16#32
  let v140 : BitVec 32 := Scalar.addi c0_i32_53 c16_i32
  let c1_i32_54 : BitVec 32 := 1#32
  ⟨c0_i32_53, v140, c1_i32_54⟩
def k0_mult10 (k0_t4 : Fin k0_t4_loop.trips) (k0_t5 : Fin k0_t5_loop.trips) : BitVec 32 :=
  let c0_i32_52 : BitVec 32 := 0#32
  let c0_i32_14 : BitVec 32 := 0#32
  let c1_i32 : BitVec 32 := 1#32
  let arg15 : BitVec 32 := Scf.iv c0_i32_14 c1_i32 k0_t4
  let c1_i32_51 : BitVec 32 := 1#32
  let v137 : BitVec 32 := Scalar.muli arg15 c1_i32_51
  let v138 : BitVec 32 := Scalar.addi c0_i32_52 v137
  let c256_i32 : BitVec 32 := 256#32
  let v139 : BitVec 32 := Scalar.muli v138 c256_i32
  let c0_i32_236 : BitVec 32 := 0#32
  let c0_i32_53 : BitVec 32 := 0#32
  let c1_i32_54 : BitVec 32 := 1#32
  let arg16 : BitVec 32 := Scf.iv c0_i32_53 c1_i32_54 k0_t5
  let c1_i32_235 : BitVec 32 := 1#32
  let v297 : BitVec 32 := Scalar.muli arg16 c1_i32_235
  let v298 : BitVec 32 := Scalar.addi c0_i32_236 v297
  let c16_i32_237 : BitVec 32 := 16#32
  let v299 : BitVec 32 := Scalar.muli v298 c16_i32_237
  let v300 : BitVec 32 := Scalar.addi v139 v299
  v300
def k0_off6 (k0_t4 : Fin k0_t4_loop.trips) (k0_t5 : Fin k0_t5_loop.trips) : Fin 2 → Nat :=
  let c0_i32_52 : BitVec 32 := 0#32
  let c0_i32_14 : BitVec 32 := 0#32
  let c1_i32 : BitVec 32 := 1#32
  let arg15 : BitVec 32 := Scf.iv c0_i32_14 c1_i32 k0_t4
  let c1_i32_51 : BitVec 32 := 1#32
  let v137 : BitVec 32 := Scalar.muli arg15 c1_i32_51
  let v138 : BitVec 32 := Scalar.addi c0_i32_52 v137
  let c256_i32 : BitVec 32 := 256#32
  let v139 : BitVec 32 := Scalar.muli v138 c256_i32
  let c0_i32_236 : BitVec 32 := 0#32
  let c0_i32_53 : BitVec 32 := 0#32
  let c1_i32_54 : BitVec 32 := 1#32
  let arg16 : BitVec 32 := Scf.iv c0_i32_53 c1_i32_54 k0_t5
  let c1_i32_235 : BitVec 32 := 1#32
  let v297 : BitVec 32 := Scalar.muli arg16 c1_i32_235
  let v298 : BitVec 32 := Scalar.addi c0_i32_236 v297
  let c16_i32_237 : BitVec 32 := 16#32
  let v299 : BitVec 32 := Scalar.muli v298 c16_i32_237
  let v300 : BitVec 32 := Scalar.addi v139 v299
  let v301 : BitVec 32 := v300
  let v302 : Index := Scalar.indexCast v301
  let c0_238 : Index := 0#32
  ![v302.toNat, 0]
def k0_off7 (k0_t4 : Fin k0_t4_loop.trips) (k0_t5 : Fin k0_t5_loop.trips) : Fin 3 → Nat :=
  let c0_242 : Index := 0#32
  let c0_i32_52 : BitVec 32 := 0#32
  let c0_i32_14 : BitVec 32 := 0#32
  let c1_i32 : BitVec 32 := 1#32
  let arg15 : BitVec 32 := Scf.iv c0_i32_14 c1_i32 k0_t4
  let c1_i32_51 : BitVec 32 := 1#32
  let v137 : BitVec 32 := Scalar.muli arg15 c1_i32_51
  let v138 : BitVec 32 := Scalar.addi c0_i32_52 v137
  let c256_i32 : BitVec 32 := 256#32
  let v139 : BitVec 32 := Scalar.muli v138 c256_i32
  let c0_i32_236 : BitVec 32 := 0#32
  let c0_i32_53 : BitVec 32 := 0#32
  let c1_i32_54 : BitVec 32 := 1#32
  let arg16 : BitVec 32 := Scf.iv c0_i32_53 c1_i32_54 k0_t5
  let c1_i32_235 : BitVec 32 := 1#32
  let v297 : BitVec 32 := Scalar.muli arg16 c1_i32_235
  let v298 : BitVec 32 := Scalar.addi c0_i32_236 v297
  let c16_i32_237 : BitVec 32 := 16#32
  let v299 : BitVec 32 := Scalar.muli v298 c16_i32_237
  let v300 : BitVec 32 := Scalar.addi v139 v299
  let v301 : BitVec 32 := v300
  let v318 : Index := Scalar.indexCast v301
  let c0_243 : Index := 0#32
  ![0, v318.toNat, 0]
def k0_mult11 (k0_t5 : Fin k0_t5_loop.trips) : BitVec 32 :=
  let c0_i32_236 : BitVec 32 := 0#32
  let c0_i32_53 : BitVec 32 := 0#32
  let c1_i32_54 : BitVec 32 := 1#32
  let arg16 : BitVec 32 := Scf.iv c0_i32_53 c1_i32_54 k0_t5
  let c1_i32_235 : BitVec 32 := 1#32
  let v297 : BitVec 32 := Scalar.muli arg16 c1_i32_235
  let v298 : BitVec 32 := Scalar.addi c0_i32_236 v297
  let c16_i32_237 : BitVec 32 := 16#32
  let v299 : BitVec 32 := Scalar.muli v298 c16_i32_237
  v299
def k0_off8 (k0_t5 : Fin k0_t5_loop.trips) : Fin 4 → Nat :=
  let c0_259 : Index := 0#32
  let c0_260 : Index := 0#32
  let c0_i32_236 : BitVec 32 := 0#32
  let c0_i32_53 : BitVec 32 := 0#32
  let c1_i32_54 : BitVec 32 := 1#32
  let arg16 : BitVec 32 := Scf.iv c0_i32_53 c1_i32_54 k0_t5
  let c1_i32_235 : BitVec 32 := 1#32
  let v297 : BitVec 32 := Scalar.muli arg16 c1_i32_235
  let v298 : BitVec 32 := Scalar.addi c0_i32_236 v297
  let c16_i32_237 : BitVec 32 := 16#32
  let v299 : BitVec 32 := Scalar.muli v298 c16_i32_237
  let v370 : BitVec 32 := v299
  let v371 : Index := Scalar.indexCast v370
  let c0_261 : Index := 0#32
  ![0, 0, v371.toNat, 0]
def k0_mult12 (k0_t5 : Fin k0_t5_loop.trips) : BitVec 32 :=
  let c0_i32_236 : BitVec 32 := 0#32
  let c0_i32_53 : BitVec 32 := 0#32
  let c1_i32_54 : BitVec 32 := 1#32
  let arg16 : BitVec 32 := Scf.iv c0_i32_53 c1_i32_54 k0_t5
  let c1_i32_235 : BitVec 32 := 1#32
  let v297 : BitVec 32 := Scalar.muli arg16 c1_i32_235
  let v298 : BitVec 32 := Scalar.addi c0_i32_236 v297
  let c16_i32_237 : BitVec 32 := 16#32
  let v299 : BitVec 32 := Scalar.muli v298 c16_i32_237
  v299
def k0_off9 (k0_t5 : Fin k0_t5_loop.trips) : Fin 4 → Nat :=
  let c0_283 : Index := 0#32
  let c1_284 : Index := 1#32
  let c0_i32_236 : BitVec 32 := 0#32
  let c0_i32_53 : BitVec 32 := 0#32
  let c1_i32_54 : BitVec 32 := 1#32
  let arg16 : BitVec 32 := Scf.iv c0_i32_53 c1_i32_54 k0_t5
  let c1_i32_235 : BitVec 32 := 1#32
  let v297 : BitVec 32 := Scalar.muli arg16 c1_i32_235
  let v298 : BitVec 32 := Scalar.addi c0_i32_236 v297
  let c16_i32_237 : BitVec 32 := 16#32
  let v299 : BitVec 32 := Scalar.muli v298 c16_i32_237
  let v428 : BitVec 32 := v299
  let v429 : Index := Scalar.indexCast v428
  let c0_285 : Index := 0#32
  ![0, 1, v429.toNat, 0]
def k0_mult13 (k0_t5 : Fin k0_t5_loop.trips) : BitVec 32 :=
  let c0_i32_236 : BitVec 32 := 0#32
  let c0_i32_53 : BitVec 32 := 0#32
  let c1_i32_54 : BitVec 32 := 1#32
  let arg16 : BitVec 32 := Scf.iv c0_i32_53 c1_i32_54 k0_t5
  let c1_i32_235 : BitVec 32 := 1#32
  let v297 : BitVec 32 := Scalar.muli arg16 c1_i32_235
  let v298 : BitVec 32 := Scalar.addi c0_i32_236 v297
  let c16_i32_237 : BitVec 32 := 16#32
  let v299 : BitVec 32 := Scalar.muli v298 c16_i32_237
  v299
def k0_off10 (k0_t5 : Fin k0_t5_loop.trips) : Fin 4 → Nat :=
  let c0_308 : Index := 0#32
  let c2_309 : Index := 2#32
  let c0_i32_236 : BitVec 32 := 0#32
  let c0_i32_53 : BitVec 32 := 0#32
  let c1_i32_54 : BitVec 32 := 1#32
  let arg16 : BitVec 32 := Scf.iv c0_i32_53 c1_i32_54 k0_t5
  let c1_i32_235 : BitVec 32 := 1#32
  let v297 : BitVec 32 := Scalar.muli arg16 c1_i32_235
  let v298 : BitVec 32 := Scalar.addi c0_i32_236 v297
  let c16_i32_237 : BitVec 32 := 16#32
  let v299 : BitVec 32 := Scalar.muli v298 c16_i32_237
  let v486 : BitVec 32 := v299
  let v487 : Index := Scalar.indexCast v486
  let c0_310 : Index := 0#32
  ![0, 2, v487.toNat, 0]
def k0_mult14 (k0_t5 : Fin k0_t5_loop.trips) : BitVec 32 :=
  let c0_i32_236 : BitVec 32 := 0#32
  let c0_i32_53 : BitVec 32 := 0#32
  let c1_i32_54 : BitVec 32 := 1#32
  let arg16 : BitVec 32 := Scf.iv c0_i32_53 c1_i32_54 k0_t5
  let c1_i32_235 : BitVec 32 := 1#32
  let v297 : BitVec 32 := Scalar.muli arg16 c1_i32_235
  let v298 : BitVec 32 := Scalar.addi c0_i32_236 v297
  let c16_i32_237 : BitVec 32 := 16#32
  let v299 : BitVec 32 := Scalar.muli v298 c16_i32_237
  v299
def k0_off11 (k0_t5 : Fin k0_t5_loop.trips) : Fin 4 → Nat :=
  let c0_332 : Index := 0#32
  let c3_333 : Index := 3#32
  let c0_i32_236 : BitVec 32 := 0#32
  let c0_i32_53 : BitVec 32 := 0#32
  let c1_i32_54 : BitVec 32 := 1#32
  let arg16 : BitVec 32 := Scf.iv c0_i32_53 c1_i32_54 k0_t5
  let c1_i32_235 : BitVec 32 := 1#32
  let v297 : BitVec 32 := Scalar.muli arg16 c1_i32_235
  let v298 : BitVec 32 := Scalar.addi c0_i32_236 v297
  let c16_i32_237 : BitVec 32 := 16#32
  let v299 : BitVec 32 := Scalar.muli v298 c16_i32_237
  let v544 : BitVec 32 := v299
  let v545 : Index := Scalar.indexCast v544
  let c0_334 : Index := 0#32
  ![0, 3, v545.toNat, 0]
def k0_mult15 (k0_t5 : Fin k0_t5_loop.trips) : BitVec 32 :=
  let c0_i32_236 : BitVec 32 := 0#32
  let c0_i32_53 : BitVec 32 := 0#32
  let c1_i32_54 : BitVec 32 := 1#32
  let arg16 : BitVec 32 := Scf.iv c0_i32_53 c1_i32_54 k0_t5
  let c1_i32_235 : BitVec 32 := 1#32
  let v297 : BitVec 32 := Scalar.muli arg16 c1_i32_235
  let v298 : BitVec 32 := Scalar.addi c0_i32_236 v297
  let c16_i32_237 : BitVec 32 := 16#32
  let v299 : BitVec 32 := Scalar.muli v298 c16_i32_237
  v299
def k0_off12 (k0_t5 : Fin k0_t5_loop.trips) : Fin 4 → Nat :=
  let c0_356 : Index := 0#32
  let c4_357 : Index := 4#32
  let c0_i32_236 : BitVec 32 := 0#32
  let c0_i32_53 : BitVec 32 := 0#32
  let c1_i32_54 : BitVec 32 := 1#32
  let arg16 : BitVec 32 := Scf.iv c0_i32_53 c1_i32_54 k0_t5
  let c1_i32_235 : BitVec 32 := 1#32
  let v297 : BitVec 32 := Scalar.muli arg16 c1_i32_235
  let v298 : BitVec 32 := Scalar.addi c0_i32_236 v297
  let c16_i32_237 : BitVec 32 := 16#32
  let v299 : BitVec 32 := Scalar.muli v298 c16_i32_237
  let v602 : BitVec 32 := v299
  let v603 : Index := Scalar.indexCast v602
  let c0_358 : Index := 0#32
  ![0, 4, v603.toNat, 0]
def k0_mult16 (k0_t5 : Fin k0_t5_loop.trips) : BitVec 32 :=
  let c0_i32_236 : BitVec 32 := 0#32
  let c0_i32_53 : BitVec 32 := 0#32
  let c1_i32_54 : BitVec 32 := 1#32
  let arg16 : BitVec 32 := Scf.iv c0_i32_53 c1_i32_54 k0_t5
  let c1_i32_235 : BitVec 32 := 1#32
  let v297 : BitVec 32 := Scalar.muli arg16 c1_i32_235
  let v298 : BitVec 32 := Scalar.addi c0_i32_236 v297
  let c16_i32_237 : BitVec 32 := 16#32
  let v299 : BitVec 32 := Scalar.muli v298 c16_i32_237
  v299
def k0_off13 (k0_t5 : Fin k0_t5_loop.trips) : Fin 4 → Nat :=
  let c0_380 : Index := 0#32
  let c5_381 : Index := 5#32
  let c0_i32_236 : BitVec 32 := 0#32
  let c0_i32_53 : BitVec 32 := 0#32
  let c1_i32_54 : BitVec 32 := 1#32
  let arg16 : BitVec 32 := Scf.iv c0_i32_53 c1_i32_54 k0_t5
  let c1_i32_235 : BitVec 32 := 1#32
  let v297 : BitVec 32 := Scalar.muli arg16 c1_i32_235
  let v298 : BitVec 32 := Scalar.addi c0_i32_236 v297
  let c16_i32_237 : BitVec 32 := 16#32
  let v299 : BitVec 32 := Scalar.muli v298 c16_i32_237
  let v660 : BitVec 32 := v299
  let v661 : Index := Scalar.indexCast v660
  let c0_382 : Index := 0#32
  ![0, 5, v661.toNat, 0]
def k0_mult17 (k0_t5 : Fin k0_t5_loop.trips) : BitVec 32 :=
  let c0_i32_236 : BitVec 32 := 0#32
  let c0_i32_53 : BitVec 32 := 0#32
  let c1_i32_54 : BitVec 32 := 1#32
  let arg16 : BitVec 32 := Scf.iv c0_i32_53 c1_i32_54 k0_t5
  let c1_i32_235 : BitVec 32 := 1#32
  let v297 : BitVec 32 := Scalar.muli arg16 c1_i32_235
  let v298 : BitVec 32 := Scalar.addi c0_i32_236 v297
  let c16_i32_237 : BitVec 32 := 16#32
  let v299 : BitVec 32 := Scalar.muli v298 c16_i32_237
  v299
def k0_off14 (k0_t5 : Fin k0_t5_loop.trips) : Fin 4 → Nat :=
  let c0_404 : Index := 0#32
  let c6_405 : Index := 6#32
  let c0_i32_236 : BitVec 32 := 0#32
  let c0_i32_53 : BitVec 32 := 0#32
  let c1_i32_54 : BitVec 32 := 1#32
  let arg16 : BitVec 32 := Scf.iv c0_i32_53 c1_i32_54 k0_t5
  let c1_i32_235 : BitVec 32 := 1#32
  let v297 : BitVec 32 := Scalar.muli arg16 c1_i32_235
  let v298 : BitVec 32 := Scalar.addi c0_i32_236 v297
  let c16_i32_237 : BitVec 32 := 16#32
  let v299 : BitVec 32 := Scalar.muli v298 c16_i32_237
  let v718 : BitVec 32 := v299
  let v719 : Index := Scalar.indexCast v718
  let c0_406 : Index := 0#32
  ![0, 6, v719.toNat, 0]
def k0_mult18 (k0_t5 : Fin k0_t5_loop.trips) : BitVec 32 :=
  let c0_i32_236 : BitVec 32 := 0#32
  let c0_i32_53 : BitVec 32 := 0#32
  let c1_i32_54 : BitVec 32 := 1#32
  let arg16 : BitVec 32 := Scf.iv c0_i32_53 c1_i32_54 k0_t5
  let c1_i32_235 : BitVec 32 := 1#32
  let v297 : BitVec 32 := Scalar.muli arg16 c1_i32_235
  let v298 : BitVec 32 := Scalar.addi c0_i32_236 v297
  let c16_i32_237 : BitVec 32 := 16#32
  let v299 : BitVec 32 := Scalar.muli v298 c16_i32_237
  v299
def k0_off15 (k0_t5 : Fin k0_t5_loop.trips) : Fin 4 → Nat :=
  let c0_428 : Index := 0#32
  let c7_429 : Index := 7#32
  let c0_i32_236 : BitVec 32 := 0#32
  let c0_i32_53 : BitVec 32 := 0#32
  let c1_i32_54 : BitVec 32 := 1#32
  let arg16 : BitVec 32 := Scf.iv c0_i32_53 c1_i32_54 k0_t5
  let c1_i32_235 : BitVec 32 := 1#32
  let v297 : BitVec 32 := Scalar.muli arg16 c1_i32_235
  let v298 : BitVec 32 := Scalar.addi c0_i32_236 v297
  let c16_i32_237 : BitVec 32 := 16#32
  let v299 : BitVec 32 := Scalar.muli v298 c16_i32_237
  let v776 : BitVec 32 := v299
  let v777 : Index := Scalar.indexCast v776
  let c0_430 : Index := 0#32
  ![0, 7, v777.toNat, 0]
def k0_mult19 (k0_t4 : Fin k0_t4_loop.trips) : BitVec 32 :=
  let c0_i32_52 : BitVec 32 := 0#32
  let c0_i32_14 : BitVec 32 := 0#32
  let c1_i32 : BitVec 32 := 1#32
  let arg15 : BitVec 32 := Scf.iv c0_i32_14 c1_i32 k0_t4
  let c1_i32_51 : BitVec 32 := 1#32
  let v137 : BitVec 32 := Scalar.muli arg15 c1_i32_51
  let v138 : BitVec 32 := Scalar.addi c0_i32_52 v137
  let c256_i32 : BitVec 32 := 256#32
  let v139 : BitVec 32 := Scalar.muli v138 c256_i32
  v139
def k0_off16 (k0_t4 : Fin k0_t4_loop.trips) : Fin 2 → Nat :=
  let c0_i32_52 : BitVec 32 := 0#32
  let c0_i32_14 : BitVec 32 := 0#32
  let c1_i32 : BitVec 32 := 1#32
  let arg15 : BitVec 32 := Scf.iv c0_i32_14 c1_i32 k0_t4
  let c1_i32_51 : BitVec 32 := 1#32
  let v137 : BitVec 32 := Scalar.muli arg15 c1_i32_51
  let v138 : BitVec 32 := Scalar.addi c0_i32_52 v137
  let c256_i32 : BitVec 32 := 256#32
  let v139 : BitVec 32 := Scalar.muli v138 c256_i32
  let v172 : BitVec 32 := v139
  let v173 : Index := Scalar.indexCast v172
  let c0_96 : Index := 0#32
  ![v173.toNat, 0]
@[reducible] def k0_t6_loop : Scf.Loop 32 :=
  let c0_i32_97 : BitVec 32 := 0#32
  let c16_i32_98 : BitVec 32 := 16#32
  let v177 : BitVec 32 := Scalar.addi c0_i32_97 c16_i32_98
  let c1_i32_99 : BitVec 32 := 1#32
  ⟨c0_i32_97, v177, c1_i32_99⟩
def k0_mult20 (k0_t4 : Fin k0_t4_loop.trips) (k0_t6 : Fin k0_t6_loop.trips) : BitVec 32 :=
  let c0_i32_52 : BitVec 32 := 0#32
  let c0_i32_14 : BitVec 32 := 0#32
  let c1_i32 : BitVec 32 := 1#32
  let arg15 : BitVec 32 := Scf.iv c0_i32_14 c1_i32 k0_t4
  let c1_i32_51 : BitVec 32 := 1#32
  let v137 : BitVec 32 := Scalar.muli arg15 c1_i32_51
  let v138 : BitVec 32 := Scalar.addi c0_i32_52 v137
  let c256_i32 : BitVec 32 := 256#32
  let v139 : BitVec 32 := Scalar.muli v138 c256_i32
  let c0_i32_236 : BitVec 32 := 0#32
  let c0_i32_97 : BitVec 32 := 0#32
  let c1_i32_99 : BitVec 32 := 1#32
  let arg16 : BitVec 32 := Scf.iv c0_i32_97 c1_i32_99 k0_t6
  let c1_i32_235 : BitVec 32 := 1#32
  let v297 : BitVec 32 := Scalar.muli arg16 c1_i32_235
  let v298 : BitVec 32 := Scalar.addi c0_i32_236 v297
  let c16_i32_237 : BitVec 32 := 16#32
  let v299 : BitVec 32 := Scalar.muli v298 c16_i32_237
  let v300 : BitVec 32 := Scalar.addi v139 v299
  v300
def k0_off17 (k0_t4 : Fin k0_t4_loop.trips) (k0_t6 : Fin k0_t6_loop.trips) : Fin 2 → Nat :=
  let c0_i32_52 : BitVec 32 := 0#32
  let c0_i32_14 : BitVec 32 := 0#32
  let c1_i32 : BitVec 32 := 1#32
  let arg15 : BitVec 32 := Scf.iv c0_i32_14 c1_i32 k0_t4
  let c1_i32_51 : BitVec 32 := 1#32
  let v137 : BitVec 32 := Scalar.muli arg15 c1_i32_51
  let v138 : BitVec 32 := Scalar.addi c0_i32_52 v137
  let c256_i32 : BitVec 32 := 256#32
  let v139 : BitVec 32 := Scalar.muli v138 c256_i32
  let c0_i32_236 : BitVec 32 := 0#32
  let c0_i32_97 : BitVec 32 := 0#32
  let c1_i32_99 : BitVec 32 := 1#32
  let arg16 : BitVec 32 := Scf.iv c0_i32_97 c1_i32_99 k0_t6
  let c1_i32_235 : BitVec 32 := 1#32
  let v297 : BitVec 32 := Scalar.muli arg16 c1_i32_235
  let v298 : BitVec 32 := Scalar.addi c0_i32_236 v297
  let c16_i32_237 : BitVec 32 := 16#32
  let v299 : BitVec 32 := Scalar.muli v298 c16_i32_237
  let v300 : BitVec 32 := Scalar.addi v139 v299
  let v301 : BitVec 32 := v300
  let v302 : Index := Scalar.indexCast v301
  let c128 : Index := 128#32
  ![v302.toNat, 128]
def k0_off18 (k0_t4 : Fin k0_t4_loop.trips) (k0_t6 : Fin k0_t6_loop.trips) : Fin 3 → Nat :=
  let c1_241 : Index := 1#32
  let c0_i32_52 : BitVec 32 := 0#32
  let c0_i32_14 : BitVec 32 := 0#32
  let c1_i32 : BitVec 32 := 1#32
  let arg15 : BitVec 32 := Scf.iv c0_i32_14 c1_i32 k0_t4
  let c1_i32_51 : BitVec 32 := 1#32
  let v137 : BitVec 32 := Scalar.muli arg15 c1_i32_51
  let v138 : BitVec 32 := Scalar.addi c0_i32_52 v137
  let c256_i32 : BitVec 32 := 256#32
  let v139 : BitVec 32 := Scalar.muli v138 c256_i32
  let c0_i32_236 : BitVec 32 := 0#32
  let c0_i32_97 : BitVec 32 := 0#32
  let c1_i32_99 : BitVec 32 := 1#32
  let arg16 : BitVec 32 := Scf.iv c0_i32_97 c1_i32_99 k0_t6
  let c1_i32_235 : BitVec 32 := 1#32
  let v297 : BitVec 32 := Scalar.muli arg16 c1_i32_235
  let v298 : BitVec 32 := Scalar.addi c0_i32_236 v297
  let c16_i32_237 : BitVec 32 := 16#32
  let v299 : BitVec 32 := Scalar.muli v298 c16_i32_237
  let v300 : BitVec 32 := Scalar.addi v139 v299
  let v301 : BitVec 32 := v300
  let v318 : Index := Scalar.indexCast v301
  let c0_242 : Index := 0#32
  ![1, v318.toNat, 0]
def k0_mult21 (k0_t6 : Fin k0_t6_loop.trips) : BitVec 32 :=
  let c0_i32_236 : BitVec 32 := 0#32
  let c0_i32_97 : BitVec 32 := 0#32
  let c1_i32_99 : BitVec 32 := 1#32
  let arg16 : BitVec 32 := Scf.iv c0_i32_97 c1_i32_99 k0_t6
  let c1_i32_235 : BitVec 32 := 1#32
  let v297 : BitVec 32 := Scalar.muli arg16 c1_i32_235
  let v298 : BitVec 32 := Scalar.addi c0_i32_236 v297
  let c16_i32_237 : BitVec 32 := 16#32
  let v299 : BitVec 32 := Scalar.muli v298 c16_i32_237
  v299
def k0_off19 (k0_t6 : Fin k0_t6_loop.trips) : Fin 4 → Nat :=
  let c1_258 : Index := 1#32
  let c0_259 : Index := 0#32
  let c0_i32_236 : BitVec 32 := 0#32
  let c0_i32_97 : BitVec 32 := 0#32
  let c1_i32_99 : BitVec 32 := 1#32
  let arg16 : BitVec 32 := Scf.iv c0_i32_97 c1_i32_99 k0_t6
  let c1_i32_235 : BitVec 32 := 1#32
  let v297 : BitVec 32 := Scalar.muli arg16 c1_i32_235
  let v298 : BitVec 32 := Scalar.addi c0_i32_236 v297
  let c16_i32_237 : BitVec 32 := 16#32
  let v299 : BitVec 32 := Scalar.muli v298 c16_i32_237
  let v370 : BitVec 32 := v299
  let v371 : Index := Scalar.indexCast v370
  let c0_260 : Index := 0#32
  ![1, 0, v371.toNat, 0]
def k0_mult22 (k0_t6 : Fin k0_t6_loop.trips) : BitVec 32 :=
  let c0_i32_236 : BitVec 32 := 0#32
  let c0_i32_97 : BitVec 32 := 0#32
  let c1_i32_99 : BitVec 32 := 1#32
  let arg16 : BitVec 32 := Scf.iv c0_i32_97 c1_i32_99 k0_t6
  let c1_i32_235 : BitVec 32 := 1#32
  let v297 : BitVec 32 := Scalar.muli arg16 c1_i32_235
  let v298 : BitVec 32 := Scalar.addi c0_i32_236 v297
  let c16_i32_237 : BitVec 32 := 16#32
  let v299 : BitVec 32 := Scalar.muli v298 c16_i32_237
  v299
def k0_off20 (k0_t6 : Fin k0_t6_loop.trips) : Fin 4 → Nat :=
  let c1_282 : Index := 1#32
  let c1_283 : Index := 1#32
  let c0_i32_236 : BitVec 32 := 0#32
  let c0_i32_97 : BitVec 32 := 0#32
  let c1_i32_99 : BitVec 32 := 1#32
  let arg16 : BitVec 32 := Scf.iv c0_i32_97 c1_i32_99 k0_t6
  let c1_i32_235 : BitVec 32 := 1#32
  let v297 : BitVec 32 := Scalar.muli arg16 c1_i32_235
  let v298 : BitVec 32 := Scalar.addi c0_i32_236 v297
  let c16_i32_237 : BitVec 32 := 16#32
  let v299 : BitVec 32 := Scalar.muli v298 c16_i32_237
  let v428 : BitVec 32 := v299
  let v429 : Index := Scalar.indexCast v428
  let c0_284 : Index := 0#32
  ![1, 1, v429.toNat, 0]
def k0_mult23 (k0_t6 : Fin k0_t6_loop.trips) : BitVec 32 :=
  let c0_i32_236 : BitVec 32 := 0#32
  let c0_i32_97 : BitVec 32 := 0#32
  let c1_i32_99 : BitVec 32 := 1#32
  let arg16 : BitVec 32 := Scf.iv c0_i32_97 c1_i32_99 k0_t6
  let c1_i32_235 : BitVec 32 := 1#32
  let v297 : BitVec 32 := Scalar.muli arg16 c1_i32_235
  let v298 : BitVec 32 := Scalar.addi c0_i32_236 v297
  let c16_i32_237 : BitVec 32 := 16#32
  let v299 : BitVec 32 := Scalar.muli v298 c16_i32_237
  v299
def k0_off21 (k0_t6 : Fin k0_t6_loop.trips) : Fin 4 → Nat :=
  let c1_307 : Index := 1#32
  let c2_308 : Index := 2#32
  let c0_i32_236 : BitVec 32 := 0#32
  let c0_i32_97 : BitVec 32 := 0#32
  let c1_i32_99 : BitVec 32 := 1#32
  let arg16 : BitVec 32 := Scf.iv c0_i32_97 c1_i32_99 k0_t6
  let c1_i32_235 : BitVec 32 := 1#32
  let v297 : BitVec 32 := Scalar.muli arg16 c1_i32_235
  let v298 : BitVec 32 := Scalar.addi c0_i32_236 v297
  let c16_i32_237 : BitVec 32 := 16#32
  let v299 : BitVec 32 := Scalar.muli v298 c16_i32_237
  let v486 : BitVec 32 := v299
  let v487 : Index := Scalar.indexCast v486
  let c0_309 : Index := 0#32
  ![1, 2, v487.toNat, 0]
def k0_mult24 (k0_t6 : Fin k0_t6_loop.trips) : BitVec 32 :=
  let c0_i32_236 : BitVec 32 := 0#32
  let c0_i32_97 : BitVec 32 := 0#32
  let c1_i32_99 : BitVec 32 := 1#32
  let arg16 : BitVec 32 := Scf.iv c0_i32_97 c1_i32_99 k0_t6
  let c1_i32_235 : BitVec 32 := 1#32
  let v297 : BitVec 32 := Scalar.muli arg16 c1_i32_235
  let v298 : BitVec 32 := Scalar.addi c0_i32_236 v297
  let c16_i32_237 : BitVec 32 := 16#32
  let v299 : BitVec 32 := Scalar.muli v298 c16_i32_237
  v299
def k0_off22 (k0_t6 : Fin k0_t6_loop.trips) : Fin 4 → Nat :=
  let c1_331 : Index := 1#32
  let c3_332 : Index := 3#32
  let c0_i32_236 : BitVec 32 := 0#32
  let c0_i32_97 : BitVec 32 := 0#32
  let c1_i32_99 : BitVec 32 := 1#32
  let arg16 : BitVec 32 := Scf.iv c0_i32_97 c1_i32_99 k0_t6
  let c1_i32_235 : BitVec 32 := 1#32
  let v297 : BitVec 32 := Scalar.muli arg16 c1_i32_235
  let v298 : BitVec 32 := Scalar.addi c0_i32_236 v297
  let c16_i32_237 : BitVec 32 := 16#32
  let v299 : BitVec 32 := Scalar.muli v298 c16_i32_237
  let v544 : BitVec 32 := v299
  let v545 : Index := Scalar.indexCast v544
  let c0_333 : Index := 0#32
  ![1, 3, v545.toNat, 0]
def k0_mult25 (k0_t6 : Fin k0_t6_loop.trips) : BitVec 32 :=
  let c0_i32_236 : BitVec 32 := 0#32
  let c0_i32_97 : BitVec 32 := 0#32
  let c1_i32_99 : BitVec 32 := 1#32
  let arg16 : BitVec 32 := Scf.iv c0_i32_97 c1_i32_99 k0_t6
  let c1_i32_235 : BitVec 32 := 1#32
  let v297 : BitVec 32 := Scalar.muli arg16 c1_i32_235
  let v298 : BitVec 32 := Scalar.addi c0_i32_236 v297
  let c16_i32_237 : BitVec 32 := 16#32
  let v299 : BitVec 32 := Scalar.muli v298 c16_i32_237
  v299
def k0_off23 (k0_t6 : Fin k0_t6_loop.trips) : Fin 4 → Nat :=
  let c1_355 : Index := 1#32
  let c4_356 : Index := 4#32
  let c0_i32_236 : BitVec 32 := 0#32
  let c0_i32_97 : BitVec 32 := 0#32
  let c1_i32_99 : BitVec 32 := 1#32
  let arg16 : BitVec 32 := Scf.iv c0_i32_97 c1_i32_99 k0_t6
  let c1_i32_235 : BitVec 32 := 1#32
  let v297 : BitVec 32 := Scalar.muli arg16 c1_i32_235
  let v298 : BitVec 32 := Scalar.addi c0_i32_236 v297
  let c16_i32_237 : BitVec 32 := 16#32
  let v299 : BitVec 32 := Scalar.muli v298 c16_i32_237
  let v602 : BitVec 32 := v299
  let v603 : Index := Scalar.indexCast v602
  let c0_357 : Index := 0#32
  ![1, 4, v603.toNat, 0]
def k0_mult26 (k0_t6 : Fin k0_t6_loop.trips) : BitVec 32 :=
  let c0_i32_236 : BitVec 32 := 0#32
  let c0_i32_97 : BitVec 32 := 0#32
  let c1_i32_99 : BitVec 32 := 1#32
  let arg16 : BitVec 32 := Scf.iv c0_i32_97 c1_i32_99 k0_t6
  let c1_i32_235 : BitVec 32 := 1#32
  let v297 : BitVec 32 := Scalar.muli arg16 c1_i32_235
  let v298 : BitVec 32 := Scalar.addi c0_i32_236 v297
  let c16_i32_237 : BitVec 32 := 16#32
  let v299 : BitVec 32 := Scalar.muli v298 c16_i32_237
  v299
def k0_off24 (k0_t6 : Fin k0_t6_loop.trips) : Fin 4 → Nat :=
  let c1_379 : Index := 1#32
  let c5_380 : Index := 5#32
  let c0_i32_236 : BitVec 32 := 0#32
  let c0_i32_97 : BitVec 32 := 0#32
  let c1_i32_99 : BitVec 32 := 1#32
  let arg16 : BitVec 32 := Scf.iv c0_i32_97 c1_i32_99 k0_t6
  let c1_i32_235 : BitVec 32 := 1#32
  let v297 : BitVec 32 := Scalar.muli arg16 c1_i32_235
  let v298 : BitVec 32 := Scalar.addi c0_i32_236 v297
  let c16_i32_237 : BitVec 32 := 16#32
  let v299 : BitVec 32 := Scalar.muli v298 c16_i32_237
  let v660 : BitVec 32 := v299
  let v661 : Index := Scalar.indexCast v660
  let c0_381 : Index := 0#32
  ![1, 5, v661.toNat, 0]
def k0_mult27 (k0_t6 : Fin k0_t6_loop.trips) : BitVec 32 :=
  let c0_i32_236 : BitVec 32 := 0#32
  let c0_i32_97 : BitVec 32 := 0#32
  let c1_i32_99 : BitVec 32 := 1#32
  let arg16 : BitVec 32 := Scf.iv c0_i32_97 c1_i32_99 k0_t6
  let c1_i32_235 : BitVec 32 := 1#32
  let v297 : BitVec 32 := Scalar.muli arg16 c1_i32_235
  let v298 : BitVec 32 := Scalar.addi c0_i32_236 v297
  let c16_i32_237 : BitVec 32 := 16#32
  let v299 : BitVec 32 := Scalar.muli v298 c16_i32_237
  v299
def k0_off25 (k0_t6 : Fin k0_t6_loop.trips) : Fin 4 → Nat :=
  let c1_403 : Index := 1#32
  let c6_404 : Index := 6#32
  let c0_i32_236 : BitVec 32 := 0#32
  let c0_i32_97 : BitVec 32 := 0#32
  let c1_i32_99 : BitVec 32 := 1#32
  let arg16 : BitVec 32 := Scf.iv c0_i32_97 c1_i32_99 k0_t6
  let c1_i32_235 : BitVec 32 := 1#32
  let v297 : BitVec 32 := Scalar.muli arg16 c1_i32_235
  let v298 : BitVec 32 := Scalar.addi c0_i32_236 v297
  let c16_i32_237 : BitVec 32 := 16#32
  let v299 : BitVec 32 := Scalar.muli v298 c16_i32_237
  let v718 : BitVec 32 := v299
  let v719 : Index := Scalar.indexCast v718
  let c0_405 : Index := 0#32
  ![1, 6, v719.toNat, 0]
def k0_mult28 (k0_t6 : Fin k0_t6_loop.trips) : BitVec 32 :=
  let c0_i32_236 : BitVec 32 := 0#32
  let c0_i32_97 : BitVec 32 := 0#32
  let c1_i32_99 : BitVec 32 := 1#32
  let arg16 : BitVec 32 := Scf.iv c0_i32_97 c1_i32_99 k0_t6
  let c1_i32_235 : BitVec 32 := 1#32
  let v297 : BitVec 32 := Scalar.muli arg16 c1_i32_235
  let v298 : BitVec 32 := Scalar.addi c0_i32_236 v297
  let c16_i32_237 : BitVec 32 := 16#32
  let v299 : BitVec 32 := Scalar.muli v298 c16_i32_237
  v299
def k0_off26 (k0_t6 : Fin k0_t6_loop.trips) : Fin 4 → Nat :=
  let c1_427 : Index := 1#32
  let c7_428 : Index := 7#32
  let c0_i32_236 : BitVec 32 := 0#32
  let c0_i32_97 : BitVec 32 := 0#32
  let c1_i32_99 : BitVec 32 := 1#32
  let arg16 : BitVec 32 := Scf.iv c0_i32_97 c1_i32_99 k0_t6
  let c1_i32_235 : BitVec 32 := 1#32
  let v297 : BitVec 32 := Scalar.muli arg16 c1_i32_235
  let v298 : BitVec 32 := Scalar.addi c0_i32_236 v297
  let c16_i32_237 : BitVec 32 := 16#32
  let v299 : BitVec 32 := Scalar.muli v298 c16_i32_237
  let v776 : BitVec 32 := v299
  let v777 : Index := Scalar.indexCast v776
  let c0_429 : Index := 0#32
  ![1, 7, v777.toNat, 0]
def k0_mult29 (k0_t4 : Fin k0_t4_loop.trips) : BitVec 32 :=
  let c0_i32_52 : BitVec 32 := 0#32
  let c0_i32_14 : BitVec 32 := 0#32
  let c1_i32 : BitVec 32 := 1#32
  let arg15 : BitVec 32 := Scf.iv c0_i32_14 c1_i32 k0_t4
  let c1_i32_51 : BitVec 32 := 1#32
  let v137 : BitVec 32 := Scalar.muli arg15 c1_i32_51
  let v138 : BitVec 32 := Scalar.addi c0_i32_52 v137
  let c256_i32 : BitVec 32 := 256#32
  let v139 : BitVec 32 := Scalar.muli v138 c256_i32
  v139
@[reducible] def k0_t7_loop : Scf.Loop 32 :=
  let c0_i32_143 : BitVec 32 := 0#32
  let c16_i32_144 : BitVec 32 := 16#32
  let v217 : BitVec 32 := Scalar.addi c0_i32_143 c16_i32_144
  let c1_i32_145 : BitVec 32 := 1#32
  ⟨c0_i32_143, v217, c1_i32_145⟩
def k0_mult30 (k0_t4 : Fin k0_t4_loop.trips) (k0_t7 : Fin k0_t7_loop.trips) : BitVec 32 :=
  let c0_i32_52 : BitVec 32 := 0#32
  let c0_i32_14 : BitVec 32 := 0#32
  let c1_i32 : BitVec 32 := 1#32
  let arg15 : BitVec 32 := Scf.iv c0_i32_14 c1_i32 k0_t4
  let c1_i32_51 : BitVec 32 := 1#32
  let v137 : BitVec 32 := Scalar.muli arg15 c1_i32_51
  let v138 : BitVec 32 := Scalar.addi c0_i32_52 v137
  let c256_i32 : BitVec 32 := 256#32
  let v139 : BitVec 32 := Scalar.muli v138 c256_i32
  let c0_i32_236 : BitVec 32 := 0#32
  let c0_i32_143 : BitVec 32 := 0#32
  let c1_i32_145 : BitVec 32 := 1#32
  let arg16 : BitVec 32 := Scf.iv c0_i32_143 c1_i32_145 k0_t7
  let c1_i32_235 : BitVec 32 := 1#32
  let v297 : BitVec 32 := Scalar.muli arg16 c1_i32_235
  let v298 : BitVec 32 := Scalar.addi c0_i32_236 v297
  let c16_i32_237 : BitVec 32 := 16#32
  let v299 : BitVec 32 := Scalar.muli v298 c16_i32_237
  let v300 : BitVec 32 := Scalar.addi v139 v299
  v300
def k0_off27 (k0_t4 : Fin k0_t4_loop.trips) (k0_t7 : Fin k0_t7_loop.trips) : Fin 2 → Nat :=
  let c0_i32_52 : BitVec 32 := 0#32
  let c0_i32_14 : BitVec 32 := 0#32
  let c1_i32 : BitVec 32 := 1#32
  let arg15 : BitVec 32 := Scf.iv c0_i32_14 c1_i32 k0_t4
  let c1_i32_51 : BitVec 32 := 1#32
  let v137 : BitVec 32 := Scalar.muli arg15 c1_i32_51
  let v138 : BitVec 32 := Scalar.addi c0_i32_52 v137
  let c256_i32 : BitVec 32 := 256#32
  let v139 : BitVec 32 := Scalar.muli v138 c256_i32
  let c0_i32_236 : BitVec 32 := 0#32
  let c0_i32_143 : BitVec 32 := 0#32
  let c1_i32_145 : BitVec 32 := 1#32
  let arg16 : BitVec 32 := Scf.iv c0_i32_143 c1_i32_145 k0_t7
  let c1_i32_235 : BitVec 32 := 1#32
  let v297 : BitVec 32 := Scalar.muli arg16 c1_i32_235
  let v298 : BitVec 32 := Scalar.addi c0_i32_236 v297
  let c16_i32_237 : BitVec 32 := 16#32
  let v299 : BitVec 32 := Scalar.muli v298 c16_i32_237
  let v300 : BitVec 32 := Scalar.addi v139 v299
  let v301 : BitVec 32 := v300
  let v302 : Index := Scalar.indexCast v301
  let c256_238 : Index := 256#32
  ![v302.toNat, 256]
def k0_off28 (k0_t4 : Fin k0_t4_loop.trips) (k0_t7 : Fin k0_t7_loop.trips) : Fin 3 → Nat :=
  let c2_242 : Index := 2#32
  let c0_i32_52 : BitVec 32 := 0#32
  let c0_i32_14 : BitVec 32 := 0#32
  let c1_i32 : BitVec 32 := 1#32
  let arg15 : BitVec 32 := Scf.iv c0_i32_14 c1_i32 k0_t4
  let c1_i32_51 : BitVec 32 := 1#32
  let v137 : BitVec 32 := Scalar.muli arg15 c1_i32_51
  let v138 : BitVec 32 := Scalar.addi c0_i32_52 v137
  let c256_i32 : BitVec 32 := 256#32
  let v139 : BitVec 32 := Scalar.muli v138 c256_i32
  let c0_i32_236 : BitVec 32 := 0#32
  let c0_i32_143 : BitVec 32 := 0#32
  let c1_i32_145 : BitVec 32 := 1#32
  let arg16 : BitVec 32 := Scf.iv c0_i32_143 c1_i32_145 k0_t7
  let c1_i32_235 : BitVec 32 := 1#32
  let v297 : BitVec 32 := Scalar.muli arg16 c1_i32_235
  let v298 : BitVec 32 := Scalar.addi c0_i32_236 v297
  let c16_i32_237 : BitVec 32 := 16#32
  let v299 : BitVec 32 := Scalar.muli v298 c16_i32_237
  let v300 : BitVec 32 := Scalar.addi v139 v299
  let v301 : BitVec 32 := v300
  let v318 : Index := Scalar.indexCast v301
  let c0_243 : Index := 0#32
  ![2, v318.toNat, 0]
def k0_mult31 (k0_t7 : Fin k0_t7_loop.trips) : BitVec 32 :=
  let c0_i32_236 : BitVec 32 := 0#32
  let c0_i32_143 : BitVec 32 := 0#32
  let c1_i32_145 : BitVec 32 := 1#32
  let arg16 : BitVec 32 := Scf.iv c0_i32_143 c1_i32_145 k0_t7
  let c1_i32_235 : BitVec 32 := 1#32
  let v297 : BitVec 32 := Scalar.muli arg16 c1_i32_235
  let v298 : BitVec 32 := Scalar.addi c0_i32_236 v297
  let c16_i32_237 : BitVec 32 := 16#32
  let v299 : BitVec 32 := Scalar.muli v298 c16_i32_237
  v299
def k0_off29 (k0_t7 : Fin k0_t7_loop.trips) : Fin 4 → Nat :=
  let c0_259 : Index := 0#32
  let c0_260 : Index := 0#32
  let c0_i32_236 : BitVec 32 := 0#32
  let c0_i32_143 : BitVec 32 := 0#32
  let c1_i32_145 : BitVec 32 := 1#32
  let arg16 : BitVec 32 := Scf.iv c0_i32_143 c1_i32_145 k0_t7
  let c1_i32_235 : BitVec 32 := 1#32
  let v297 : BitVec 32 := Scalar.muli arg16 c1_i32_235
  let v298 : BitVec 32 := Scalar.addi c0_i32_236 v297
  let c16_i32_237 : BitVec 32 := 16#32
  let v299 : BitVec 32 := Scalar.muli v298 c16_i32_237
  let v370 : BitVec 32 := v299
  let v371 : Index := Scalar.indexCast v370
  let c0_261 : Index := 0#32
  ![0, 0, v371.toNat, 0]
def k0_mult32 (k0_t7 : Fin k0_t7_loop.trips) : BitVec 32 :=
  let c0_i32_236 : BitVec 32 := 0#32
  let c0_i32_143 : BitVec 32 := 0#32
  let c1_i32_145 : BitVec 32 := 1#32
  let arg16 : BitVec 32 := Scf.iv c0_i32_143 c1_i32_145 k0_t7
  let c1_i32_235 : BitVec 32 := 1#32
  let v297 : BitVec 32 := Scalar.muli arg16 c1_i32_235
  let v298 : BitVec 32 := Scalar.addi c0_i32_236 v297
  let c16_i32_237 : BitVec 32 := 16#32
  let v299 : BitVec 32 := Scalar.muli v298 c16_i32_237
  v299
def k0_off30 (k0_t7 : Fin k0_t7_loop.trips) : Fin 4 → Nat :=
  let c0_283 : Index := 0#32
  let c1_284 : Index := 1#32
  let c0_i32_236 : BitVec 32 := 0#32
  let c0_i32_143 : BitVec 32 := 0#32
  let c1_i32_145 : BitVec 32 := 1#32
  let arg16 : BitVec 32 := Scf.iv c0_i32_143 c1_i32_145 k0_t7
  let c1_i32_235 : BitVec 32 := 1#32
  let v297 : BitVec 32 := Scalar.muli arg16 c1_i32_235
  let v298 : BitVec 32 := Scalar.addi c0_i32_236 v297
  let c16_i32_237 : BitVec 32 := 16#32
  let v299 : BitVec 32 := Scalar.muli v298 c16_i32_237
  let v428 : BitVec 32 := v299
  let v429 : Index := Scalar.indexCast v428
  let c0_285 : Index := 0#32
  ![0, 1, v429.toNat, 0]
def k0_mult33 (k0_t7 : Fin k0_t7_loop.trips) : BitVec 32 :=
  let c0_i32_236 : BitVec 32 := 0#32
  let c0_i32_143 : BitVec 32 := 0#32
  let c1_i32_145 : BitVec 32 := 1#32
  let arg16 : BitVec 32 := Scf.iv c0_i32_143 c1_i32_145 k0_t7
  let c1_i32_235 : BitVec 32 := 1#32
  let v297 : BitVec 32 := Scalar.muli arg16 c1_i32_235
  let v298 : BitVec 32 := Scalar.addi c0_i32_236 v297
  let c16_i32_237 : BitVec 32 := 16#32
  let v299 : BitVec 32 := Scalar.muli v298 c16_i32_237
  v299
def k0_off31 (k0_t7 : Fin k0_t7_loop.trips) : Fin 4 → Nat :=
  let c0_308 : Index := 0#32
  let c2_309 : Index := 2#32
  let c0_i32_236 : BitVec 32 := 0#32
  let c0_i32_143 : BitVec 32 := 0#32
  let c1_i32_145 : BitVec 32 := 1#32
  let arg16 : BitVec 32 := Scf.iv c0_i32_143 c1_i32_145 k0_t7
  let c1_i32_235 : BitVec 32 := 1#32
  let v297 : BitVec 32 := Scalar.muli arg16 c1_i32_235
  let v298 : BitVec 32 := Scalar.addi c0_i32_236 v297
  let c16_i32_237 : BitVec 32 := 16#32
  let v299 : BitVec 32 := Scalar.muli v298 c16_i32_237
  let v486 : BitVec 32 := v299
  let v487 : Index := Scalar.indexCast v486
  let c0_310 : Index := 0#32
  ![0, 2, v487.toNat, 0]
def k0_mult34 (k0_t7 : Fin k0_t7_loop.trips) : BitVec 32 :=
  let c0_i32_236 : BitVec 32 := 0#32
  let c0_i32_143 : BitVec 32 := 0#32
  let c1_i32_145 : BitVec 32 := 1#32
  let arg16 : BitVec 32 := Scf.iv c0_i32_143 c1_i32_145 k0_t7
  let c1_i32_235 : BitVec 32 := 1#32
  let v297 : BitVec 32 := Scalar.muli arg16 c1_i32_235
  let v298 : BitVec 32 := Scalar.addi c0_i32_236 v297
  let c16_i32_237 : BitVec 32 := 16#32
  let v299 : BitVec 32 := Scalar.muli v298 c16_i32_237
  v299
def k0_off32 (k0_t7 : Fin k0_t7_loop.trips) : Fin 4 → Nat :=
  let c0_332 : Index := 0#32
  let c3_333 : Index := 3#32
  let c0_i32_236 : BitVec 32 := 0#32
  let c0_i32_143 : BitVec 32 := 0#32
  let c1_i32_145 : BitVec 32 := 1#32
  let arg16 : BitVec 32 := Scf.iv c0_i32_143 c1_i32_145 k0_t7
  let c1_i32_235 : BitVec 32 := 1#32
  let v297 : BitVec 32 := Scalar.muli arg16 c1_i32_235
  let v298 : BitVec 32 := Scalar.addi c0_i32_236 v297
  let c16_i32_237 : BitVec 32 := 16#32
  let v299 : BitVec 32 := Scalar.muli v298 c16_i32_237
  let v544 : BitVec 32 := v299
  let v545 : Index := Scalar.indexCast v544
  let c0_334 : Index := 0#32
  ![0, 3, v545.toNat, 0]
def k0_mult35 (k0_t7 : Fin k0_t7_loop.trips) : BitVec 32 :=
  let c0_i32_236 : BitVec 32 := 0#32
  let c0_i32_143 : BitVec 32 := 0#32
  let c1_i32_145 : BitVec 32 := 1#32
  let arg16 : BitVec 32 := Scf.iv c0_i32_143 c1_i32_145 k0_t7
  let c1_i32_235 : BitVec 32 := 1#32
  let v297 : BitVec 32 := Scalar.muli arg16 c1_i32_235
  let v298 : BitVec 32 := Scalar.addi c0_i32_236 v297
  let c16_i32_237 : BitVec 32 := 16#32
  let v299 : BitVec 32 := Scalar.muli v298 c16_i32_237
  v299
def k0_off33 (k0_t7 : Fin k0_t7_loop.trips) : Fin 4 → Nat :=
  let c0_356 : Index := 0#32
  let c4_357 : Index := 4#32
  let c0_i32_236 : BitVec 32 := 0#32
  let c0_i32_143 : BitVec 32 := 0#32
  let c1_i32_145 : BitVec 32 := 1#32
  let arg16 : BitVec 32 := Scf.iv c0_i32_143 c1_i32_145 k0_t7
  let c1_i32_235 : BitVec 32 := 1#32
  let v297 : BitVec 32 := Scalar.muli arg16 c1_i32_235
  let v298 : BitVec 32 := Scalar.addi c0_i32_236 v297
  let c16_i32_237 : BitVec 32 := 16#32
  let v299 : BitVec 32 := Scalar.muli v298 c16_i32_237
  let v602 : BitVec 32 := v299
  let v603 : Index := Scalar.indexCast v602
  let c0_358 : Index := 0#32
  ![0, 4, v603.toNat, 0]
def k0_mult36 (k0_t7 : Fin k0_t7_loop.trips) : BitVec 32 :=
  let c0_i32_236 : BitVec 32 := 0#32
  let c0_i32_143 : BitVec 32 := 0#32
  let c1_i32_145 : BitVec 32 := 1#32
  let arg16 : BitVec 32 := Scf.iv c0_i32_143 c1_i32_145 k0_t7
  let c1_i32_235 : BitVec 32 := 1#32
  let v297 : BitVec 32 := Scalar.muli arg16 c1_i32_235
  let v298 : BitVec 32 := Scalar.addi c0_i32_236 v297
  let c16_i32_237 : BitVec 32 := 16#32
  let v299 : BitVec 32 := Scalar.muli v298 c16_i32_237
  v299
def k0_off34 (k0_t7 : Fin k0_t7_loop.trips) : Fin 4 → Nat :=
  let c0_380 : Index := 0#32
  let c5_381 : Index := 5#32
  let c0_i32_236 : BitVec 32 := 0#32
  let c0_i32_143 : BitVec 32 := 0#32
  let c1_i32_145 : BitVec 32 := 1#32
  let arg16 : BitVec 32 := Scf.iv c0_i32_143 c1_i32_145 k0_t7
  let c1_i32_235 : BitVec 32 := 1#32
  let v297 : BitVec 32 := Scalar.muli arg16 c1_i32_235
  let v298 : BitVec 32 := Scalar.addi c0_i32_236 v297
  let c16_i32_237 : BitVec 32 := 16#32
  let v299 : BitVec 32 := Scalar.muli v298 c16_i32_237
  let v660 : BitVec 32 := v299
  let v661 : Index := Scalar.indexCast v660
  let c0_382 : Index := 0#32
  ![0, 5, v661.toNat, 0]
def k0_mult37 (k0_t7 : Fin k0_t7_loop.trips) : BitVec 32 :=
  let c0_i32_236 : BitVec 32 := 0#32
  let c0_i32_143 : BitVec 32 := 0#32
  let c1_i32_145 : BitVec 32 := 1#32
  let arg16 : BitVec 32 := Scf.iv c0_i32_143 c1_i32_145 k0_t7
  let c1_i32_235 : BitVec 32 := 1#32
  let v297 : BitVec 32 := Scalar.muli arg16 c1_i32_235
  let v298 : BitVec 32 := Scalar.addi c0_i32_236 v297
  let c16_i32_237 : BitVec 32 := 16#32
  let v299 : BitVec 32 := Scalar.muli v298 c16_i32_237
  v299
def k0_off35 (k0_t7 : Fin k0_t7_loop.trips) : Fin 4 → Nat :=
  let c0_404 : Index := 0#32
  let c6_405 : Index := 6#32
  let c0_i32_236 : BitVec 32 := 0#32
  let c0_i32_143 : BitVec 32 := 0#32
  let c1_i32_145 : BitVec 32 := 1#32
  let arg16 : BitVec 32 := Scf.iv c0_i32_143 c1_i32_145 k0_t7
  let c1_i32_235 : BitVec 32 := 1#32
  let v297 : BitVec 32 := Scalar.muli arg16 c1_i32_235
  let v298 : BitVec 32 := Scalar.addi c0_i32_236 v297
  let c16_i32_237 : BitVec 32 := 16#32
  let v299 : BitVec 32 := Scalar.muli v298 c16_i32_237
  let v718 : BitVec 32 := v299
  let v719 : Index := Scalar.indexCast v718
  let c0_406 : Index := 0#32
  ![0, 6, v719.toNat, 0]
def k0_mult38 (k0_t7 : Fin k0_t7_loop.trips) : BitVec 32 :=
  let c0_i32_236 : BitVec 32 := 0#32
  let c0_i32_143 : BitVec 32 := 0#32
  let c1_i32_145 : BitVec 32 := 1#32
  let arg16 : BitVec 32 := Scf.iv c0_i32_143 c1_i32_145 k0_t7
  let c1_i32_235 : BitVec 32 := 1#32
  let v297 : BitVec 32 := Scalar.muli arg16 c1_i32_235
  let v298 : BitVec 32 := Scalar.addi c0_i32_236 v297
  let c16_i32_237 : BitVec 32 := 16#32
  let v299 : BitVec 32 := Scalar.muli v298 c16_i32_237
  v299
def k0_off36 (k0_t7 : Fin k0_t7_loop.trips) : Fin 4 → Nat :=
  let c0_428 : Index := 0#32
  let c7_429 : Index := 7#32
  let c0_i32_236 : BitVec 32 := 0#32
  let c0_i32_143 : BitVec 32 := 0#32
  let c1_i32_145 : BitVec 32 := 1#32
  let arg16 : BitVec 32 := Scf.iv c0_i32_143 c1_i32_145 k0_t7
  let c1_i32_235 : BitVec 32 := 1#32
  let v297 : BitVec 32 := Scalar.muli arg16 c1_i32_235
  let v298 : BitVec 32 := Scalar.addi c0_i32_236 v297
  let c16_i32_237 : BitVec 32 := 16#32
  let v299 : BitVec 32 := Scalar.muli v298 c16_i32_237
  let v776 : BitVec 32 := v299
  let v777 : Index := Scalar.indexCast v776
  let c0_430 : Index := 0#32
  ![0, 7, v777.toNat, 0]
def k0_mult39 (k0_t4 : Fin k0_t4_loop.trips) : BitVec 32 :=
  let c0_i32_52 : BitVec 32 := 0#32
  let c0_i32_14 : BitVec 32 := 0#32
  let c1_i32 : BitVec 32 := 1#32
  let arg15 : BitVec 32 := Scf.iv c0_i32_14 c1_i32 k0_t4
  let c1_i32_51 : BitVec 32 := 1#32
  let v137 : BitVec 32 := Scalar.muli arg15 c1_i32_51
  let v138 : BitVec 32 := Scalar.addi c0_i32_52 v137
  let c256_i32 : BitVec 32 := 256#32
  let v139 : BitVec 32 := Scalar.muli v138 c256_i32
  v139
@[reducible] def k0_t8_loop : Scf.Loop 32 :=
  let c0_i32_189 : BitVec 32 := 0#32
  let c16_i32_190 : BitVec 32 := 16#32
  let v257 : BitVec 32 := Scalar.addi c0_i32_189 c16_i32_190
  let c1_i32_191 : BitVec 32 := 1#32
  ⟨c0_i32_189, v257, c1_i32_191⟩
def k0_mult40 (k0_t4 : Fin k0_t4_loop.trips) (k0_t8 : Fin k0_t8_loop.trips) : BitVec 32 :=
  let c0_i32_52 : BitVec 32 := 0#32
  let c0_i32_14 : BitVec 32 := 0#32
  let c1_i32 : BitVec 32 := 1#32
  let arg15 : BitVec 32 := Scf.iv c0_i32_14 c1_i32 k0_t4
  let c1_i32_51 : BitVec 32 := 1#32
  let v137 : BitVec 32 := Scalar.muli arg15 c1_i32_51
  let v138 : BitVec 32 := Scalar.addi c0_i32_52 v137
  let c256_i32 : BitVec 32 := 256#32
  let v139 : BitVec 32 := Scalar.muli v138 c256_i32
  let c0_i32_236 : BitVec 32 := 0#32
  let c0_i32_189 : BitVec 32 := 0#32
  let c1_i32_191 : BitVec 32 := 1#32
  let arg16 : BitVec 32 := Scf.iv c0_i32_189 c1_i32_191 k0_t8
  let c1_i32_235 : BitVec 32 := 1#32
  let v297 : BitVec 32 := Scalar.muli arg16 c1_i32_235
  let v298 : BitVec 32 := Scalar.addi c0_i32_236 v297
  let c16_i32_237 : BitVec 32 := 16#32
  let v299 : BitVec 32 := Scalar.muli v298 c16_i32_237
  let v300 : BitVec 32 := Scalar.addi v139 v299
  v300
def k0_off37 (k0_t4 : Fin k0_t4_loop.trips) (k0_t8 : Fin k0_t8_loop.trips) : Fin 2 → Nat :=
  let c0_i32_52 : BitVec 32 := 0#32
  let c0_i32_14 : BitVec 32 := 0#32
  let c1_i32 : BitVec 32 := 1#32
  let arg15 : BitVec 32 := Scf.iv c0_i32_14 c1_i32 k0_t4
  let c1_i32_51 : BitVec 32 := 1#32
  let v137 : BitVec 32 := Scalar.muli arg15 c1_i32_51
  let v138 : BitVec 32 := Scalar.addi c0_i32_52 v137
  let c256_i32 : BitVec 32 := 256#32
  let v139 : BitVec 32 := Scalar.muli v138 c256_i32
  let c0_i32_236 : BitVec 32 := 0#32
  let c0_i32_189 : BitVec 32 := 0#32
  let c1_i32_191 : BitVec 32 := 1#32
  let arg16 : BitVec 32 := Scf.iv c0_i32_189 c1_i32_191 k0_t8
  let c1_i32_235 : BitVec 32 := 1#32
  let v297 : BitVec 32 := Scalar.muli arg16 c1_i32_235
  let v298 : BitVec 32 := Scalar.addi c0_i32_236 v297
  let c16_i32_237 : BitVec 32 := 16#32
  let v299 : BitVec 32 := Scalar.muli v298 c16_i32_237
  let v300 : BitVec 32 := Scalar.addi v139 v299
  let v301 : BitVec 32 := v300
  let v302 : Index := Scalar.indexCast v301
  let c384 : Index := 384#32
  ![v302.toNat, 384]
def k0_off38 (k0_t4 : Fin k0_t4_loop.trips) (k0_t8 : Fin k0_t8_loop.trips) : Fin 3 → Nat :=
  let c3_241 : Index := 3#32
  let c0_i32_52 : BitVec 32 := 0#32
  let c0_i32_14 : BitVec 32 := 0#32
  let c1_i32 : BitVec 32 := 1#32
  let arg15 : BitVec 32 := Scf.iv c0_i32_14 c1_i32 k0_t4
  let c1_i32_51 : BitVec 32 := 1#32
  let v137 : BitVec 32 := Scalar.muli arg15 c1_i32_51
  let v138 : BitVec 32 := Scalar.addi c0_i32_52 v137
  let c256_i32 : BitVec 32 := 256#32
  let v139 : BitVec 32 := Scalar.muli v138 c256_i32
  let c0_i32_236 : BitVec 32 := 0#32
  let c0_i32_189 : BitVec 32 := 0#32
  let c1_i32_191 : BitVec 32 := 1#32
  let arg16 : BitVec 32 := Scf.iv c0_i32_189 c1_i32_191 k0_t8
  let c1_i32_235 : BitVec 32 := 1#32
  let v297 : BitVec 32 := Scalar.muli arg16 c1_i32_235
  let v298 : BitVec 32 := Scalar.addi c0_i32_236 v297
  let c16_i32_237 : BitVec 32 := 16#32
  let v299 : BitVec 32 := Scalar.muli v298 c16_i32_237
  let v300 : BitVec 32 := Scalar.addi v139 v299
  let v301 : BitVec 32 := v300
  let v318 : Index := Scalar.indexCast v301
  let c0_242 : Index := 0#32
  ![3, v318.toNat, 0]
def k0_mult41 (k0_t8 : Fin k0_t8_loop.trips) : BitVec 32 :=
  let c0_i32_236 : BitVec 32 := 0#32
  let c0_i32_189 : BitVec 32 := 0#32
  let c1_i32_191 : BitVec 32 := 1#32
  let arg16 : BitVec 32 := Scf.iv c0_i32_189 c1_i32_191 k0_t8
  let c1_i32_235 : BitVec 32 := 1#32
  let v297 : BitVec 32 := Scalar.muli arg16 c1_i32_235
  let v298 : BitVec 32 := Scalar.addi c0_i32_236 v297
  let c16_i32_237 : BitVec 32 := 16#32
  let v299 : BitVec 32 := Scalar.muli v298 c16_i32_237
  v299
def k0_off39 (k0_t8 : Fin k0_t8_loop.trips) : Fin 4 → Nat :=
  let c1_258 : Index := 1#32
  let c0_259 : Index := 0#32
  let c0_i32_236 : BitVec 32 := 0#32
  let c0_i32_189 : BitVec 32 := 0#32
  let c1_i32_191 : BitVec 32 := 1#32
  let arg16 : BitVec 32 := Scf.iv c0_i32_189 c1_i32_191 k0_t8
  let c1_i32_235 : BitVec 32 := 1#32
  let v297 : BitVec 32 := Scalar.muli arg16 c1_i32_235
  let v298 : BitVec 32 := Scalar.addi c0_i32_236 v297
  let c16_i32_237 : BitVec 32 := 16#32
  let v299 : BitVec 32 := Scalar.muli v298 c16_i32_237
  let v370 : BitVec 32 := v299
  let v371 : Index := Scalar.indexCast v370
  let c0_260 : Index := 0#32
  ![1, 0, v371.toNat, 0]
def k0_mult42 (k0_t8 : Fin k0_t8_loop.trips) : BitVec 32 :=
  let c0_i32_236 : BitVec 32 := 0#32
  let c0_i32_189 : BitVec 32 := 0#32
  let c1_i32_191 : BitVec 32 := 1#32
  let arg16 : BitVec 32 := Scf.iv c0_i32_189 c1_i32_191 k0_t8
  let c1_i32_235 : BitVec 32 := 1#32
  let v297 : BitVec 32 := Scalar.muli arg16 c1_i32_235
  let v298 : BitVec 32 := Scalar.addi c0_i32_236 v297
  let c16_i32_237 : BitVec 32 := 16#32
  let v299 : BitVec 32 := Scalar.muli v298 c16_i32_237
  v299
def k0_off40 (k0_t8 : Fin k0_t8_loop.trips) : Fin 4 → Nat :=
  let c1_282 : Index := 1#32
  let c1_283 : Index := 1#32
  let c0_i32_236 : BitVec 32 := 0#32
  let c0_i32_189 : BitVec 32 := 0#32
  let c1_i32_191 : BitVec 32 := 1#32
  let arg16 : BitVec 32 := Scf.iv c0_i32_189 c1_i32_191 k0_t8
  let c1_i32_235 : BitVec 32 := 1#32
  let v297 : BitVec 32 := Scalar.muli arg16 c1_i32_235
  let v298 : BitVec 32 := Scalar.addi c0_i32_236 v297
  let c16_i32_237 : BitVec 32 := 16#32
  let v299 : BitVec 32 := Scalar.muli v298 c16_i32_237
  let v428 : BitVec 32 := v299
  let v429 : Index := Scalar.indexCast v428
  let c0_284 : Index := 0#32
  ![1, 1, v429.toNat, 0]
def k0_mult43 (k0_t8 : Fin k0_t8_loop.trips) : BitVec 32 :=
  let c0_i32_236 : BitVec 32 := 0#32
  let c0_i32_189 : BitVec 32 := 0#32
  let c1_i32_191 : BitVec 32 := 1#32
  let arg16 : BitVec 32 := Scf.iv c0_i32_189 c1_i32_191 k0_t8
  let c1_i32_235 : BitVec 32 := 1#32
  let v297 : BitVec 32 := Scalar.muli arg16 c1_i32_235
  let v298 : BitVec 32 := Scalar.addi c0_i32_236 v297
  let c16_i32_237 : BitVec 32 := 16#32
  let v299 : BitVec 32 := Scalar.muli v298 c16_i32_237
  v299
def k0_off41 (k0_t8 : Fin k0_t8_loop.trips) : Fin 4 → Nat :=
  let c1_307 : Index := 1#32
  let c2_308 : Index := 2#32
  let c0_i32_236 : BitVec 32 := 0#32
  let c0_i32_189 : BitVec 32 := 0#32
  let c1_i32_191 : BitVec 32 := 1#32
  let arg16 : BitVec 32 := Scf.iv c0_i32_189 c1_i32_191 k0_t8
  let c1_i32_235 : BitVec 32 := 1#32
  let v297 : BitVec 32 := Scalar.muli arg16 c1_i32_235
  let v298 : BitVec 32 := Scalar.addi c0_i32_236 v297
  let c16_i32_237 : BitVec 32 := 16#32
  let v299 : BitVec 32 := Scalar.muli v298 c16_i32_237
  let v486 : BitVec 32 := v299
  let v487 : Index := Scalar.indexCast v486
  let c0_309 : Index := 0#32
  ![1, 2, v487.toNat, 0]
def k0_mult44 (k0_t8 : Fin k0_t8_loop.trips) : BitVec 32 :=
  let c0_i32_236 : BitVec 32 := 0#32
  let c0_i32_189 : BitVec 32 := 0#32
  let c1_i32_191 : BitVec 32 := 1#32
  let arg16 : BitVec 32 := Scf.iv c0_i32_189 c1_i32_191 k0_t8
  let c1_i32_235 : BitVec 32 := 1#32
  let v297 : BitVec 32 := Scalar.muli arg16 c1_i32_235
  let v298 : BitVec 32 := Scalar.addi c0_i32_236 v297
  let c16_i32_237 : BitVec 32 := 16#32
  let v299 : BitVec 32 := Scalar.muli v298 c16_i32_237
  v299
def k0_off42 (k0_t8 : Fin k0_t8_loop.trips) : Fin 4 → Nat :=
  let c1_331 : Index := 1#32
  let c3_332 : Index := 3#32
  let c0_i32_236 : BitVec 32 := 0#32
  let c0_i32_189 : BitVec 32 := 0#32
  let c1_i32_191 : BitVec 32 := 1#32
  let arg16 : BitVec 32 := Scf.iv c0_i32_189 c1_i32_191 k0_t8
  let c1_i32_235 : BitVec 32 := 1#32
  let v297 : BitVec 32 := Scalar.muli arg16 c1_i32_235
  let v298 : BitVec 32 := Scalar.addi c0_i32_236 v297
  let c16_i32_237 : BitVec 32 := 16#32
  let v299 : BitVec 32 := Scalar.muli v298 c16_i32_237
  let v544 : BitVec 32 := v299
  let v545 : Index := Scalar.indexCast v544
  let c0_333 : Index := 0#32
  ![1, 3, v545.toNat, 0]
def k0_mult45 (k0_t8 : Fin k0_t8_loop.trips) : BitVec 32 :=
  let c0_i32_236 : BitVec 32 := 0#32
  let c0_i32_189 : BitVec 32 := 0#32
  let c1_i32_191 : BitVec 32 := 1#32
  let arg16 : BitVec 32 := Scf.iv c0_i32_189 c1_i32_191 k0_t8
  let c1_i32_235 : BitVec 32 := 1#32
  let v297 : BitVec 32 := Scalar.muli arg16 c1_i32_235
  let v298 : BitVec 32 := Scalar.addi c0_i32_236 v297
  let c16_i32_237 : BitVec 32 := 16#32
  let v299 : BitVec 32 := Scalar.muli v298 c16_i32_237
  v299
def k0_off43 (k0_t8 : Fin k0_t8_loop.trips) : Fin 4 → Nat :=
  let c1_355 : Index := 1#32
  let c4_356 : Index := 4#32
  let c0_i32_236 : BitVec 32 := 0#32
  let c0_i32_189 : BitVec 32 := 0#32
  let c1_i32_191 : BitVec 32 := 1#32
  let arg16 : BitVec 32 := Scf.iv c0_i32_189 c1_i32_191 k0_t8
  let c1_i32_235 : BitVec 32 := 1#32
  let v297 : BitVec 32 := Scalar.muli arg16 c1_i32_235
  let v298 : BitVec 32 := Scalar.addi c0_i32_236 v297
  let c16_i32_237 : BitVec 32 := 16#32
  let v299 : BitVec 32 := Scalar.muli v298 c16_i32_237
  let v602 : BitVec 32 := v299
  let v603 : Index := Scalar.indexCast v602
  let c0_357 : Index := 0#32
  ![1, 4, v603.toNat, 0]
def k0_mult46 (k0_t8 : Fin k0_t8_loop.trips) : BitVec 32 :=
  let c0_i32_236 : BitVec 32 := 0#32
  let c0_i32_189 : BitVec 32 := 0#32
  let c1_i32_191 : BitVec 32 := 1#32
  let arg16 : BitVec 32 := Scf.iv c0_i32_189 c1_i32_191 k0_t8
  let c1_i32_235 : BitVec 32 := 1#32
  let v297 : BitVec 32 := Scalar.muli arg16 c1_i32_235
  let v298 : BitVec 32 := Scalar.addi c0_i32_236 v297
  let c16_i32_237 : BitVec 32 := 16#32
  let v299 : BitVec 32 := Scalar.muli v298 c16_i32_237
  v299
def k0_off44 (k0_t8 : Fin k0_t8_loop.trips) : Fin 4 → Nat :=
  let c1_379 : Index := 1#32
  let c5_380 : Index := 5#32
  let c0_i32_236 : BitVec 32 := 0#32
  let c0_i32_189 : BitVec 32 := 0#32
  let c1_i32_191 : BitVec 32 := 1#32
  let arg16 : BitVec 32 := Scf.iv c0_i32_189 c1_i32_191 k0_t8
  let c1_i32_235 : BitVec 32 := 1#32
  let v297 : BitVec 32 := Scalar.muli arg16 c1_i32_235
  let v298 : BitVec 32 := Scalar.addi c0_i32_236 v297
  let c16_i32_237 : BitVec 32 := 16#32
  let v299 : BitVec 32 := Scalar.muli v298 c16_i32_237
  let v660 : BitVec 32 := v299
  let v661 : Index := Scalar.indexCast v660
  let c0_381 : Index := 0#32
  ![1, 5, v661.toNat, 0]
def k0_mult47 (k0_t8 : Fin k0_t8_loop.trips) : BitVec 32 :=
  let c0_i32_236 : BitVec 32 := 0#32
  let c0_i32_189 : BitVec 32 := 0#32
  let c1_i32_191 : BitVec 32 := 1#32
  let arg16 : BitVec 32 := Scf.iv c0_i32_189 c1_i32_191 k0_t8
  let c1_i32_235 : BitVec 32 := 1#32
  let v297 : BitVec 32 := Scalar.muli arg16 c1_i32_235
  let v298 : BitVec 32 := Scalar.addi c0_i32_236 v297
  let c16_i32_237 : BitVec 32 := 16#32
  let v299 : BitVec 32 := Scalar.muli v298 c16_i32_237
  v299
def k0_off45 (k0_t8 : Fin k0_t8_loop.trips) : Fin 4 → Nat :=
  let c1_403 : Index := 1#32
  let c6_404 : Index := 6#32
  let c0_i32_236 : BitVec 32 := 0#32
  let c0_i32_189 : BitVec 32 := 0#32
  let c1_i32_191 : BitVec 32 := 1#32
  let arg16 : BitVec 32 := Scf.iv c0_i32_189 c1_i32_191 k0_t8
  let c1_i32_235 : BitVec 32 := 1#32
  let v297 : BitVec 32 := Scalar.muli arg16 c1_i32_235
  let v298 : BitVec 32 := Scalar.addi c0_i32_236 v297
  let c16_i32_237 : BitVec 32 := 16#32
  let v299 : BitVec 32 := Scalar.muli v298 c16_i32_237
  let v718 : BitVec 32 := v299
  let v719 : Index := Scalar.indexCast v718
  let c0_405 : Index := 0#32
  ![1, 6, v719.toNat, 0]
def k0_mult48 (k0_t8 : Fin k0_t8_loop.trips) : BitVec 32 :=
  let c0_i32_236 : BitVec 32 := 0#32
  let c0_i32_189 : BitVec 32 := 0#32
  let c1_i32_191 : BitVec 32 := 1#32
  let arg16 : BitVec 32 := Scf.iv c0_i32_189 c1_i32_191 k0_t8
  let c1_i32_235 : BitVec 32 := 1#32
  let v297 : BitVec 32 := Scalar.muli arg16 c1_i32_235
  let v298 : BitVec 32 := Scalar.addi c0_i32_236 v297
  let c16_i32_237 : BitVec 32 := 16#32
  let v299 : BitVec 32 := Scalar.muli v298 c16_i32_237
  v299
def k0_off46 (k0_t8 : Fin k0_t8_loop.trips) : Fin 4 → Nat :=
  let c1_427 : Index := 1#32
  let c7_428 : Index := 7#32
  let c0_i32_236 : BitVec 32 := 0#32
  let c0_i32_189 : BitVec 32 := 0#32
  let c1_i32_191 : BitVec 32 := 1#32
  let arg16 : BitVec 32 := Scf.iv c0_i32_189 c1_i32_191 k0_t8
  let c1_i32_235 : BitVec 32 := 1#32
  let v297 : BitVec 32 := Scalar.muli arg16 c1_i32_235
  let v298 : BitVec 32 := Scalar.addi c0_i32_236 v297
  let c16_i32_237 : BitVec 32 := 16#32
  let v299 : BitVec 32 := Scalar.muli v298 c16_i32_237
  let v776 : BitVec 32 := v299
  let v777 : Index := Scalar.indexCast v776
  let c0_429 : Index := 0#32
  ![1, 7, v777.toNat, 0]
def k0_mult49 (k0_t4 : Fin k0_t4_loop.trips) : BitVec 32 :=
  let c0_i32_52 : BitVec 32 := 0#32
  let c0_i32_14 : BitVec 32 := 0#32
  let c1_i32 : BitVec 32 := 1#32
  let arg15 : BitVec 32 := Scf.iv c0_i32_14 c1_i32 k0_t4
  let c1_i32_51 : BitVec 32 := 1#32
  let v137 : BitVec 32 := Scalar.muli arg15 c1_i32_51
  let v138 : BitVec 32 := Scalar.addi c0_i32_52 v137
  let c256_i32 : BitVec 32 := 256#32
  let v139 : BitVec 32 := Scalar.muli v138 c256_i32
  v139
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x512 .i16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S128x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== KernelIdeal.lean ====
variable {F : FTy → Type} [FloatOps F]
-- ==== ReferenceIdeal.lean ====
abbrev S1x128x4096 : Shape := ⟨3, ![1, 128, 4096]⟩
abbrev S14336x512 : Shape := ⟨2, ![14336, 512]⟩
abbrev S14336 : Shape := ⟨1, ![14336]⟩
abbrev S14336x16 : Shape := ⟨2, ![14336, 16]⟩
abbrev S4096 : Shape := ⟨1, ![4096]⟩
abbrev S_ : Shape := ⟨0, ![]⟩
abbrev S1x1 : Shape := ⟨2, ![1, 1]⟩
abbrev S1x2 : Shape := ⟨2, ![1, 2]⟩
abbrev S2x2 : Shape := ⟨2, ![2, 2]⟩
abbrev S2x4 : Shape := ⟨2, ![2, 4]⟩
abbrev S4x4 : Shape := ⟨2, ![4, 4]⟩
abbrev S4x8 : Shape := ⟨2, ![4, 8]⟩
abbrev S8x8 : Shape := ⟨2, ![8, 8]⟩
abbrev S8x16 : Shape := ⟨2, ![8, 16]⟩
abbrev S16x16 : Shape := ⟨2, ![16, 16]⟩
abbrev S16x32 : Shape := ⟨2, ![16, 32]⟩
abbrev S32x32 : Shape := ⟨2, ![32, 32]⟩
abbrev S32x64 : Shape := ⟨2, ![32, 64]⟩
abbrev S64x64 : Shape := ⟨2, ![64, 64]⟩
abbrev S64x128 : Shape := ⟨2, ![64, 128]⟩
abbrev S128x128 : Shape := ⟨2, ![128, 128]⟩
abbrev S128x256 : Shape := ⟨2, ![128, 256]⟩
abbrev S256x256 : Shape := ⟨2, ![256, 256]⟩
abbrev S256x512 : Shape := ⟨2, ![256, 512]⟩
abbrev S512x512 : Shape := ⟨2, ![512, 512]⟩
abbrev S512x1024 : Shape := ⟨2, ![512, 1024]⟩
abbrev S1024x1024 : Shape := ⟨2, ![1024, 1024]⟩
abbrev S128x4096 : Shape := ⟨2, ![128, 4096]⟩
abbrev S1x4096 : Shape := ⟨2, ![1, 4096]⟩
abbrev S128x4x1024 : Shape := ⟨3, ![128, 4, 1024]⟩
abbrev S14336x16x32 : Shape := ⟨3, ![14336, 16, 32]⟩
abbrev S14336x16x31 : Shape := ⟨3, ![14336, 16, 31]⟩
abbrev S14336x16x1 : Shape := ⟨3, ![14336, 16, 1]⟩
abbrev S8 : Shape := ⟨1, ![8]⟩
abbrev S14336x16x32x1 : Shape := ⟨4, ![14336, 16, 32, 1]⟩
abbrev S1x1x1x8 : Shape := ⟨4, ![1, 1, 1, 8]⟩
abbrev S14336x16x32x8 : Shape := ⟨4, ![14336, 16, 32, 8]⟩
abbrev S14336x16x1x1 : Shape := ⟨4, ![14336, 16, 1, 1]⟩
abbrev S14336x4096 : Shape := ⟨2, ![14336, 4096]⟩
abbrev S128x14336 : Shape := ⟨2, ![128, 14336]⟩
abbrev S1x14336 : Shape := ⟨2, ![1, 14336]⟩
abbrev S128x14x1024 : Shape := ⟨3, ![128, 14, 1024]⟩

abbrev nBuf : Space → Nat
  | .hbm => 159
  | .vmem => 0
  | .smem => 0
  | _ => 0

abbrev hbmTy0_0 (i : Nat) : BufTy := match i % 128 with
  | 0 => ⟨S1x128x4096, .bf16⟩
  | 1 => ⟨S14336x512, .i16⟩
  | 2 => ⟨S14336, .f32⟩
  | 3 => ⟨S14336x16, .f32⟩
  | 4 => ⟨S4096, .f32⟩
  | 5 => ⟨S14336, .f32⟩
  | 6 => ⟨S_, .f32⟩
  | 7 => ⟨S1x1, .f32⟩
  | 8 => ⟨S1x1, .f32⟩
  | 9 => ⟨S1x2, .f32⟩
  | 10 => ⟨S1x2, .f32⟩
  | 11 => ⟨S2x2, .f32⟩
  | 12 => ⟨S2x2, .f32⟩
  | 13 => ⟨S2x4, .f32⟩
  | 14 => ⟨S2x4, .f32⟩
  | 15 => ⟨S4x4, .f32⟩
  | 16 => ⟨S4x4, .f32⟩
  | 17 => ⟨S4x8, .f32⟩
  | 18 => ⟨S4x8, .f32⟩
  | 19 => ⟨S8x8, .f32⟩
  | 20 => ⟨S8x8, .f32⟩
  | 21 => ⟨S8x16, .f32⟩
  | 22 => ⟨S8x16, .f32⟩
  | 23 => ⟨S16x16, .f32⟩
  | 24 => ⟨S16x16, .f32⟩
  | 25 => ⟨S16x32, .f32⟩
  | 26 => ⟨S16x32, .f32⟩
  | 27 => ⟨S32x32, .f32⟩
  | 28 => ⟨S32x32, .f32⟩
  | 29 => ⟨S32x64, .f32⟩
  | 30 => ⟨S32x64, .f32⟩
  | 31 => ⟨S64x64, .f32⟩
  | 32 => ⟨S64x64, .f32⟩
  | 33 => ⟨S64x128, .f32⟩
  | 34 => ⟨S64x128, .f32⟩
  | 35 => ⟨S128x128, .f32⟩
  | 36 => ⟨S128x128, .f32⟩
  | 37 => ⟨S128x256, .f32⟩
  | 38 => ⟨S128x256, .f32⟩
  | 39 => ⟨S256x256, .f32⟩
  | 40 => ⟨S256x256, .f32⟩
  | 41 => ⟨S256x512, .f32⟩
  | 42 => ⟨S256x512, .f32⟩
  | 43 => ⟨S512x512, .f32⟩
  | 44 => ⟨S512x512, .f32⟩
  | 45 => ⟨S512x1024, .f32⟩
  | 46 => ⟨S512x1024, .f32⟩
  | 47 => ⟨S1024x1024, .f32⟩
  | 48 => ⟨S128x4096, .bf16⟩
  | 49 => ⟨S128x4096, .f32⟩
  | 50 => ⟨S1x4096, .f32⟩
  | 51 => ⟨S128x4096, .f32⟩
  | 52 => ⟨S128x4096, .f32⟩
  | 53 => ⟨S128x4x1024, .f32⟩
  | 54 => ⟨S128x4x1024, .f32⟩
  | 55 => ⟨S_, .f32⟩
  | 56 => ⟨S128x4x1024, .f32⟩
  | 57 => ⟨S128x4x1024, .f32⟩
  | 58 => ⟨S128x4096, .f32⟩
  | 59 => ⟨S128x4096, .bf16⟩
  | 60 => ⟨S14336x512, .i32⟩
  | 61 => ⟨S14336x16x32, .i32⟩
  | 62 => ⟨S14336x16x31, .i32⟩
  | 63 => ⟨S14336x16x1, .i32⟩
  | 64 => ⟨S14336x16x32, .i32⟩
  | 65 => ⟨S8, .i32⟩
  | 66 => ⟨S_, .i32⟩
  | 67 => ⟨S8, .i32⟩
  | 68 => ⟨S8, .i32⟩
  | 69 => ⟨S14336x16x32x1, .i32⟩
  | 70 => ⟨S1x1x1x8, .i32⟩
  | 71 => ⟨S14336x16x32x8, .i32⟩
  | 72 => ⟨S14336x16x32x8, .i32⟩
  | 73 => ⟨S14336x16x32x8, .i32⟩
  | 74 => ⟨S14336x16x32x1, .i32⟩
  | 75 => ⟨S_, .i32⟩
  | 76 => ⟨S8, .i32⟩
  | 77 => ⟨S8, .i32⟩
  | 78 => ⟨S1x1x1x8, .i32⟩
  | 79 => ⟨S14336x16x32x8, .i32⟩
  | 80 => ⟨S14336x16x32x8, .i32⟩
  | 81 => ⟨S14336x16x32x8, .i32⟩
  | 82 => ⟨S14336x16x32x8, .i32⟩
  | 83 => ⟨S_, .i32⟩
  | 84 => ⟨S14336x16x32x8, .i32⟩
  | 85 => ⟨S14336x16x32x8, .i32⟩
  | 86 => ⟨S_, .i32⟩
  | 87 => ⟨S14336x16x32x8, .i32⟩
  | 88 => ⟨S14336x16x32x8, .i32⟩
  | 89 => ⟨S_, .i32⟩
  | 90 => ⟨S14336x16x32x8, .i32⟩
  | 91 => ⟨S14336x16x32x8, .i32⟩
  | 92 => ⟨S_, .i32⟩
  | 93 => ⟨S14336x16x32x8, .i32⟩
  | 94 => ⟨S14336x16x32x8, .i32⟩
  | 95 => ⟨S_, .i32⟩
  | 96 => ⟨S14336x16x32x8, .i32⟩
  | 97 => ⟨S14336x16x32x8, .i32⟩
  | 98 => ⟨S_, .i32⟩
  | 99 => ⟨S14336x16x32x8, .i32⟩
  | 100 => ⟨S14336x16x32x8, .i32⟩
  | 101 => ⟨S_, .i32⟩
  | 102 => ⟨S14336x16x32x8, .i32⟩
  | 103 => ⟨S14336x16x32x8, .i32⟩
  | 104 => ⟨S_, .i32⟩
  | 105 => ⟨S14336x16x32x8, .i32⟩
  | 106 => ⟨S14336x16x32x8, .i32⟩
  | 107 => ⟨S_, .i32⟩
  | 108 => ⟨S14336x16x32x8, .i32⟩
  | 109 => ⟨S14336x16x32x8, .i32⟩
  | 110 => ⟨S_, .i32⟩
  | 111 => ⟨S14336x16x32x8, .i32⟩
  | 112 => ⟨S14336x16x32x8, .i32⟩
  | 113 => ⟨S_, .i32⟩
  | 114 => ⟨S14336x16x32x8, .i32⟩
  | 115 => ⟨S14336x16x32x8, .i32⟩
  | 116 => ⟨S14336x16x32x8, .i32⟩
  | 117 => ⟨S14336x16x32x8, .f32⟩
  | 118 => ⟨S_, .i32⟩
  | 119 => ⟨S14336x16x32x8, .i32⟩
  | 120 => ⟨S14336x16x32x8, .i32⟩
  | 121 => ⟨S_, .i32⟩
  | 122 => ⟨S14336x16x32x8, .i32⟩
  | 123 => ⟨S14336x16x32x8, .i32⟩
  | 124 => ⟨S_, .i32⟩
  | 125 => ⟨S14336x16x32x8, .i32⟩
  | 126 => ⟨S14336x16x32x8, .i32⟩
  | 127 => ⟨S_, .i32⟩
  | _ => ⟨S1x128x4096, .bf16⟩

abbrev hbmTy0_1 (i : Nat) : BufTy := match i % 128 with
  | 0 => ⟨S14336x16x32x8, .i32⟩
  | 1 => ⟨S14336x16x32x8, .i32⟩
  | 2 => ⟨S_, .i32⟩
  | 3 => ⟨S14336x16x32x8, .i32⟩
  | 4 => ⟨S14336x16x32x8, .i32⟩
  | 5 => ⟨S_, .i32⟩
  | 6 => ⟨S14336x16x32x8, .i32⟩
  | 7 => ⟨S14336x16x32x8, .i32⟩
  | 8 => ⟨S14336x16x32x8, .i32⟩
  | 9 => ⟨S14336x16x32x8, .f32⟩
  | 10 => ⟨S14336x16x32x8, .f32⟩
  | 11 => ⟨S14336x16x32x8, .bf16⟩
  | 12 => ⟨S14336x16, .bf16⟩
  | 13 => ⟨S14336x16x1x1, .bf16⟩
  | 14 => ⟨S14336x16x32x8, .bf16⟩
  | 15 => ⟨S14336x16x32x8, .bf16⟩
  | 16 => ⟨S14336x4096, .bf16⟩
  | 17 => ⟨S128x14336, .f32⟩
  | 18 => ⟨S1x14336, .f32⟩
  | 19 => ⟨S128x14336, .f32⟩
  | 20 => ⟨S128x14336, .f32⟩
  | 21 => ⟨S128x14x1024, .f32⟩
  | 22 => ⟨S128x14x1024, .f32⟩
  | 23 => ⟨S_, .f32⟩
  | 24 => ⟨S128x14x1024, .f32⟩
  | 25 => ⟨S128x14x1024, .f32⟩
  | 26 => ⟨S128x14336, .f32⟩
  | 27 => ⟨S1x14336, .f32⟩
  | 28 => ⟨S128x14336, .f32⟩
  | 29 => ⟨S128x14336, .f32⟩
  | 30 => ⟨S128x14336, .bf16⟩
  | _ => ⟨S1x128x4096, .bf16⟩

abbrev hbmTy (i : Nat) : BufTy := match i / 128 with
  | 0 => hbmTy0_0 i
  | 1 => hbmTy0_1 i
  | _ => ⟨S1x128x4096, .bf16⟩

abbrev bufTy : (tb : Table) → Fin (tcTables nBuf tb) → BufTy
  | .hbm, ⟨i, _⟩ => hbmTy i
  | _, _ => ⟨S1x128x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_call0_v0 : Ref sig .tc := ⟨.hbm, 9, rfl⟩
abbrev main_call0_v1 : Ref sig .tc := ⟨.hbm, 10, rfl⟩
abbrev main_v2 : Ref sig .tc := ⟨.hbm, 11, rfl⟩
abbrev main_v3 : Ref sig .tc := ⟨.hbm, 12, rfl⟩
abbrev main_call1_v0 : Ref sig .tc := ⟨.hbm, 13, rfl⟩
abbrev main_call1_v1 : Ref sig .tc := ⟨.hbm, 14, rfl⟩
abbrev main_v4 : Ref sig .tc := ⟨.hbm, 15, rfl⟩
abbrev main_v5 : Ref sig .tc := ⟨.hbm, 16, rfl⟩
abbrev main_call2_v0 : Ref sig .tc := ⟨.hbm, 17, rfl⟩
abbrev main_call2_v1 : Ref sig .tc := ⟨.hbm, 18, rfl⟩
abbrev main_v6 : Ref sig .tc := ⟨.hbm, 19, rfl⟩
abbrev main_v7 : Ref sig .tc := ⟨.hbm, 20, rfl⟩
abbrev main_call3_v0 : Ref sig .tc := ⟨.hbm, 21, rfl⟩
abbrev main_call3_v1 : Ref sig .tc := ⟨.hbm, 22, rfl⟩
abbrev main_v8 : Ref sig .tc := ⟨.hbm, 23, rfl⟩
abbrev main_v9 : Ref sig .tc := ⟨.hbm, 24, rfl⟩
abbrev main_call4_v0 : Ref sig .tc := ⟨.hbm, 25, rfl⟩
abbrev main_call4_v1 : Ref sig .tc := ⟨.hbm, 26, rfl⟩
abbrev main_v10 : Ref sig .tc := ⟨.hbm, 27, rfl⟩
abbrev main_v11 : Ref sig .tc := ⟨.hbm, 28, rfl⟩
abbrev main_call5_v0 : Ref sig .tc := ⟨.hbm, 29, rfl⟩
abbrev main_call5_v1 : Ref sig .tc := ⟨.hbm, 30, rfl⟩
abbrev main_v12 : Ref sig .tc := ⟨.hbm, 31, rfl⟩
abbrev main_v13 : Ref sig .tc := ⟨.hbm, 32, rfl⟩
abbrev main_call6_v0 : Ref sig .tc := ⟨.hbm, 33, rfl⟩
abbrev main_call6_v1 : Ref sig .tc := ⟨.hbm, 34, rfl⟩
abbrev main_v14 : Ref sig .tc := ⟨.hbm, 35, rfl⟩
abbrev main_v15 : Ref sig .tc := ⟨.hbm, 36, rfl⟩
abbrev main_call7_v0 : Ref sig .tc := ⟨.hbm, 37, rfl⟩
abbrev main_call7_v1 : Ref sig .tc := ⟨.hbm, 38, rfl⟩
abbrev main_v16 : Ref sig .tc := ⟨.hbm, 39, rfl⟩
abbrev main_v17 : Ref sig .tc := ⟨.hbm, 40, rfl⟩
abbrev main_call8_v0 : Ref sig .tc := ⟨.hbm, 41, rfl⟩
abbrev main_call8_v1 : Ref sig .tc := ⟨.hbm, 42, rfl⟩
abbrev main_v18 : Ref sig .tc := ⟨.hbm, 43, rfl⟩
abbrev main_v19 : Ref sig .tc := ⟨.hbm, 44, rfl⟩
abbrev main_call9_v0 : Ref sig .tc := ⟨.hbm, 45, rfl⟩
abbrev main_call9_v1 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_cst_0 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_call10_v0 : Ref sig .tc := ⟨.hbm, 62, rfl⟩
abbrev main_call10_v1 : Ref sig .tc := ⟨.hbm, 63, rfl⟩
abbrev main_v34 : Ref sig .tc := ⟨.hbm, 64, rfl⟩
abbrev main_v35 : Ref sig .tc := ⟨.hbm, 65, rfl⟩
abbrev main_c : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_c_1 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_c_2 : Ref sig .tc := ⟨.hbm, 83, rfl⟩
abbrev main_v51 : Ref sig .tc := ⟨.hbm, 84, rfl⟩
abbrev main_v52 : Ref sig .tc := ⟨.hbm, 85, rfl⟩
abbrev main_c_3 : Ref sig .tc := ⟨.hbm, 86, rfl⟩
abbrev main_v53 : Ref sig .tc := ⟨.hbm, 87, rfl⟩
abbrev main_v54 : Ref sig .tc := ⟨.hbm, 88, rfl⟩
abbrev main_c_4 : Ref sig .tc := ⟨.hbm, 89, rfl⟩
abbrev main_v55 : Ref sig .tc := ⟨.hbm, 90, rfl⟩
abbrev main_v56 : Ref sig .tc := ⟨.hbm, 91, rfl⟩
abbrev main_c_5 : Ref sig .tc := ⟨.hbm, 92, rfl⟩
abbrev main_v57 : Ref sig .tc := ⟨.hbm, 93, rfl⟩
abbrev main_v58 : Ref sig .tc := ⟨.hbm, 94, rfl⟩
abbrev main_c_6 : Ref sig .tc := ⟨.hbm, 95, rfl⟩
abbrev main_v59 : Ref sig .tc := ⟨.hbm, 96, rfl⟩
abbrev main_v60 : Ref sig .tc := ⟨.hbm, 97, rfl⟩
abbrev main_c_7 : Ref sig .tc := ⟨.hbm, 98, rfl⟩
abbrev main_v61 : Ref sig .tc := ⟨.hbm, 99, rfl⟩
abbrev main_v62 : Ref sig .tc := ⟨.hbm, 100, rfl⟩
abbrev main_c_8 : Ref sig .tc := ⟨.hbm, 101, rfl⟩
abbrev main_v63 : Ref sig .tc := ⟨.hbm, 102, rfl⟩
abbrev main_v64 : Ref sig .tc := ⟨.hbm, 103, rfl⟩
abbrev main_c_9 : Ref sig .tc := ⟨.hbm, 104, rfl⟩
abbrev main_v65 : Ref sig .tc := ⟨.hbm, 105, rfl⟩
abbrev main_v66 : Ref sig .tc := ⟨.hbm, 106, rfl⟩
abbrev main_c_10 : Ref sig .tc := ⟨.hbm, 107, rfl⟩
abbrev main_v67 : Ref sig .tc := ⟨.hbm, 108, rfl⟩
abbrev main_v68 : Ref sig .tc := ⟨.hbm, 109, rfl⟩
abbrev main_c_11 : Ref sig .tc := ⟨.hbm, 110, rfl⟩
abbrev main_v69 : Ref sig .tc := ⟨.hbm, 111, rfl⟩
abbrev main_v70 : Ref sig .tc := ⟨.hbm, 112, rfl⟩
abbrev main_c_12 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_c_13 : Ref sig .tc := ⟨.hbm, 118, rfl⟩
abbrev main_v75 : Ref sig .tc := ⟨.hbm, 119, rfl⟩
abbrev main_v76 : Ref sig .tc := ⟨.hbm, 120, rfl⟩
abbrev main_c_14 : Ref sig .tc := ⟨.hbm, 121, rfl⟩
abbrev main_v77 : Ref sig .tc := ⟨.hbm, 122, rfl⟩
abbrev main_v78 : Ref sig .tc := ⟨.hbm, 123, rfl⟩
abbrev main_c_15 : Ref sig .tc := ⟨.hbm, 124, rfl⟩
abbrev main_v79 : Ref sig .tc := ⟨.hbm, 125, rfl⟩
abbrev main_v80 : Ref sig .tc := ⟨.hbm, 126, rfl⟩
abbrev main_c_16 : Ref sig .tc := ⟨.hbm, 127, rfl⟩
abbrev main_v81 : Ref sig .tc := ⟨.hbm, 128, rfl⟩
abbrev main_v82 : Ref sig .tc := ⟨.hbm, 129, rfl⟩
abbrev main_c_17 : Ref sig .tc := ⟨.hbm, 130, rfl⟩
abbrev main_v83 : Ref sig .tc := ⟨.hbm, 131, rfl⟩
abbrev main_v84 : Ref sig .tc := ⟨.hbm, 132, rfl⟩
abbrev main_c_18 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_cst_19 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩

abbrev nD : Nat := 1
abbrev τ : Topo := Topo.v7x

variable {F : FTy → Type} [FloatOps F]
-- ==== Proof.Kernel.FrameBody.lean ====
/- The frame of `Kernel`: the kernel's two outer loops by invariants that keep the buffers they read and forget what they
   write, then the body at one grid point. -/
module

public import proofs.«01_k».proof.Proof.Gen.Kernel.Loops
public import proofs.«01_k».proof.Proof.Gen.Kernel.Frame
public import Idealize.ShloMosaic.Lib.Pipeline.Quiescent

@[expose] public section

set_option maxRecDepth 65536

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf ΦA)

variable {F : FTy → Type} [BitOps F]

local notation "𝕄" => MT nD τ sig Unit (Elt F) ℕ (UR sig nD τ) ℕ

/-- No variants: every loop of the program is counted. -/
abbrev 𝒱₀ : Variants := Variants.none

/-- A memref's buffer on core `c`, held whole at the contents `f`. -/
abbrev pt (c : Dev nD) {sp : Space} {S : Shape} {e : EltTy} (M : Memref sig .tc sp S e) (f : BufTy.Contents (Elt F) M.view.ty) : sProp 𝕄 :=
  iprop(M.view.loc (c : Thread nD τ) ↦[M.view.set]{fullShare} f)

/-- The prologue's loop over the four Hadamard blocks: `x` and `su` are read, the transformed activations, their
    transpose and the staging buffer are written. -/
@[sl_loop] def loopInv_k0_t1 (c : Dev nD) (i : grid0.Coords) (arg1 : Memref sig .tc .vmem S128x4096 .bf16) (harg1 : arg1.IsWhole) (arg2 : Memref sig .tc .vmem S1024x512 .i16) (harg2 : arg2.IsWhole) (arg3 : Memref sig .tc .vmem S1x1024 .f32) (harg3 : arg3.IsWhole) (arg4 : Memref sig .tc .vmem S1024x16 .f32) (harg4 : arg4.IsWhole) (arg5 : Memref sig .tc .vmem S1x4096 .f32) (harg5 : arg5.IsWhole) (arg6 : Memref sig .tc .vmem S1x1024 .f32) (harg6 : arg6.IsWhole) (arg7 : Memref sig .tc .vmem S128x1024 .bf16) (harg7 : arg7.IsWhole) (arg8 : Memref sig .tc .vmem S128x4096 .bf16) (harg8 : arg8.IsWhole) (arg9 : Memref sig .tc .vmem S256x256 .bf16) (harg9 : arg9.IsWhole) (arg10 : Memref sig .tc .vmem S4096x128 .bf16) (harg10 : arg10.IsWhole) (arg11 : Memref sig .tc .vmem S1024x128 .f32) (harg11 : arg11.IsWhole) (arg12 : Memref sig .tc .vmem S4x1024x128 .bf16) (harg12 : arg12.IsWhole) (arg13 : Memref sig .tc .vmem S2x8x256x128 .bf16) (harg13 : arg13.IsWhole) (arg14 : Memref sig .tc .vmem S1024x128 .f32) (harg14 : arg14.IsWhole) (k0_h1 : k0_cond1 i = 1#1) (v160 : Vec F S256x256 .bf16)
    (X1 : BufTy.Contents (Elt F) arg1.view.ty) (X5 : BufTy.Contents (Elt F) arg5.view.ty) :
    LoopInvTy_k0_t1 (F := F) Unit ℕ (UR sig nD τ) ℕ 𝒱₀ c none Set.univ i arg1 harg1 arg2 harg2 arg3 harg3 arg4 harg4 arg5 harg5 arg6 harg6 arg7 harg7 arg8 harg8 arg9 harg9 arg10 harg10 arg11 harg11 arg12 harg12 arg13 harg13 arg14 harg14 k0_h1 v160 where
  inv := fun k acc => iprop((arg1.view.loc (c : Thread nD τ) ↦[arg1.view.set]{fullShare} X1) ∗ (arg5.view.loc (c : Thread nD τ) ↦[arg5.view.set]{fullShare} X5) ∗ (∃ f, (arg8.view.loc (c : Thread nD τ) ↦[arg8.view.set]{fullShare} f)) ∗ (∃ f, (arg10.view.loc (c : Thread nD τ) ↦[arg10.view.set]{fullShare} f)) ∗ (∃ f, (arg11.view.loc (c : Thread nD τ) ↦[arg11.view.set]{fullShare} f)))
  step := fun k acc => by
    iintro ⟨H1, H5, ⟨%f8, H8⟩, ⟨%f10, H10⟩, ⟨%f11, H11⟩⟩
    unfold k0_t1_body
    sl_exec
    sl_step
    isplitl [H1]; · iexact H1
    isplitl [H5]; · iexact H5
    isplitl [H8]; · iexists _; iexact H8
    isplitl [H10]; · iexists _; iexact H10
    iexists _; iexact H11

/-- The loop over the four row blocks: the codes, the spread scales and the transposed activations are read, the decoded
    weights and the accumulator are written. -/
@[sl_loop] def loopInv_k0_t4 (c : Dev nD) (i : grid0.Coords) (arg1 : Memref sig .tc .vmem S128x4096 .bf16) (harg1 : arg1.IsWhole) (arg2 : Memref sig .tc .vmem S1024x512 .i16) (harg2 : arg2.IsWhole) (arg3 : Memref sig .tc .vmem S1x1024 .f32) (harg3 : arg3.IsWhole) (arg4 : Memref sig .tc .vmem S1024x16 .f32) (harg4 : arg4.IsWhole) (arg5 : Memref sig .tc .vmem S1x4096 .f32) (harg5 : arg5.IsWhole) (arg6 : Memref sig .tc .vmem S1x1024 .f32) (harg6 : arg6.IsWhole) (arg7 : Memref sig .tc .vmem S128x1024 .bf16) (harg7 : arg7.IsWhole) (arg8 : Memref sig .tc .vmem S128x4096 .bf16) (harg8 : arg8.IsWhole) (arg9 : Memref sig .tc .vmem S256x256 .bf16) (harg9 : arg9.IsWhole) (arg10 : Memref sig .tc .vmem S4096x128 .bf16) (harg10 : arg10.IsWhole) (arg11 : Memref sig .tc .vmem S1024x128 .f32) (harg11 : arg11.IsWhole) (arg12 : Memref sig .tc .vmem S4x1024x128 .bf16) (harg12 : arg12.IsWhole) (arg13 : Memref sig .tc .vmem S2x8x256x128 .bf16) (harg13 : arg13.IsWhole) (arg14 : Memref sig .tc .vmem S1024x128 .f32) (harg14 : arg14.IsWhole) (v7 : IVec S8x128 1) (v33 : FVec F S1024x128 .bf16)
    (X2 : BufTy.Contents (Elt F) arg2.view.ty) (X10 : BufTy.Contents (Elt F) arg10.view.ty) (X12 : BufTy.Contents (Elt F) arg12.view.ty) :
    LoopInvTy_k0_t4 (F := F) Unit ℕ (UR sig nD τ) ℕ 𝒱₀ c none Set.univ i arg1 harg1 arg2 harg2 arg3 harg3 arg4 harg4 arg5 harg5 arg6 harg6 arg7 harg7 arg8 harg8 arg9 harg9 arg10 harg10 arg11 harg11 arg12 harg12 arg13 harg13 arg14 harg14 v7 v33 where
  inv := fun k acc => iprop((arg2.view.loc (c : Thread nD τ) ↦[arg2.view.set]{fullShare} X2) ∗ (arg10.view.loc (c : Thread nD τ) ↦[arg10.view.set]{fullShare} X10) ∗ (arg12.view.loc (c : Thread nD τ) ↦[arg12.view.set]{fullShare} X12) ∗ (∃ f, (arg13.view.loc (c : Thread nD τ) ↦[arg13.view.set]{fullShare} f)) ∗ (∃ f, (arg14.view.loc (c : Thread nD τ) ↦[arg14.view.set]{fullShare} f)))
  step := fun k acc => by
    iintro ⟨H2, H10, H12, ⟨%f13, H13⟩, ⟨%f14, H14⟩⟩
    unfold k0_t4_body
    sl_exec
    sl_step
    isplitl [H2]; · iexact H2
    isplitl [H10]; · iexact H10
    isplitl [H12]; · iexact H12
    isplitl [H13]; · iexists _; iexact H13
    iexists _; iexact H14

/-- What the body holds of its buffers: the six inputs reading the given blocks, the two outputs and the six scratch
    buffers reading anything. -/
abbrev Held (c : Dev nD) (i : grid0.Coords) (arg1 : Memref sig .tc .vmem S128x4096 .bf16) (harg1 : arg1.IsWhole) (arg2 : Memref sig .tc .vmem S1024x512 .i16) (harg2 : arg2.IsWhole) (arg3 : Memref sig .tc .vmem S1x1024 .f32) (harg3 : arg3.IsWhole) (arg4 : Memref sig .tc .vmem S1024x16 .f32) (harg4 : arg4.IsWhole) (arg5 : Memref sig .tc .vmem S1x4096 .f32) (harg5 : arg5.IsWhole) (arg6 : Memref sig .tc .vmem S1x1024 .f32) (harg6 : arg6.IsWhole) (arg7 : Memref sig .tc .vmem S128x1024 .bf16) (harg7 : arg7.IsWhole) (arg8 : Memref sig .tc .vmem S128x4096 .bf16) (harg8 : arg8.IsWhole) (arg9 : Memref sig .tc .vmem S256x256 .bf16) (harg9 : arg9.IsWhole) (arg10 : Memref sig .tc .vmem S4096x128 .bf16) (harg10 : arg10.IsWhole) (arg11 : Memref sig .tc .vmem S1024x128 .f32) (harg11 : arg11.IsWhole) (arg12 : Memref sig .tc .vmem S4x1024x128 .bf16) (harg12 : arg12.IsWhole) (arg13 : Memref sig .tc .vmem S2x8x256x128 .bf16) (harg13 : arg13.IsWhole) (arg14 : Memref sig .tc .vmem S1024x128 .f32) (harg14 : arg14.IsWhole)
    (X1 : S128x4096.Idx → Elt F .bf16) (X2 : S1024x512.Idx → Elt F .i16) (X3 : S1x1024.Idx → Elt F .f32) (X4 : S1024x16.Idx → Elt F .f32) (X5 : S1x4096.Idx → Elt F .f32) (X6 : S1x1024.Idx → Elt F .f32) : sProp 𝕄 :=
  iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d))

/-- The body at a grid point: it runs, and holds after what it held before. -/
theorem body_run (c : Dev nD) (i : grid0.Coords) (arg1 : Memref sig .tc .vmem S128x4096 .bf16) (harg1 : arg1.IsWhole) (arg2 : Memref sig .tc .vmem S1024x512 .i16) (harg2 : arg2.IsWhole) (arg3 : Memref sig .tc .vmem S1x1024 .f32) (harg3 : arg3.IsWhole) (arg4 : Memref sig .tc .vmem S1024x16 .f32) (harg4 : arg4.IsWhole) (arg5 : Memref sig .tc .vmem S1x4096 .f32) (harg5 : arg5.IsWhole) (arg6 : Memref sig .tc .vmem S1x1024 .f32) (harg6 : arg6.IsWhole) (arg7 : Memref sig .tc .vmem S128x1024 .bf16) (harg7 : arg7.IsWhole) (arg8 : Memref sig .tc .vmem S128x4096 .bf16) (harg8 : arg8.IsWhole) (arg9 : Memref sig .tc .vmem S256x256 .bf16) (harg9 : arg9.IsWhole) (arg10 : Memref sig .tc .vmem S4096x128 .bf16) (harg10 : arg10.IsWhole) (arg11 : Memref sig .tc .vmem S1024x128 .f32) (harg11 : arg11.IsWhole) (arg12 : Memref sig .tc .vmem S4x1024x128 .bf16) (harg12 : arg12.IsWhole) (arg13 : Memref sig .tc .vmem S2x8x256x128 .bf16) (harg13 : arg13.IsWhole) (arg14 : Memref sig .tc .vmem S1024x128 .f32) (harg14 : arg14.IsWhole)
    (X1 : S128x4096.Idx → Elt F .bf16) (X2 : S1024x512.Idx → Elt F .i16) (X3 : S1x1024.Idx → Elt F .f32) (X4 : S1024x16.Idx → Elt F .f32) (X5 : S1x4096.Idx → Elt F .f32) (X6 : S1x1024.Idx → Elt F .f32) (Q : PUnit → sProp 𝕄) :
    iprop(Held (F := F) c i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 ∗ (Held (F := F) c i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 -∗ Q ⟨⟩))
    ⊢ wp frame (wpE (defs₀ (F := F)) 𝒱₀ (c : Thread nD τ) none) Set.univ (cc0_qtip_linear (F := F) i arg1 harg1 arg2 harg2 arg3 harg3 arg4 harg4 arg5 harg5 arg6 harg6 arg7 harg7 arg8 harg8 arg9 harg9 arg10 harg10 arg11 harg11 arg12 harg12 arg13 harg13 arg14 harg14) Q := by
  unfold Held owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩⟩, Hk⟩
  by_cases h : k0_cond1 i = 1#1
  · rw [cc0_qtip_linear_eq_skeleton]; unfold cc0_qtip_linear_skel
    sl_exec (disch := sl_exact h)
    sl_step
    iapply Hk
    isplitl [H1]; · (iexists f1; isplitr; · ipureintro; exact hf1); iexact H1
    isplitl [H2]; · (iexists f2; isplitr; · ipureintro; exact hf2); iexact H2
    isplitl [H3]; · (iexists f3; isplitr; · ipureintro; exact hf3); iexact H3
    isplitl [H4]; · (iexists f4; isplitr; · ipureintro; exact hf4); iexact H4
    isplitl [H5]; · (iexists f5; isplitr; · ipureintro; exact hf5); iexact H5
    isplitl [H6]; · (iexists f6; isplitr; · ipureintro; exact hf6); iexact H6
    isplitl [H7]; · (iexists _; iexists _; isplitr; swap; · iexact H7); ipureintro; rfl
    isplitl [H8]; · (iexists _; iexists _; isplitr; swap; · iexact H8); ipureintro; rfl
    isplitl [H9]; · (iexists _; iexists _; isplitr; swap; · iexact H9); ipureintro; rfl
    isplitl [H10]; · (iexists _; iexists _; isplitr; swap; · iexact H10); ipureintro; rfl
    isplitl [H11]; · (iexists _; iexists _; isplitr; swap; · iexact H11); ipureintro; rfl
    isplitl [H12]; · (iexists _; iexists _; isplitr; swap; · iexact H12); ipureintro; rfl
    isplitl [H13]; · (iexists _; iexists _; isplitr; swap; · iexact H13); ipureintro; rfl
    (iexists _; iexists _; isplitr; swap; · iexact H14); ipureintro; rfl
  · rw [cc0_qtip_linear_eq_skeleton]; unfold cc0_qtip_linear_skel
    sl_exec (disch := sl_exact h)
    sl_step
    iapply Hk
    isplitl [H1]; · (iexists f1; isplitr; · ipureintro; exact hf1); iexact H1
    isplitl [H2]; · (iexists f2; isplitr; · ipureintro; exact hf2); iexact H2
    isplitl [H3]; · (iexists f3; isplitr; · ipureintro; exact hf3); iexact H3
    isplitl [H4]; · (iexists f4; isplitr; · ipureintro; exact hf4); iexact H4
    isplitl [H5]; · (iexists f5; isplitr; · ipureintro; exact hf5); iexact H5
    isplitl [H6]; · (iexists f6; isplitr; · ipureintro; exact hf6); iexact H6
    isplitl [H7]; · (iexists _; iexists _; isplitr; swap; · iexact H7); ipureintro; rfl
    isplitl [H8]; · (iexists _; iexists _; isplitr; swap; · iexact H8); ipureintro; rfl
    isplitl [H9]; · (iexists _; iexists _; isplitr; swap; · iexact H9); ipureintro; rfl
    isplitl [H10]; · (iexists _; iexists _; isplitr; swap; · iexact H10); ipureintro; rfl
    isplitl [H11]; · (iexists _; iexists _; isplitr; swap; · iexact H11); ipureintro; rfl
    isplitl [H12]; · (iexists _; iexists _; isplitr; swap; · iexact H12); ipureintro; rfl
    isplitl [H13]; · (iexists _; iexists _; isplitr; swap; · iexact H13); ipureintro; rfl
    (iexists _; iexists _; isplitr; swap; · iexact H14); ipureintro; rfl

end Cert.Proof.Kernel

end
-- ==== Proof.Kernel.Frame.lean ====
/- The frame claim of `Kernel`: from any memory its run terminates, the argument arrays end unchanged and every semaphore
   counter ends at zero. -/
module

public import proofs.«01_k».proof.Proof.Kernel.FrameBody

@[expose] public section

set_option maxRecDepth 65536

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf ΦA)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The pipeline's proof data: the arrays as the region finds them, each input's buffer left at its block; what the body
    leaves in the two results is forgotten below. -/
def fdats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
  Φ _ := Pipeline.ΦA spec0 c
  q _ := fullShare
  owed _ := 0

/-- The two results are forgotten. -/
abbrev fgt : Fin cfg0.W → Bool := fun w => decide (6 ≤ w.val)

theorem fbefore0 (c : Dev nD) (t : Fin cfg0.N) (d) : (fdats m 0 c).before 0 t d = iblk m c 0 t :=
  before0_0_of m (fdats m 0 c) rfl (fun _ => by dsimp only [fdats]) t d
theorem fafter0 (c : Dev nD) (t : Fin cfg0.N) : (fdats m 0 c).after 0 t = iblk m c 0 t := by dsimp only [fdats]
theorem fbefore1 (c : Dev nD) (t : Fin cfg0.N) (d) : (fdats m 0 c).before 1 t d = iblk m c 1 t :=
  before0_1_of m (fdats m 0 c) rfl (fun _ => by dsimp only [fdats]) t d
theorem fafter1 (c : Dev nD) (t : Fin cfg0.N) : (fdats m 0 c).after 1 t = iblk m c 1 t := by dsimp only [fdats]
theorem fbefore2 (c : Dev nD) (t : Fin cfg0.N) (d) : (fdats m 0 c).before 2 t d = iblk m c 2 t :=
  before0_2_of m (fdats m 0 c) rfl (fun _ => by dsimp only [fdats]) t d
theorem fafter2 (c : Dev nD) (t : Fin cfg0.N) : (fdats m 0 c).after 2 t = iblk m c 2 t := by dsimp only [fdats]
theorem fbefore3 (c : Dev nD) (t : Fin cfg0.N) (d) : (fdats m 0 c).before 3 t d = iblk m c 3 t :=
  before0_3_of m (fdats m 0 c) rfl (fun _ => by dsimp only [fdats]) t d
theorem fafter3 (c : Dev nD) (t : Fin cfg0.N) : (fdats m 0 c).after 3 t = iblk m c 3 t := by dsimp only [fdats]
theorem fbefore4 (c : Dev nD) (t : Fin cfg0.N) (d) : (fdats m 0 c).before 4 t d = iblk m c 4 t :=
  before0_4_of m (fdats m 0 c) rfl (fun _ => by dsimp only [fdats]) t d
theorem fafter4 (c : Dev nD) (t : Fin cfg0.N) : (fdats m 0 c).after 4 t = iblk m c 4 t := by dsimp only [fdats]
theorem fbefore5 (c : Dev nD) (t : Fin cfg0.N) (d) : (fdats m 0 c).before 5 t d = iblk m c 5 t :=
  before0_5_of m (fdats m 0 c) rfl (fun _ => by dsimp only [fdats]) t d
theorem fafter5 (c : Dev nD) (t : Fin cfg0.N) : (fdats m 0 c).after 5 t = iblk m c 5 t := by dsimp only [fdats]

theorem body_forget (c : Dev nD) : BodyObligationLoose (fdats (F := F) m 0 c) (defs₀ (F := F)) 𝒱₀ () Set.univ fgt := fun t => by
  rw [bigSep_W0, bigSep_W0]
  sl_whnfR [defs₀, Defs.onTc]
  simp only [show fgt 0 = false from rfl, show fgt 1 = false from rfl, show fgt 2 = false from rfl, show fgt 3 = false from rfl, show fgt 4 = false from rfl, show fgt 5 = false from rfl, show fgt 6 = true from rfl, show fgt 7 = true from rfl, fbefore0, fbefore1, fbefore2, fbefore3, fbefore4, fbefore5]
  rw [show (fdats m 0 c).Φ t.succ = Pipeline.ΦA spec0 c from rfl, show (fdats m 0 c).Φ t.castSucc = Pipeline.ΦA spec0 c from rfl,
    show (fdats m 0 c).owesAt () t.succ = (fdats m 0 c).owesAt () t.castSucc from rfl, fafter0, fafter1, fafter2, fafter3, fafter4, fafter5]
  unfold Pipeline.ΦA
  rw [scopedRest0_eq]
  simp only [← owns_whole (c : Thread nD τ)]
  iintro ⟨⟨⟨S0, S1, S2, S3, S4, S5⟩, Hr⟩, Ho, ⟨%d0, H0⟩, ⟨%d1, H1⟩, ⟨%d2, H2⟩, ⟨%d3, H3⟩, ⟨%d4, H4⟩, ⟨%d5, H5⟩, H6, H7⟩
  iapply (body_run (F := F) c _ _ _ _ _ _ _ _ _ _ _ _ _ _ _ _ _ _ _ _ _ _ _ _ _ _ _ _ _ (iblk m c 0 t) (iblk m c 1 t) (iblk m c 2 t) (iblk m c 3 t) (iblk m c 4 t) (iblk m c 5 t) _)
  isplitl [H0 H1 H2 H3 H4 H5 H6 H7 S0 S1 S2 S3 S4 S5]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [S0]; · iexact S0
    isplitl [S1]; · iexact S1
    isplitl [S2]; · iexact S2
    isplitl [S3]; · iexact S3
    isplitl [S4]; · iexact S4
    iexact S5
  iintro ⟨H0, H1, H2, H3, H4, H5, H6, H7, S0, S1, S2, S3, S4, S5⟩
  isplitl [S0 S1 S2 S3 S4 S5 Hr]
  · isplitr [Hr]
    · isplitl [S0]; · iexact S0
      isplitl [S1]; · iexact S1
      isplitl [S2]; · iexact S2
      isplitl [S3]; · iexact S3
      isplitl [S4]; · iexact S4
      iexact S5
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

set_option backward.isDefEq.respectTransparency.types false in
theorem frun : θ_run defs (onTc (τ := τ) (main (F := F))) (s₀ m ρ)
    (fun r => Pipeline.RDat.FramePost cfg0 (fun c => (fdats m 0 c).toRForget fgt) (V m) r ∧ r.2.sem = fun _ => 0) :=
  Pipeline.θ_run_frame_forget (Q' := _) cfgs (fdats m) (0 : Fin 1) launch0 defs₀ 𝒱₀ fgt m ρ main
    (hbody := fun c => body_forget m c) (hshare := fun c => (fdats m 0 c).share_full fun _ => rfl)
    (howed := fun _ _ => rfl) (V := V m) (hmain := hmain m 𝒱₀) (hA := fun _ _ => rfl) (hΦ := fun _ _ => rfl)

/-- The frame, at any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => ⟨((h.1 c).2 main_arg0 (Pipeline.mem_restRefs_of main_arg0 (by decide) (by decide))).trans (V_main_arg0 m c),
      (Pipeline.RDat.FramePost.arr_in h.1 c 1 rfl).trans (V_main_arg1 m c),
      ((h.1 c).2 main_arg2 (Pipeline.mem_restRefs_of main_arg2 (by decide) (by decide))).trans (V_main_arg2 m c),
      (Pipeline.RDat.FramePost.arr_in h.1 c 3 rfl).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩, h.2⟩) (frun m ρ)

end Cert.Proof.Kernel

end
-- ==== Proof.KernelIdeal.FrameBody.lean ====
/- The frame of `KernelIdeal`: the kernel's two outer loops by invariants that keep the buffers they read and forget what they
   write, then the body at one grid point. -/
module

public import proofs.«01_k».proof.Proof.Gen.KernelIdeal.Loops
public import proofs.«01_k».proof.Proof.Gen.KernelIdeal.Frame
public import Idealize.ShloMosaic.Lib.Pipeline.Quiescent

@[expose] public section

set_option maxRecDepth 65536

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf ΦA)

variable {F : FTy → Type} [FloatOps F]

local notation "𝕄" => MT nD τ sig Unit (Elt F) ℕ (UR sig nD τ) ℕ

/-- No variants: every loop of the program is counted. -/
abbrev 𝒱₀ : Variants := Variants.none

/-- A memref's buffer on core `c`, held whole at the contents `f`. -/
abbrev pt (c : Dev nD) {sp : Space} {S : Shape} {e : EltTy} (M : Memref sig .tc sp S e) (f : BufTy.Contents (Elt F) M.view.ty) : sProp 𝕄 :=
  iprop(M.view.loc (c : Thread nD τ) ↦[M.view.set]{fullShare} f)

/-- The prologue's loop over the four Hadamard blocks: `x` and `su` are read, the transformed activations, their
    transpose and the staging buffer are written. -/
@[sl_loop] def loopInv_k0_t1 (c : Dev nD) (i : grid0.Coords) (arg1 : Memref sig .tc .vmem S128x4096 .bf16) (harg1 : arg1.IsWhole) (arg2 : Memref sig .tc .vmem S1024x512 .i16) (harg2 : arg2.IsWhole) (arg3 : Memref sig .tc .vmem S1x1024 .f32) (harg3 : arg3.IsWhole) (arg4 : Memref sig .tc .vmem S1024x16 .f32) (harg4 : arg4.IsWhole) (arg5 : Memref sig .tc .vmem S1x4096 .f32) (harg5 : arg5.IsWhole) (arg6 : Memref sig .tc .vmem S1x1024 .f32) (harg6 : arg6.IsWhole) (arg7 : Memref sig .tc .vmem S128x1024 .bf16) (harg7 : arg7.IsWhole) (arg8 : Memref sig .tc .vmem S128x4096 .bf16) (harg8 : arg8.IsWhole) (arg9 : Memref sig .tc .vmem S256x256 .bf16) (harg9 : arg9.IsWhole) (arg10 : Memref sig .tc .vmem S4096x128 .bf16) (harg10 : arg10.IsWhole) (arg11 : Memref sig .tc .vmem S1024x128 .f32) (harg11 : arg11.IsWhole) (arg12 : Memref sig .tc .vmem S4x1024x128 .bf16) (harg12 : arg12.IsWhole) (arg13 : Memref sig .tc .vmem S2x8x256x128 .bf16) (harg13 : arg13.IsWhole) (arg14 : Memref sig .tc .vmem S1024x128 .f32) (harg14 : arg14.IsWhole) (k0_h1 : k0_cond1 i = 1#1) (v160 : Vec F S256x256 .bf16)
    (X1 : BufTy.Contents (Elt F) arg1.view.ty) (X5 : BufTy.Contents (Elt F) arg5.view.ty) :
    LoopInvTy_k0_t1 (F := F) Unit ℕ (UR sig nD τ) ℕ 𝒱₀ c none Set.univ i arg1 harg1 arg2 harg2 arg3 harg3 arg4 harg4 arg5 harg5 arg6 harg6 arg7 harg7 arg8 harg8 arg9 harg9 arg10 harg10 arg11 harg11 arg12 harg12 arg13 harg13 arg14 harg14 k0_h1 v160 where
  inv := fun k acc => iprop((arg1.view.loc (c : Thread nD τ) ↦[arg1.view.set]{fullShare} X1) ∗ (arg5.view.loc (c : Thread nD τ) ↦[arg5.view.set]{fullShare} X5) ∗ (∃ f, (arg8.view.loc (c : Thread nD τ) ↦[arg8.view.set]{fullShare} f)) ∗ (∃ f, (arg10.view.loc (c : Thread nD τ) ↦[arg10.view.set]{fullShare} f)) ∗ (∃ f, (arg11.view.loc (c : Thread nD τ) ↦[arg11.view.set]{fullShare} f)))
  step := fun k acc => by
    iintro ⟨H1, H5, ⟨%f8, H8⟩, ⟨%f10, H10⟩, ⟨%f11, H11⟩⟩
    unfold k0_t1_body
    sl_exec
    sl_step
    isplitl [H1]; · iexact H1
    isplitl [H5]; · iexact H5
    isplitl [H8]; · iexists _; iexact H8
    isplitl [H10]; · iexists _; iexact H10
    iexists _; iexact H11

/-- The loop over the four row blocks: the codes, the spread scales and the transposed activations are read, the decoded
    weights and the accumulator are written. -/
@[sl_loop] def loopInv_k0_t4 (c : Dev nD) (i : grid0.Coords) (arg1 : Memref sig .tc .vmem S128x4096 .bf16) (harg1 : arg1.IsWhole) (arg2 : Memref sig .tc .vmem S1024x512 .i16) (harg2 : arg2.IsWhole) (arg3 : Memref sig .tc .vmem S1x1024 .f32) (harg3 : arg3.IsWhole) (arg4 : Memref sig .tc .vmem S1024x16 .f32) (harg4 : arg4.IsWhole) (arg5 : Memref sig .tc .vmem S1x4096 .f32) (harg5 : arg5.IsWhole) (arg6 : Memref sig .tc .vmem S1x1024 .f32) (harg6 : arg6.IsWhole) (arg7 : Memref sig .tc .vmem S128x1024 .bf16) (harg7 : arg7.IsWhole) (arg8 : Memref sig .tc .vmem S128x4096 .bf16) (harg8 : arg8.IsWhole) (arg9 : Memref sig .tc .vmem S256x256 .bf16) (harg9 : arg9.IsWhole) (arg10 : Memref sig .tc .vmem S4096x128 .bf16) (harg10 : arg10.IsWhole) (arg11 : Memref sig .tc .vmem S1024x128 .f32) (harg11 : arg11.IsWhole) (arg12 : Memref sig .tc .vmem S4x1024x128 .bf16) (harg12 : arg12.IsWhole) (arg13 : Memref sig .tc .vmem S2x8x256x128 .bf16) (harg13 : arg13.IsWhole) (arg14 : Memref sig .tc .vmem S1024x128 .f32) (harg14 : arg14.IsWhole) (v7 : IVec S8x128 1) (v33 : FVec F S1024x128 .bf16)
    (X2 : BufTy.Contents (Elt F) arg2.view.ty) (X10 : BufTy.Contents (Elt F) arg10.view.ty) (X12 : BufTy.Contents (Elt F) arg12.view.ty) :
    LoopInvTy_k0_t4 (F := F) Unit ℕ (UR sig nD τ) ℕ 𝒱₀ c none Set.univ i arg1 harg1 arg2 harg2 arg3 harg3 arg4 harg4 arg5 harg5 arg6 harg6 arg7 harg7 arg8 harg8 arg9 harg9 arg10 harg10 arg11 harg11 arg12 harg12 arg13 harg13 arg14 harg14 v7 v33 where
  inv := fun k acc => iprop((arg2.view.loc (c : Thread nD τ) ↦[arg2.view.set]{fullShare} X2) ∗ (arg10.view.loc (c : Thread nD τ) ↦[arg10.view.set]{fullShare} X10) ∗ (arg12.view.loc (c : Thread nD τ) ↦[arg12.view.set]{fullShare} X12) ∗ (∃ f, (arg13.view.loc (c : Thread nD τ) ↦[arg13.view.set]{fullShare} f)) ∗ (∃ f, (arg14.view.loc (c : Thread nD τ) ↦[arg14.view.set]{fullShare} f)))
  step := fun k acc => by
    iintro ⟨H2, H10, H12, ⟨%f13, H13⟩, ⟨%f14, H14⟩⟩
    unfold k0_t4_body
    sl_exec
    sl_step
    isplitl [H2]; · iexact H2
    isplitl [H10]; · iexact H10
    isplitl [H12]; · iexact H12
    isplitl [H13]; · iexists _; iexact H13
    iexists _; iexact H14

/-- What the body holds of its buffers: the six inputs reading the given blocks, the two outputs and the six scratch
    buffers reading anything. -/
abbrev Held (c : Dev nD) (i : grid0.Coords) (arg1 : Memref sig .tc .vmem S128x4096 .bf16) (harg1 : arg1.IsWhole) (arg2 : Memref sig .tc .vmem S1024x512 .i16) (harg2 : arg2.IsWhole) (arg3 : Memref sig .tc .vmem S1x1024 .f32) (harg3 : arg3.IsWhole) (arg4 : Memref sig .tc .vmem S1024x16 .f32) (harg4 : arg4.IsWhole) (arg5 : Memref sig .tc .vmem S1x4096 .f32) (harg5 : arg5.IsWhole) (arg6 : Memref sig .tc .vmem S1x1024 .f32) (harg6 : arg6.IsWhole) (arg7 : Memref sig .tc .vmem S128x1024 .bf16) (harg7 : arg7.IsWhole) (arg8 : Memref sig .tc .vmem S128x4096 .bf16) (harg8 : arg8.IsWhole) (arg9 : Memref sig .tc .vmem S256x256 .bf16) (harg9 : arg9.IsWhole) (arg10 : Memref sig .tc .vmem S4096x128 .bf16) (harg10 : arg10.IsWhole) (arg11 : Memref sig .tc .vmem S1024x128 .f32) (harg11 : arg11.IsWhole) (arg12 : Memref sig .tc .vmem S4x1024x128 .bf16) (harg12 : arg12.IsWhole) (arg13 : Memref sig .tc .vmem S2x8x256x128 .bf16) (harg13 : arg13.IsWhole) (arg14 : Memref sig .tc .vmem S1024x128 .f32) (harg14 : arg14.IsWhole)
    (X1 : S128x4096.Idx → Elt F .bf16) (X2 : S1024x512.Idx → Elt F .i16) (X3 : S1x1024.Idx → Elt F .f32) (X4 : S1024x16.Idx → Elt F .f32) (X5 : S1x4096.Idx → Elt F .f32) (X6 : S1x1024.Idx → Elt F .f32) : sProp 𝕄 :=
  iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d))

/-- The body at a grid point: it runs, and holds after what it held before. -/
theorem body_run (c : Dev nD) (i : grid0.Coords) (arg1 : Memref sig .tc .vmem S128x4096 .bf16) (harg1 : arg1.IsWhole) (arg2 : Memref sig .tc .vmem S1024x512 .i16) (harg2 : arg2.IsWhole) (arg3 : Memref sig .tc .vmem S1x1024 .f32) (harg3 : arg3.IsWhole) (arg4 : Memref sig .tc .vmem S1024x16 .f32) (harg4 : arg4.IsWhole) (arg5 : Memref sig .tc .vmem S1x4096 .f32) (harg5 : arg5.IsWhole) (arg6 : Memref sig .tc .vmem S1x1024 .f32) (harg6 : arg6.IsWhole) (arg7 : Memref sig .tc .vmem S128x1024 .bf16) (harg7 : arg7.IsWhole) (arg8 : Memref sig .tc .vmem S128x4096 .bf16) (harg8 : arg8.IsWhole) (arg9 : Memref sig .tc .vmem S256x256 .bf16) (harg9 : arg9.IsWhole) (arg10 : Memref sig .tc .vmem S4096x128 .bf16) (harg10 : arg10.IsWhole) (arg11 : Memref sig .tc .vmem S1024x128 .f32) (harg11 : arg11.IsWhole) (arg12 : Memref sig .tc .vmem S4x1024x128 .bf16) (harg12 : arg12.IsWhole) (arg13 : Memref sig .tc .vmem S2x8x256x128 .bf16) (harg13 : arg13.IsWhole) (arg14 : Memref sig .tc .vmem S1024x128 .f32) (harg14 : arg14.IsWhole)
    (X1 : S128x4096.Idx → Elt F .bf16) (X2 : S1024x512.Idx → Elt F .i16) (X3 : S1x1024.Idx → Elt F .f32) (X4 : S1024x16.Idx → Elt F .f32) (X5 : S1x4096.Idx → Elt F .f32) (X6 : S1x1024.Idx → Elt F .f32) (Q : PUnit → sProp 𝕄) :
    iprop(Held (F := F) c i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 ∗ (Held (F := F) c i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 -∗ Q ⟨⟩))
    ⊢ wp frame (wpE (defs₀ (F := F)) 𝒱₀ (c : Thread nD τ) none) Set.univ (cc0_qtip_linear (F := F) i arg1 harg1 arg2 harg2 arg3 harg3 arg4 harg4 arg5 harg5 arg6 harg6 arg7 harg7 arg8 harg8 arg9 harg9 arg10 harg10 arg11 harg11 arg12 harg12 arg13 harg13 arg14 harg14) Q := by
  unfold Held owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩⟩, Hk⟩
  by_cases h : k0_cond1 i = 1#1
  · rw [cc0_qtip_linear_eq_skeleton]; unfold cc0_qtip_linear_skel
    sl_exec (disch := sl_exact h)
    sl_step
    iapply Hk
    isplitl [H1]; · (iexists f1; isplitr; · ipureintro; exact hf1); iexact H1
    isplitl [H2]; · (iexists f2; isplitr; · ipureintro; exact hf2); iexact H2
    isplitl [H3]; · (iexists f3; isplitr; · ipureintro; exact hf3); iexact H3
    isplitl [H4]; · (iexists f4; isplitr; · ipureintro; exact hf4); iexact H4
    isplitl [H5]; · (iexists f5; isplitr; · ipureintro; exact hf5); iexact H5
    isplitl [H6]; · (iexists f6; isplitr; · ipureintro; exact hf6); iexact H6
    isplitl [H7]; · (iexists _; iexists _; isplitr; swap; · iexact H7); ipureintro; rfl
    isplitl [H8]; · (iexists _; iexists _; isplitr; swap; · iexact H8); ipureintro; rfl
    isplitl [H9]; · (iexists _; iexists _; isplitr; swap; · iexact H9); ipureintro; rfl
    isplitl [H10]; · (iexists _; iexists _; isplitr; swap; · iexact H10); ipureintro; rfl
    isplitl [H11]; · (iexists _; iexists _; isplitr; swap; · iexact H11); ipureintro; rfl
    isplitl [H12]; · (iexists _; iexists _; isplitr; swap; · iexact H12); ipureintro; rfl
    isplitl [H13]; · (iexists _; iexists _; isplitr; swap; · iexact H13); ipureintro; rfl
    (iexists _; iexists _; isplitr; swap; · iexact H14); ipureintro; rfl
  · rw [cc0_qtip_linear_eq_skeleton]; unfold cc0_qtip_linear_skel
    sl_exec (disch := sl_exact h)
    sl_step
    iapply Hk
    isplitl [H1]; · (iexists f1; isplitr; · ipureintro; exact hf1); iexact H1
    isplitl [H2]; · (iexists f2; isplitr; · ipureintro; exact hf2); iexact H2
    isplitl [H3]; · (iexists f3; isplitr; · ipureintro; exact hf3); iexact H3
    isplitl [H4]; · (iexists f4; isplitr; · ipureintro; exact hf4); iexact H4
    isplitl [H5]; · (iexists f5; isplitr; · ipureintro; exact hf5); iexact H5
    isplitl [H6]; · (iexists f6; isplitr; · ipureintro; exact hf6); iexact H6
    isplitl [H7]; · (iexists _; iexists _; isplitr; swap; · iexact H7); ipureintro; rfl
    isplitl [H8]; · (iexists _; iexists _; isplitr; swap; · iexact H8); ipureintro; rfl
    isplitl [H9]; · (iexists _; iexists _; isplitr; swap; · iexact H9); ipureintro; rfl
    isplitl [H10]; · (iexists _; iexists _; isplitr; swap; · iexact H10); ipureintro; rfl
    isplitl [H11]; · (iexists _; iexists _; isplitr; swap; · iexact H11); ipureintro; rfl
    isplitl [H12]; · (iexists _; iexists _; isplitr; swap; · iexact H12); ipureintro; rfl
    isplitl [H13]; · (iexists _; iexists _; isplitr; swap; · iexact H13); ipureintro; rfl
    (iexists _; iexists _; isplitr; swap; · iexact H14); ipureintro; rfl

end Cert.Proof.KernelIdeal

end
-- ==== Proof.KernelIdeal.Frame.lean ====
/- The frame claim of `KernelIdeal`: from any memory its run terminates, the argument arrays end unchanged and every semaphore
   counter ends at zero. -/
module

public import proofs.«01_k».proof.Proof.KernelIdeal.FrameBody

@[expose] public section

set_option maxRecDepth 65536

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf ΦA)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline's proof data: the arrays as the region finds them, each input's buffer left at its block; what the body
    leaves in the two results is forgotten below. -/
def fdats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
  Φ _ := Pipeline.ΦA spec0 c
  q _ := fullShare
  owed _ := 0

/-- The two results are forgotten. -/
abbrev fgt : Fin cfg0.W → Bool := fun w => decide (6 ≤ w.val)

theorem fbefore0 (c : Dev nD) (t : Fin cfg0.N) (d) : (fdats m 0 c).before 0 t d = iblk m c 0 t :=
  before0_0_of m (fdats m 0 c) rfl (fun _ => by dsimp only [fdats]) t d
theorem fafter0 (c : Dev nD) (t : Fin cfg0.N) : (fdats m 0 c).after 0 t = iblk m c 0 t := by dsimp only [fdats]
theorem fbefore1 (c : Dev nD) (t : Fin cfg0.N) (d) : (fdats m 0 c).before 1 t d = iblk m c 1 t :=
  before0_1_of m (fdats m 0 c) rfl (fun _ => by dsimp only [fdats]) t d
theorem fafter1 (c : Dev nD) (t : Fin cfg0.N) : (fdats m 0 c).after 1 t = iblk m c 1 t := by dsimp only [fdats]
theorem fbefore2 (c : Dev nD) (t : Fin cfg0.N) (d) : (fdats m 0 c).before 2 t d = iblk m c 2 t :=
  before0_2_of m (fdats m 0 c) rfl (fun _ => by dsimp only [fdats]) t d
theorem fafter2 (c : Dev nD) (t : Fin cfg0.N) : (fdats m 0 c).after 2 t = iblk m c 2 t := by dsimp only [fdats]
theorem fbefore3 (c : Dev nD) (t : Fin cfg0.N) (d) : (fdats m 0 c).before 3 t d = iblk m c 3 t :=
  before0_3_of m (fdats m 0 c) rfl (fun _ => by dsimp only [fdats]) t d
theorem fafter3 (c : Dev nD) (t : Fin cfg0.N) : (fdats m 0 c).after 3 t = iblk m c 3 t := by dsimp only [fdats]
theorem fbefore4 (c : Dev nD) (t : Fin cfg0.N) (d) : (fdats m 0 c).before 4 t d = iblk m c 4 t :=
  before0_4_of m (fdats m 0 c) rfl (fun _ => by dsimp only [fdats]) t d
theorem fafter4 (c : Dev nD) (t : Fin cfg0.N) : (fdats m 0 c).after 4 t = iblk m c 4 t := by dsimp only [fdats]
theorem fbefore5 (c : Dev nD) (t : Fin cfg0.N) (d) : (fdats m 0 c).before 5 t d = iblk m c 5 t :=
  before0_5_of m (fdats m 0 c) rfl (fun _ => by dsimp only [fdats]) t d
theorem fafter5 (c : Dev nD) (t : Fin cfg0.N) : (fdats m 0 c).after 5 t = iblk m c 5 t := by dsimp only [fdats]

theorem body_forget (c : Dev nD) : BodyObligationLoose (fdats (F := F) m 0 c) (defs₀ (F := F)) 𝒱₀ () Set.univ fgt := fun t => by
  rw [bigSep_W0, bigSep_W0]
  sl_whnfR [defs₀, Defs.onTc]
  simp only [show fgt 0 = false from rfl, show fgt 1 = false from rfl, show fgt 2 = false from rfl, show fgt 3 = false from rfl, show fgt 4 = false from rfl, show fgt 5 = false from rfl, show fgt 6 = true from rfl, show fgt 7 = true from rfl, fbefore0, fbefore1, fbefore2, fbefore3, fbefore4, fbefore5]
  rw [show (fdats m 0 c).Φ t.succ = Pipeline.ΦA spec0 c from rfl, show (fdats m 0 c).Φ t.castSucc = Pipeline.ΦA spec0 c from rfl,
    show (fdats m 0 c).owesAt () t.succ = (fdats m 0 c).owesAt () t.castSucc from rfl, fafter0, fafter1, fafter2, fafter3, fafter4, fafter5]
  unfold Pipeline.ΦA
  rw [scopedRest0_eq]
  simp only [← owns_whole (c : Thread nD τ)]
  iintro ⟨⟨⟨S0, S1, S2, S3, S4, S5⟩, Hr⟩, Ho, ⟨%d0, H0⟩, ⟨%d1, H1⟩, ⟨%d2, H2⟩, ⟨%d3, H3⟩, ⟨%d4, H4⟩, ⟨%d5, H5⟩, H6, H7⟩
  iapply (body_run (F := F) c _ _ _ _ _ _ _ _ _ _ _ _ _ _ _ _ _ _ _ _ _ _ _ _ _ _ _ _ _ (iblk m c 0 t) (iblk m c 1 t) (iblk m c 2 t) (iblk m c 3 t) (iblk m c 4 t) (iblk m c 5 t) _)
  isplitl [H0 H1 H2 H3 H4 H5 H6 H7 S0 S1 S2 S3 S4 S5]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [S0]; · iexact S0
    isplitl [S1]; · iexact S1
    isplitl [S2]; · iexact S2
    isplitl [S3]; · iexact S3
    isplitl [S4]; · iexact S4
    iexact S5
  iintro ⟨H0, H1, H2, H3, H4, H5, H6, H7, S0, S1, S2, S3, S4, S5⟩
  isplitl [S0 S1 S2 S3 S4 S5 Hr]
  · isplitr [Hr]
    · isplitl [S0]; · iexact S0
      isplitl [S1]; · iexact S1
      isplitl [S2]; · iexact S2
      isplitl [S3]; · iexact S3
      isplitl [S4]; · iexact S4
      iexact S5
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

set_option backward.isDefEq.respectTransparency.types false in
theorem frun : θ_run defs (onTc (τ := τ) (main (F := F))) (s₀ m ρ)
    (fun r => Pipeline.RDat.FramePost cfg0 (fun c => (fdats m 0 c).toRForget fgt) (V m) r ∧ r.2.sem = fun _ => 0) :=
  Pipeline.θ_run_frame_forget (Q' := _) cfgs (fdats m) (0 : Fin 1) launch0 defs₀ 𝒱₀ fgt m ρ main
    (hbody := fun c => body_forget m c) (hshare := fun c => (fdats m 0 c).share_full fun _ => rfl)
    (howed := fun _ _ => rfl) (V := V m) (hmain := hmain m 𝒱₀) (hA := fun _ _ => rfl) (hΦ := fun _ _ => rfl)

/-- The frame, at any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => ⟨((h.1 c).2 main_arg0 (Pipeline.mem_restRefs_of main_arg0 (by decide) (by decide))).trans (V_main_arg0 m c),
      (Pipeline.RDat.FramePost.arr_in h.1 c 1 rfl).trans (V_main_arg1 m c),
      ((h.1 c).2 main_arg2 (Pipeline.mem_restRefs_of main_arg2 (by decide) (by decide))).trans (V_main_arg2 m c),
      (Pipeline.RDat.FramePost.arr_in h.1 c 3 rfl).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩, h.2⟩) (frun m ρ)

end Cert.Proof.KernelIdeal

end
-- ==== Proof.KernelIdeal.ValBase.lean ====
/- Common ground of the value proofs: the classes of the loops' invariants, and loads read at an index. -/
module

public import proofs.«01_k».proof.Proof.Gen.KernelIdeal.Skeleton
public import proofs.«01_k».proof.Proof.Gen.KernelIdeal.Frame
public import Idealize.ShloMosaic.Lib.Exec
public import Idealize.ShloMosaic.Lib.Tactic
public import Idealize.ShloMosaic.Lib.Pipeline.Kit
public import Idealize.ShloMosaic.Lib.WritesUnit
public import Idealize.ShloMosaic.Lib.VecWindow
public import Idealize.ShloMosaic.Lib.Pointwise
public import Idealize.ShloMosaic.Lib.Bf16Pair

@[expose] public section

set_option maxRecDepth 65536

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- No variants: every loop of the program is counted. -/
abbrev 𝒱v : Variants := Variants.none

/-- The contents a loop starts from: `f = sel k G f` says nothing after trip 0, and that `f` is `G` there. -/
@[reducible] def sel {α : Sort*} : ℕ → α → α → α
  | 0, G, _ => G
  | _ + 1, _, f => f

variable {F : FTy → Type} [FloatOps F]

/-- Invariants of a loop of the body. -/
abbrev VTy_k0_t1 (Ix Name U Lvl : Type) [DecidableEq Ix] [DecidableEq Name] [RA.URA U] [Preorder Lvl]
    (𝒱 : Variants) (c : Dev nD) (bd : Option 𝒱.V) (E : Set Name) (i : grid0.Coords) (arg1 : Memref sig .tc .vmem S128x4096 .bf16) (harg1 : arg1.IsWhole) (arg2 : Memref sig .tc .vmem S1024x512 .i16) (harg2 : arg2.IsWhole) (arg3 : Memref sig .tc .vmem S1x1024 .f32) (harg3 : arg3.IsWhole) (arg4 : Memref sig .tc .vmem S1024x16 .f32) (harg4 : arg4.IsWhole) (arg5 : Memref sig .tc .vmem S1x4096 .f32) (harg5 : arg5.IsWhole) (arg6 : Memref sig .tc .vmem S1x1024 .f32) (harg6 : arg6.IsWhole) (arg7 : Memref sig .tc .vmem S128x1024 .bf16) (harg7 : arg7.IsWhole) (arg8 : Memref sig .tc .vmem S128x4096 .bf16) (harg8 : arg8.IsWhole) (arg9 : Memref sig .tc .vmem S256x256 .bf16) (harg9 : arg9.IsWhole) (arg10 : Memref sig .tc .vmem S4096x128 .bf16) (harg10 : arg10.IsWhole) (arg11 : Memref sig .tc .vmem S1024x128 .f32) (harg11 : arg11.IsWhole) (arg12 : Memref sig .tc .vmem S4x1024x128 .bf16) (harg12 : arg12.IsWhole) (arg13 : Memref sig .tc .vmem S2x8x256x128 .bf16) (harg13 : arg13.IsWhole) (arg14 : Memref sig .tc .vmem S1024x128 .f32) (harg14 : arg14.IsWhole) (k0_h1 : k0_cond1 i = 1#1) (v160 : Vec F S256x256 .bf16) :=
  Idealize.ShloMosaic.LoopInv (M := MT nD τ sig Ix (Elt F) Name U Lvl) Idealize.ShloMosaic.frame (wpE defs₀ 𝒱 (c : Thread nD τ) bd) E
    k0_t1_loop.lb k0_t1_loop.ub k0_t1_loop.st (k0_t1_ok i k0_h1) () (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 k0_h1 v160)

/-- Invariants of a loop of the body. -/
abbrev VTy_k0_t2 (Ix Name U Lvl : Type) [DecidableEq Ix] [DecidableEq Name] [RA.URA U] [Preorder Lvl]
    (𝒱 : Variants) (c : Dev nD) (bd : Option 𝒱.V) (E : Set Name) (i : grid0.Coords) (arg1 : Memref sig .tc .vmem S128x4096 .bf16) (harg1 : arg1.IsWhole) (arg2 : Memref sig .tc .vmem S1024x512 .i16) (harg2 : arg2.IsWhole) (arg3 : Memref sig .tc .vmem S1x1024 .f32) (harg3 : arg3.IsWhole) (arg4 : Memref sig .tc .vmem S1024x16 .f32) (harg4 : arg4.IsWhole) (arg5 : Memref sig .tc .vmem S1x4096 .f32) (harg5 : arg5.IsWhole) (arg6 : Memref sig .tc .vmem S1x1024 .f32) (harg6 : arg6.IsWhole) (arg7 : Memref sig .tc .vmem S128x1024 .bf16) (harg7 : arg7.IsWhole) (arg8 : Memref sig .tc .vmem S128x4096 .bf16) (harg8 : arg8.IsWhole) (arg9 : Memref sig .tc .vmem S256x256 .bf16) (harg9 : arg9.IsWhole) (arg10 : Memref sig .tc .vmem S4096x128 .bf16) (harg10 : arg10.IsWhole) (arg11 : Memref sig .tc .vmem S1024x128 .f32) (harg11 : arg11.IsWhole) (arg12 : Memref sig .tc .vmem S4x1024x128 .bf16) (harg12 : arg12.IsWhole) (arg13 : Memref sig .tc .vmem S2x8x256x128 .bf16) (harg13 : arg13.IsWhole) (arg14 : Memref sig .tc .vmem S1024x128 .f32) (harg14 : arg14.IsWhole) (k0_h1 : k0_cond1 i = 1#1) (k0_t1 : Fin k0_t1_loop.trips) :=
  Idealize.ShloMosaic.LoopInv (M := MT nD τ sig Ix (Elt F) Name U Lvl) Idealize.ShloMosaic.frame (wpE defs₀ 𝒱 (c : Thread nD τ) bd) E
    k0_t2_loop.lb k0_t2_loop.ub k0_t2_loop.st (k0_t2_ok i k0_h1) () (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 k0_h1 k0_t1)

/-- Invariants of a loop of the body. -/
abbrev VTy_k0_t3 (Ix Name U Lvl : Type) [DecidableEq Ix] [DecidableEq Name] [RA.URA U] [Preorder Lvl]
    (𝒱 : Variants) (c : Dev nD) (bd : Option 𝒱.V) (E : Set Name) (i : grid0.Coords) (arg1 : Memref sig .tc .vmem S128x4096 .bf16) (harg1 : arg1.IsWhole) (arg2 : Memref sig .tc .vmem S1024x512 .i16) (harg2 : arg2.IsWhole) (arg3 : Memref sig .tc .vmem S1x1024 .f32) (harg3 : arg3.IsWhole) (arg4 : Memref sig .tc .vmem S1024x16 .f32) (harg4 : arg4.IsWhole) (arg5 : Memref sig .tc .vmem S1x4096 .f32) (harg5 : arg5.IsWhole) (arg6 : Memref sig .tc .vmem S1x1024 .f32) (harg6 : arg6.IsWhole) (arg7 : Memref sig .tc .vmem S128x1024 .bf16) (harg7 : arg7.IsWhole) (arg8 : Memref sig .tc .vmem S128x4096 .bf16) (harg8 : arg8.IsWhole) (arg9 : Memref sig .tc .vmem S256x256 .bf16) (harg9 : arg9.IsWhole) (arg10 : Memref sig .tc .vmem S4096x128 .bf16) (harg10 : arg10.IsWhole) (arg11 : Memref sig .tc .vmem S1024x128 .f32) (harg11 : arg11.IsWhole) (arg12 : Memref sig .tc .vmem S4x1024x128 .bf16) (harg12 : arg12.IsWhole) (arg13 : Memref sig .tc .vmem S2x8x256x128 .bf16) (harg13 : arg13.IsWhole) (arg14 : Memref sig .tc .vmem S1024x128 .f32) (harg14 : arg14.IsWhole) (k0_h1 : k0_cond1 i = 1#1) (k0_t1 : Fin k0_t1_loop.trips) (k0_t2 : Fin k0_t2_loop.trips) :=
  Idealize.ShloMosaic.LoopInv (M := MT nD τ sig Ix (Elt F) Name U Lvl) Idealize.ShloMosaic.frame (wpE defs₀ 𝒱 (c : Thread nD τ) bd) E
    k0_t3_loop.lb k0_t3_loop.ub k0_t3_loop.st (k0_t3_ok i k0_h1) () (k0_t3_body (F := F) i arg1 harg1 arg2 harg2 arg3 harg3 arg4 harg4 arg5 harg5 arg6 harg6 arg7 harg7 arg8 harg8 arg9 harg9 arg10 harg10 arg11 harg11 arg12 harg12 arg13 harg13 arg14 harg14 k0_h1 k0_t1 k0_t2)

/-- Invariants of a loop of the body. -/
abbrev VTy_k0_t4 (Ix Name U Lvl : Type) [DecidableEq Ix] [DecidableEq Name] [RA.URA U] [Preorder Lvl]
    (𝒱 : Variants) (c : Dev nD) (bd : Option 𝒱.V) (E : Set Name) (i : grid0.Coords) (arg1 : Memref sig .tc .vmem S128x4096 .bf16) (harg1 : arg1.IsWhole) (arg2 : Memref sig .tc .vmem S1024x512 .i16) (harg2 : arg2.IsWhole) (arg3 : Memref sig .tc .vmem S1x1024 .f32) (harg3 : arg3.IsWhole) (arg4 : Memref sig .tc .vmem S1024x16 .f32) (harg4 : arg4.IsWhole) (arg5 : Memref sig .tc .vmem S1x4096 .f32) (harg5 : arg5.IsWhole) (arg6 : Memref sig .tc .vmem S1x1024 .f32) (harg6 : arg6.IsWhole) (arg7 : Memref sig .tc .vmem S128x1024 .bf16) (harg7 : arg7.IsWhole) (arg8 : Memref sig .tc .vmem S128x4096 .bf16) (harg8 : arg8.IsWhole) (arg9 : Memref sig .tc .vmem S256x256 .bf16) (harg9 : arg9.IsWhole) (arg10 : Memref sig .tc .vmem S4096x128 .bf16) (harg10 : arg10.IsWhole) (arg11 : Memref sig .tc .vmem S1024x128 .f32) (harg11 : arg11.IsWhole) (arg12 : Memref sig .tc .vmem S4x1024x128 .bf16) (harg12 : arg12.IsWhole) (arg13 : Memref sig .tc .vmem S2x8x256x128 .bf16) (harg13 : arg13.IsWhole) (arg14 : Memref sig .tc .vmem S1024x128 .f32) (harg14 : arg14.IsWhole) (v7 : IVec S8x128 1) (v33 : FVec F S1024x128 .bf16) :=
  Idealize.ShloMosaic.LoopInv (M := MT nD τ sig Ix (Elt F) Name U Lvl) Idealize.ShloMosaic.frame (wpE defs₀ 𝒱 (c : Thread nD τ) bd) E
    k0_t4_loop.lb k0_t4_loop.ub k0_t4_loop.st k0_t4_ok () (k0_t4_body (F := F) i arg1 harg1 arg2 harg2 arg3 harg3 arg4 harg4 arg5 harg5 arg6 harg6 arg7 harg7 arg8 harg8 arg9 harg9 arg10 harg10 arg11 harg11 arg12 harg12 arg13 harg13 arg14 harg14 v7 v33)

/-- Invariants of a loop of the body. -/
abbrev VTy_k0_t5 (Ix Name U Lvl : Type) [DecidableEq Ix] [DecidableEq Name] [RA.URA U] [Preorder Lvl]
    (𝒱 : Variants) (c : Dev nD) (bd : Option 𝒱.V) (E : Set Name) (i : grid0.Coords) (arg1 : Memref sig .tc .vmem S128x4096 .bf16) (harg1 : arg1.IsWhole) (arg2 : Memref sig .tc .vmem S1024x512 .i16) (harg2 : arg2.IsWhole) (arg3 : Memref sig .tc .vmem S1x1024 .f32) (harg3 : arg3.IsWhole) (arg4 : Memref sig .tc .vmem S1024x16 .f32) (harg4 : arg4.IsWhole) (arg5 : Memref sig .tc .vmem S1x4096 .f32) (harg5 : arg5.IsWhole) (arg6 : Memref sig .tc .vmem S1x1024 .f32) (harg6 : arg6.IsWhole) (arg7 : Memref sig .tc .vmem S128x1024 .bf16) (harg7 : arg7.IsWhole) (arg8 : Memref sig .tc .vmem S128x4096 .bf16) (harg8 : arg8.IsWhole) (arg9 : Memref sig .tc .vmem S256x256 .bf16) (harg9 : arg9.IsWhole) (arg10 : Memref sig .tc .vmem S4096x128 .bf16) (harg10 : arg10.IsWhole) (arg11 : Memref sig .tc .vmem S1024x128 .f32) (harg11 : arg11.IsWhole) (arg12 : Memref sig .tc .vmem S4x1024x128 .bf16) (harg12 : arg12.IsWhole) (arg13 : Memref sig .tc .vmem S2x8x256x128 .bf16) (harg13 : arg13.IsWhole) (arg14 : Memref sig .tc .vmem S1024x128 .f32) (harg14 : arg14.IsWhole) (v7 : IVec S8x128 1) (c0_i32_14 : BitVec 32) (c1_i32 : BitVec 32) (k0_t4 : Fin k0_t4_loop.trips) (v139 : BitVec 32) :=
  Idealize.ShloMosaic.LoopInv (M := MT nD τ sig Ix (Elt F) Name U Lvl) Idealize.ShloMosaic.frame (wpE defs₀ 𝒱 (c : Thread nD τ) bd) E
    k0_t5_loop.lb k0_t5_loop.ub k0_t5_loop.st k0_t5_ok () (k0_t5_body (F := F) i arg1 harg1 arg2 harg2 arg3 harg3 arg4 harg4 arg5 harg5 arg6 harg6 arg7 harg7 arg8 harg8 arg9 harg9 arg10 harg10 arg11 harg11 arg12 harg12 arg13 harg13 arg14 harg14 v7 c0_i32_14 c1_i32 k0_t4 v139)

/-- Invariants of a loop of the body. -/
abbrev VTy_k0_t6 (Ix Name U Lvl : Type) [DecidableEq Ix] [DecidableEq Name] [RA.URA U] [Preorder Lvl]
    (𝒱 : Variants) (c : Dev nD) (bd : Option 𝒱.V) (E : Set Name) (i : grid0.Coords) (arg1 : Memref sig .tc .vmem S128x4096 .bf16) (harg1 : arg1.IsWhole) (arg2 : Memref sig .tc .vmem S1024x512 .i16) (harg2 : arg2.IsWhole) (arg3 : Memref sig .tc .vmem S1x1024 .f32) (harg3 : arg3.IsWhole) (arg4 : Memref sig .tc .vmem S1024x16 .f32) (harg4 : arg4.IsWhole) (arg5 : Memref sig .tc .vmem S1x4096 .f32) (harg5 : arg5.IsWhole) (arg6 : Memref sig .tc .vmem S1x1024 .f32) (harg6 : arg6.IsWhole) (arg7 : Memref sig .tc .vmem S128x1024 .bf16) (harg7 : arg7.IsWhole) (arg8 : Memref sig .tc .vmem S128x4096 .bf16) (harg8 : arg8.IsWhole) (arg9 : Memref sig .tc .vmem S256x256 .bf16) (harg9 : arg9.IsWhole) (arg10 : Memref sig .tc .vmem S4096x128 .bf16) (harg10 : arg10.IsWhole) (arg11 : Memref sig .tc .vmem S1024x128 .f32) (harg11 : arg11.IsWhole) (arg12 : Memref sig .tc .vmem S4x1024x128 .bf16) (harg12 : arg12.IsWhole) (arg13 : Memref sig .tc .vmem S2x8x256x128 .bf16) (harg13 : arg13.IsWhole) (arg14 : Memref sig .tc .vmem S1024x128 .f32) (harg14 : arg14.IsWhole) (v7 : IVec S8x128 1) (k0_t4 : Fin k0_t4_loop.trips) (v139 : BitVec 32) (v155 : FVec F S256x128 .f32) (v157 : FVec F S256x128 .bf16) :=
  Idealize.ShloMosaic.LoopInv (M := MT nD τ sig Ix (Elt F) Name U Lvl) Idealize.ShloMosaic.frame (wpE defs₀ 𝒱 (c : Thread nD τ) bd) E
    k0_t6_loop.lb k0_t6_loop.ub k0_t6_loop.st k0_t6_ok () (k0_t6_body (F := F) i arg1 harg1 arg2 harg2 arg3 harg3 arg4 harg4 arg5 harg5 arg6 harg6 arg7 harg7 arg8 harg8 arg9 harg9 arg10 harg10 arg11 harg11 arg12 harg12 arg13 harg13 arg14 harg14 v7 k0_t4 v139 v155 v157)

/-- Invariants of a loop of the body. -/
abbrev VTy_k0_t7 (Ix Name U Lvl : Type) [DecidableEq Ix] [DecidableEq Name] [RA.URA U] [Preorder Lvl]
    (𝒱 : Variants) (c : Dev nD) (bd : Option 𝒱.V) (E : Set Name) (i : grid0.Coords) (arg1 : Memref sig .tc .vmem S128x4096 .bf16) (harg1 : arg1.IsWhole) (arg2 : Memref sig .tc .vmem S1024x512 .i16) (harg2 : arg2.IsWhole) (arg3 : Memref sig .tc .vmem S1x1024 .f32) (harg3 : arg3.IsWhole) (arg4 : Memref sig .tc .vmem S1024x16 .f32) (harg4 : arg4.IsWhole) (arg5 : Memref sig .tc .vmem S1x4096 .f32) (harg5 : arg5.IsWhole) (arg6 : Memref sig .tc .vmem S1x1024 .f32) (harg6 : arg6.IsWhole) (arg7 : Memref sig .tc .vmem S128x1024 .bf16) (harg7 : arg7.IsWhole) (arg8 : Memref sig .tc .vmem S128x4096 .bf16) (harg8 : arg8.IsWhole) (arg9 : Memref sig .tc .vmem S256x256 .bf16) (harg9 : arg9.IsWhole) (arg10 : Memref sig .tc .vmem S4096x128 .bf16) (harg10 : arg10.IsWhole) (arg11 : Memref sig .tc .vmem S1024x128 .f32) (harg11 : arg11.IsWhole) (arg12 : Memref sig .tc .vmem S4x1024x128 .bf16) (harg12 : arg12.IsWhole) (arg13 : Memref sig .tc .vmem S2x8x256x128 .bf16) (harg13 : arg13.IsWhole) (arg14 : Memref sig .tc .vmem S1024x128 .f32) (harg14 : arg14.IsWhole) (v7 : IVec S8x128 1) (k0_t4 : Fin k0_t4_loop.trips) (v139 : BitVec 32) (v208 : FVec F S256x128 .f32) (v209 : BitVec 32) (v211 : Vec F S256x128 .f32) :=
  Idealize.ShloMosaic.LoopInv (M := MT nD τ sig Ix (Elt F) Name U Lvl) Idealize.ShloMosaic.frame (wpE defs₀ 𝒱 (c : Thread nD τ) bd) E
    k0_t7_loop.lb k0_t7_loop.ub k0_t7_loop.st k0_t7_ok () (k0_t7_body (F := F) i arg1 harg1 arg2 harg2 arg3 harg3 arg4 harg4 arg5 harg5 arg6 harg6 arg7 harg7 arg8 harg8 arg9 harg9 arg10 harg10 arg11 harg11 arg12 harg12 arg13 harg13 arg14 harg14 v7 k0_t4 v139 v208 v209 v211)

/-- Invariants of a loop of the body. -/
abbrev VTy_k0_t8 (Ix Name U Lvl : Type) [DecidableEq Ix] [DecidableEq Name] [RA.URA U] [Preorder Lvl]
    (𝒱 : Variants) (c : Dev nD) (bd : Option 𝒱.V) (E : Set Name) (i : grid0.Coords) (arg1 : Memref sig .tc .vmem S128x4096 .bf16) (harg1 : arg1.IsWhole) (arg2 : Memref sig .tc .vmem S1024x512 .i16) (harg2 : arg2.IsWhole) (arg3 : Memref sig .tc .vmem S1x1024 .f32) (harg3 : arg3.IsWhole) (arg4 : Memref sig .tc .vmem S1024x16 .f32) (harg4 : arg4.IsWhole) (arg5 : Memref sig .tc .vmem S1x4096 .f32) (harg5 : arg5.IsWhole) (arg6 : Memref sig .tc .vmem S1x1024 .f32) (harg6 : arg6.IsWhole) (arg7 : Memref sig .tc .vmem S128x1024 .bf16) (harg7 : arg7.IsWhole) (arg8 : Memref sig .tc .vmem S128x4096 .bf16) (harg8 : arg8.IsWhole) (arg9 : Memref sig .tc .vmem S256x256 .bf16) (harg9 : arg9.IsWhole) (arg10 : Memref sig .tc .vmem S4096x128 .bf16) (harg10 : arg10.IsWhole) (arg11 : Memref sig .tc .vmem S1024x128 .f32) (harg11 : arg11.IsWhole) (arg12 : Memref sig .tc .vmem S4x1024x128 .bf16) (harg12 : arg12.IsWhole) (arg13 : Memref sig .tc .vmem S2x8x256x128 .bf16) (harg13 : arg13.IsWhole) (arg14 : Memref sig .tc .vmem S1024x128 .f32) (harg14 : arg14.IsWhole) (v7 : IVec S8x128 1) (k0_t4 : Fin k0_t4_loop.trips) (v139 : BitVec 32) (v232 : FVec F S256x128 .f32) (v234 : FVec F S256x128 .bf16) :=
  Idealize.ShloMosaic.LoopInv (M := MT nD τ sig Ix (Elt F) Name U Lvl) Idealize.ShloMosaic.frame (wpE defs₀ 𝒱 (c : Thread nD τ) bd) E
    k0_t8_loop.lb k0_t8_loop.ub k0_t8_loop.st k0_t8_ok () (k0_t8_body (F := F) i arg1 harg1 arg2 harg2 arg3 harg3 arg4 harg4 arg5 harg5 arg6 harg6 arg7 harg7 arg8 harg8 arg9 harg9 arg10 harg10 arg11 harg11 arg12 harg12 arg13 harg13 arg14 harg14 v7 k0_t4 v139 v232 v234)

/-- A load reads, at `x`, what the view reads at the index the rectangle sends `x` to. -/
theorem readAt_at {sp : Space} {S : Shape} {e : EltTy} (M : Memref sig .tc sp S e) (f : BufTy.Contents (Elt Ideal) M.view.ty) (r : LoadRect S)
    (x : r.shape.Idx) (y : S.Idx) {off' : Fin S.rank → ℕ} (ho : r.off = off') (h : ∀ a, (y a).val = off' a + r.stride a * (x a).val) :
    M.view.readAt (Elt Ideal) r f x = M.view.read (Elt Ideal) f y := by
  subst ho
  rw [View.readAt_apply]; congr 1; funext a; exact Fin.ext (h a).symm

end Cert.Proof.KernelIdeal

end

end
-- ==== Proof.KernelIdeal.ValA.lean ====
/- Values in the prologue's loops: the transposed activations are written row block by row block. -/
module

public import proofs.«01_k».proof.Proof.KernelIdeal.ValBase

@[expose] public section

set_option maxRecDepth 65536

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

theorem off3_eq (f : Fin k0_t2_loop.trips) (l : Fin k0_t3_loop.trips) : k0_off3 f l = ![128 * l.val + f.val, 0] := by
  revert f l; decide +kernel
theorem off4_eq (f : Fin k0_t2_loop.trips) (l : Fin k0_t3_loop.trips) : k0_off4 f l = ![128 * l.val + 8 + f.val, 0] := by
  revert f l; decide +kernel
theorem off5_eq (g : Fin k0_t1_loop.trips) (f : Fin k0_t2_loop.trips) (l : Fin k0_t3_loop.trips) :
    k0_off5 g f l = ![1024 * g.val + 128 * f.val + 16 * l.val, 0] := by
  revert g f l; decide +kernel

/-- Where row `k` of the transposed activations comes from: row `128 f + l` of a block of 1024 is column `8 l + f`. -/
def src (k : ℕ) : ℕ := 1024 * (k / 1024) + 8 * (k % 128) + (k % 1024) / 128

theorem src_lt (k : Fin 4096) : src k.val < 4096 := by unfold src; omega

/-- Rows below `n` of the transposed activations hold the activations `XR`. -/
def Rows (XR : S128x4096.Idx → EReal) (n : ℕ) (r : S4096x128.Idx → EReal) : Prop :=
  ∀ (k : Fin 4096) (t : Fin 128), k.val < n → r (ix2 k t) = XR (ix2 t ⟨src k.val, src_lt k⟩)

/-- The staging buffer holds block `g` of the activations, transposed. -/
def Tmp (XR : S128x4096.Idx → EReal) (g : ℕ) (r : S1024x128.Idx → EReal) : Prop :=
  ∀ (k : Fin 1024) (t : Fin 128) (h : 1024 * g + k.val < 4096), r (ix2 k t) = XR (ix2 t ⟨1024 * g + k.val, h⟩)

theorem pay218_at (u v : Vec Ideal S8x128 .f32) (i : Fin 16) (t : Fin 128) :
    k0_pay218 (F := Ideal) u v (ix2 i t) = if i.val % 2 = 0 then u (ix2 ⟨i.val / 2, by omega⟩ t) else v (ix2 ⟨i.val / 2, by omega⟩ t) := by
  pointwise [k0_pay218]

theorem rows_step {sp10 sp11 : Space} (M11 : Memref sig .tc sp11 S1024x128 .f32) (M10 : Memref sig .tc sp10 S4096x128 .bf16)
    (g : Fin k0_t1_loop.trips) (f : Fin k0_t2_loop.trips) (l : Fin k0_t3_loop.trips)
    (X11 : BufTy.Contents (Elt Ideal) M11.view.ty) (f10 : BufTy.Contents (Elt Ideal) M10.view.ty)
    {i5 i3 i4} (XR : S128x4096.Idx → EReal) (hT : Tmp XR g.val (M11.view.read (Elt Ideal) X11))
    (h : Rows XR (1024 * g.val + 128 * f.val + 16 * l.val) (M10.view.read (Elt Ideal) f10)) :
    Rows XR (1024 * g.val + 128 * f.val + 16 * (l.val + 1)) (M10.view.read (Elt Ideal) (M10.view.writes (Elt Ideal) f10
      [⟨Rect.unit (s := S4096x128) (k0_off5 g f l) S16x128.size i5,
        k0_pay218 (M11.view.readAt (Elt Ideal) (⟨k0_off3 f l, S8x128.size, ![16, 1], i3⟩ : LoadRect S1024x128) X11)
          (M11.view.readAt (Elt Ideal) (⟨k0_off4 f l, S8x128.size, ![16, 1], i4⟩ : LoadRect S1024x128) X11)⟩])) := by
  have hg : g.val < 4 := g.isLt
  have hf : f.val < 8 := f.isLt
  have hl : l.val < 8 := l.isLt
  intro k t hk
  by_cases hlt : k.val < 1024 * g.val + 128 * f.val + 16 * l.val
  · rw [View.read_writes_cons_unit_of_not_mem _ _ _ _ _ _ (off5_eq g f l) (0 : Fin 2) (Or.inl hlt)]
    exact h k t hlt
  · obtain ⟨i, hi, hki⟩ : ∃ i : ℕ, i < 16 ∧ k.val = 1024 * g.val + 128 * f.val + 16 * l.val + i :=
      ⟨k.val - (1024 * g.val + 128 * f.val + 16 * l.val), by omega, by omega⟩
    refine (View.read_writes_cons_unit_of_mem (v := M10.view) _ i5 _ [] (ix2 k t) (ix2 (⟨i, hi⟩ : Fin 16) t) (off5_eq g f l)
      (Fin.forall_fin_two.mpr ⟨hki, (Nat.zero_add _).symm⟩)).trans ?_
    rw [pay218_at]
    have e : (⟨src k.val, src_lt k⟩ : Fin 4096) = ⟨1024 * g.val + (128 * l.val + f.val + 8 * i), by omega⟩ :=
      Fin.ext (by show src k.val = 1024 * g.val + (128 * l.val + f.val + 8 * i); unfold src; omega)
    have hh := hT ⟨128 * l.val + f.val + 8 * i, by omega⟩ t (by show 1024 * g.val + (128 * l.val + f.val + 8 * i) < 4096; omega)
    rw [e, ← hh]
    split
    · rename_i hp
      refine readAt_at M11 X11 _ _ _ (off3_eq f l) ?_
      exact Fin.forall_fin_two.mpr ⟨by show 128 * l.val + f.val + 8 * i = 128 * l.val + f.val + 16 * (i / 2); have : i % 2 = 0 := hp; omega, by show t.val = 0 + 1 * t.val; omega⟩
    · rename_i hp
      refine readAt_at M11 X11 _ _ _ (off4_eq f l) ?_
      exact Fin.forall_fin_two.mpr ⟨by show 128 * l.val + f.val + 8 * i = 128 * l.val + 8 + f.val + 16 * (i / 2); have : ¬ i % 2 = 0 := hp; omega, by show t.val = 0 + 1 * t.val; omega⟩

@[sl_loop] def valInv_k0_t3 (c : Dev nD) (i : grid0.Coords) (arg1 : Memref sig .tc .vmem S128x4096 .bf16) (harg1 : arg1.IsWhole) (arg2 : Memref sig .tc .vmem S1024x512 .i16) (harg2 : arg2.IsWhole) (arg3 : Memref sig .tc .vmem S1x1024 .f32) (harg3 : arg3.IsWhole) (arg4 : Memref sig .tc .vmem S1024x16 .f32) (harg4 : arg4.IsWhole) (arg5 : Memref sig .tc .vmem S1x4096 .f32) (harg5 : arg5.IsWhole) (arg6 : Memref sig .tc .vmem S1x1024 .f32) (harg6 : arg6.IsWhole) (arg7 : Memref sig .tc .vmem S128x1024 .bf16) (harg7 : arg7.IsWhole) (arg8 : Memref sig .tc .vmem S128x4096 .bf16) (harg8 : arg8.IsWhole) (arg9 : Memref sig .tc .vmem S256x256 .bf16) (harg9 : arg9.IsWhole) (arg10 : Memref sig .tc .vmem S4096x128 .bf16) (harg10 : arg10.IsWhole) (arg11 : Memref sig .tc .vmem S1024x128 .f32) (harg11 : arg11.IsWhole) (arg12 : Memref sig .tc .vmem S4x1024x128 .bf16) (harg12 : arg12.IsWhole) (arg13 : Memref sig .tc .vmem S2x8x256x128 .bf16) (harg13 : arg13.IsWhole) (arg14 : Memref sig .tc .vmem S1024x128 .f32) (harg14 : arg14.IsWhole) (k0_h1 : k0_cond1 i = 1#1) (k0_t1 : Fin k0_t1_loop.trips) (k0_t2 : Fin k0_t2_loop.trips)
    (X11 : BufTy.Contents (Elt Ideal) arg11.view.ty) (G10 : BufTy.Contents (Elt Ideal) arg10.view.ty) :
    VTy_k0_t3 (F := Ideal) Unit ℕ (UR sig nD τ) ℕ 𝒱v c none Set.univ i arg1 harg1 arg2 harg2 arg3 harg3 arg4 harg4 arg5 harg5 arg6 harg6 arg7 harg7 arg8 harg8 arg9 harg9 arg10 harg10 arg11 harg11 arg12 harg12 arg13 harg13 arg14 harg14 k0_h1 k0_t1 k0_t2 where
  inv := fun k acc => iprop((arg11.view.loc (c : Thread nD τ) ↦[arg11.view.set]{fullShare} X11) ∗
    (∃ f10, (arg10.view.loc (c : Thread nD τ) ↦[arg10.view.set]{fullShare} f10) ∗ ⌜f10 = sel k G10 f10⌝ ∗
      ⌜∀ XR : S128x4096.Idx → EReal, Tmp XR k0_t1.val (arg11.view.read (Elt Ideal) X11) →
        Rows XR (1024 * k0_t1.val + 128 * k0_t2.val) (arg10.view.read (Elt Ideal) G10) →
        Rows XR (1024 * k0_t1.val + 128 * k0_t2.val + 16 * k) (arg10.view.read (Elt Ideal) f10)⌝))
  step := fun k acc => by
    iintro ⟨H11, ⟨%f10, H10, %e10, %h10⟩⟩
    unfold k0_t3_body
    sl_exec
    sl_step
    isplitl [H11]; · iexact H11
    iexists _; isplitl [H10]; · iexact H10
    isplitr; · ipureintro; rfl
    ipureintro
    intro XR hT hG
    exact rows_step _ _ k0_t1 k0_t2 k _ _ XR hT (h10 XR hT hG)

@[sl_loop] def valInv_k0_t2 (c : Dev nD) (i : grid0.Coords) (arg1 : Memref sig .tc .vmem S128x4096 .bf16) (harg1 : arg1.IsWhole) (arg2 : Memref sig .tc .vmem S1024x512 .i16) (harg2 : arg2.IsWhole) (arg3 : Memref sig .tc .vmem S1x1024 .f32) (harg3 : arg3.IsWhole) (arg4 : Memref sig .tc .vmem S1024x16 .f32) (harg4 : arg4.IsWhole) (arg5 : Memref sig .tc .vmem S1x4096 .f32) (harg5 : arg5.IsWhole) (arg6 : Memref sig .tc .vmem S1x1024 .f32) (harg6 : arg6.IsWhole) (arg7 : Memref sig .tc .vmem S128x1024 .bf16) (harg7 : arg7.IsWhole) (arg8 : Memref sig .tc .vmem S128x4096 .bf16) (harg8 : arg8.IsWhole) (arg9 : Memref sig .tc .vmem S256x256 .bf16) (harg9 : arg9.IsWhole) (arg10 : Memref sig .tc .vmem S4096x128 .bf16) (harg10 : arg10.IsWhole) (arg11 : Memref sig .tc .vmem S1024x128 .f32) (harg11 : arg11.IsWhole) (arg12 : Memref sig .tc .vmem S4x1024x128 .bf16) (harg12 : arg12.IsWhole) (arg13 : Memref sig .tc .vmem S2x8x256x128 .bf16) (harg13 : arg13.IsWhole) (arg14 : Memref sig .tc .vmem S1024x128 .f32) (harg14 : arg14.IsWhole) (k0_h1 : k0_cond1 i = 1#1) (k0_t1 : Fin k0_t1_loop.trips)
    (X11 : BufTy.Contents (Elt Ideal) arg11.view.ty) (G10 : BufTy.Contents (Elt Ideal) arg10.view.ty) :
    VTy_k0_t2 (F := Ideal) Unit ℕ (UR sig nD τ) ℕ 𝒱v c none Set.univ i arg1 harg1 arg2 harg2 arg3 harg3 arg4 harg4 arg5 harg5 arg6 harg6 arg7 harg7 arg8 harg8 arg9 harg9 arg10 harg10 arg11 harg11 arg12 harg12 arg13 harg13 arg14 harg14 k0_h1 k0_t1 where
  inv := fun k acc => iprop((arg11.view.loc (c : Thread nD τ) ↦[arg11.view.set]{fullShare} X11) ∗
    (∃ f10, (arg10.view.loc (c : Thread nD τ) ↦[arg10.view.set]{fullShare} f10) ∗ ⌜f10 = sel k G10 f10⌝ ∗
      ⌜∀ XR : S128x4096.Idx → EReal, Tmp XR k0_t1.val (arg11.view.read (Elt Ideal) X11) →
        Rows XR (1024 * k0_t1.val) (arg10.view.read (Elt Ideal) G10) →
        Rows XR (1024 * k0_t1.val + 128 * k) (arg10.view.read (Elt Ideal) f10)⌝))
  step := fun k acc => by
    iintro ⟨H11, ⟨%f10, H10, %e10, %h10⟩⟩
    unfold k0_t2_body
    sl_exec
    sl_step
    isplitl [H11]; · iexact H11
    iexists _; isplitl [H10]; · iexact H10
    isplitr; · ipureintro; rfl
    ipureintro
    intro XR hT hG
    have h := hL3 XR hT (h10 XR hT hG)
    have e : 1024 * k0_t1.val + 128 * k.val + 16 * Scf.trips k0_t3_loop.lb k0_t3_loop.ub k0_t3_loop.st
        = 1024 * k0_t1.val + 128 * (k.val + 1) := by
      have : Scf.trips k0_t3_loop.lb k0_t3_loop.ub k0_t3_loop.st = 8 := rfl
      omega
    rw [e] at h
    exact h

end Cert.Proof.KernelIdeal

end

end
-- ==== Proof.KernelIdeal.ValHad.lean ====
/- The Hadamard transform of 1024 columns as the kernel takes it: a butterfly on four blocks of 256, then each block times
   the 256 × 256 matrix of signs, as a sum of three products of which the last two are zero for finite entries. -/
module

public import proofs.«01_k».proof.Proof.KernelIdeal.ValBase

@[expose] public section

set_option maxRecDepth 65536

noncomputable section

namespace Cert.Proof.KernelIdeal

open Cert.KernelIdeal Cert.KernelIdeal.Gen
open Idealize.ShloMosaic Idealize.ShloMosaic.TcCoe

/-- The parity of the lowest `n` bits of `v`. -/
def par : ℕ → ℕ → Bool
  | 0, _ => false
  | n + 1, v => xor (v.testBit n) (par n v)

/-- The sign in row `a` and column `b` of the Hadamard matrix of `2 ^ n` rows. -/
def sg (n a b : ℕ) : ℝ := if par n (a &&& b) then -1 else 1

theorem par_congr (n v w : ℕ) (h : ∀ i, i < n → v.testBit i = w.testBit i) : par n v = par n w := by
  induction n with
  | zero => rfl
  | succ n ih => unfold par; rw [h n (Nat.lt_succ_self n), ih fun i hi => h i (Nat.lt_succ_of_lt hi)]

theorem sg_comm (n a b : ℕ) : sg n a b = sg n b a := by unfold sg; rw [Nat.and_comm]

/-- One level of the recursion: the bit `n` of both coordinates, then the rest. -/
theorem sg_succ (n a b : ℕ) (ha : a < 2 ^ n) (hb : b < 2 ^ n) (p q : Bool) :
    sg (n + 1) (2 ^ n * p.toNat + a) (2 ^ n * q.toNat + b) = (if p && q then -1 else 1) * sg n a b := by
  have bit (x : ℕ) (hx : x < 2 ^ n) (p : Bool) : (2 ^ n * p.toNat + x).testBit n = p := by
    rw [Nat.testBit_two_pow_mul_add _ hx]; cases p <;> simp
  have low (x : ℕ) (hx : x < 2 ^ n) (p : Bool) (i : ℕ) (hi : i < n) : (2 ^ n * p.toNat + x).testBit i = x.testBit i := by
    rw [Nat.testBit_two_pow_mul_add _ hx, if_pos hi]
  have e : par n ((2 ^ n * p.toNat + a) &&& (2 ^ n * q.toNat + b)) = par n (a &&& b) :=
    par_congr _ _ _ fun i hi => by rw [Nat.testBit_and, Nat.testBit_and, low a ha p i hi, low b hb q i hi]
  have u (v : ℕ) : par (n + 1) v = xor (v.testBit n) (par n v) := rfl
  unfold sg
  rw [u, e, Nat.testBit_and, bit a ha p, bit b hb q]
  cases p <;> cases q <;> cases par n (a &&& b) <;> norm_num

/-- The kernel's word at `v = a & b`: `1 - 2 p`, `p` the parity of the bits of `v`. -/
def signWord (v : BitVec 32) : BitVec 32 :=
  let v1 := IntOp.xori v (IntOp.shrsi ArithUnit.vector v 4#32)
  let v2 := IntOp.xori v1 (IntOp.shrsi ArithUnit.vector v1 2#32)
  let v3 := IntOp.xori v2 (IntOp.shrsi ArithUnit.vector v2 1#32)
  IntOp.subi 1#32 (IntOp.muli 2#32 (IntOp.andi v3 1#32))

theorem signWord_eq : ∀ v : Fin 256, (signWord (BitVec.ofNat 32 v.val)).toInt = if par 8 v.val then -1 else 1 := by
  decide +kernel

/-- The printed matrix of signs. -/
theorem pay216_at (a b : Fin 256) : k0_pay216 (F := Ideal) (ix2 a b) = ((sg 8 a.val b.val : ℝ) : EReal) := by
  pointwise [k0_pay216]
  have e : IntOp.andi (BitVec.ofNat 32 a.val) (BitVec.ofNat 32 b.val) = BitVec.ofNat 32 (a.val &&& b.val) := by
    rw [BitVec.ofNat_and]; rfl
  have hlt : a.val &&& b.val < 256 := lt_of_le_of_lt Nat.and_le_left a.isLt
  have h := signWord_eq ⟨a.val &&& b.val, hlt⟩
  rw [e]
  show (((signWord (BitVec.ofNat 32 (a.val &&& b.val))).toInt : ℝ) : EReal) = _
  rw [h]
  unfold sg
  cases par 8 (a.val &&& b.val) <;> simp

/-- The three-term product of the kernel: `z` times `h`. -/
def had3 (h : FVec Ideal S256x256 .bf16) (z : FVec Ideal S128x256 .f32) : FVec Ideal S128x256 .f32 :=
  k0_pay19 h (truncf .bf16 z bitsLt_bf16_f32) (subf z (extf .f32 (truncf .bf16 z bitsLt_bf16_f32) bitsLt_bf16_f32))
    (truncf .bf16 (subf z (extf .f32 (truncf .bf16 z bitsLt_bf16_f32) bitsLt_bf16_f32)) bitsLt_bf16_f32)

theorem coe_sum {ι : Type} [Fintype ι] (f : ι → ℝ) : (∑ i, (f i : EReal)) = ((∑ i, f i : ℝ) : EReal) := by
  classical
  have h (s : Finset ι) : (∑ i ∈ s, (f i : EReal)) = ((∑ i ∈ s, f i : ℝ) : EReal) := by
    induction s using Finset.induction with
    | empty => simp
    | insert a s ha ih => rw [Finset.sum_insert ha, Finset.sum_insert ha, ih, EReal.coe_add]
  exact h _

theorem had3_at (h : FVec Ideal S256x256 .bf16) (z : FVec Ideal S128x256 .f32) (Z : Fin 128 → Fin 256 → ℝ) (H : Fin 256 → Fin 256 → ℝ)
    (hz : ∀ s n, z (ix2 s n) = (Z s n : EReal)) (hh : ∀ n m, h (ix2 n m) = (H n m : EReal)) (s : Fin 128) (m : Fin 256) :
    had3 h z (ix2 s m) = ((∑ n, Z s n * H n m : ℝ) : EReal) := by
  pointwise [had3, k0_pay19]
  simp only [hz, hh, ← EReal.coe_sub, sub_self, EReal.coe_zero, sub_zero, zero_mul, Finset.sum_const_zero, add_zero, ← EReal.coe_mul, coe_sum]

/-- Four blocks of 256 make the sum over 1024. -/
theorem sum_four {M : Type} [AddCommMonoid M] (f : ℕ → M) :
    ∑ n ∈ Finset.range 1024, f n = ∑ n ∈ Finset.range 256, (f n + f (256 + n) + f (512 + n) + f (768 + n)) := by
  have e : (1024 : ℕ) = 256 + 256 + 256 + 256 := rfl
  rw [e, Finset.sum_range_add, Finset.sum_range_add, Finset.sum_range_add, ← Finset.sum_add_distrib, ← Finset.sum_add_distrib, ← Finset.sum_add_distrib]

/-- The butterfly: column `512 p + 256 q + m` of the transform by way of four blocks. -/
theorem butterfly (Z : ℕ → ℝ) (m : ℕ) (hm : m < 256) (p q : Bool) :
    ∑ n ∈ Finset.range 1024, Z n * sg 10 n (512 * p.toNat + 256 * q.toNat + m)
      = ∑ n ∈ Finset.range 256, (Z n + (if q then -1 else 1) * Z (256 + n) + (if p then -1 else 1) * Z (512 + n)
          + (if p then -1 else 1) * (if q then -1 else 1) * Z (768 + n)) * sg 8 n m := by
  rw [sum_four]
  refine Finset.sum_congr rfl fun n hn => ?_
  have hn : n < 256 := Finset.mem_range.mp hn
  have key (a b : Bool) : sg 10 (512 * a.toNat + (256 * b.toNat + n)) (512 * p.toNat + (256 * q.toNat + m))
      = (if a && p then -1 else 1) * ((if b && q then -1 else 1) * sg 8 n m) := by
    have h1 := sg_succ 9 (256 * b.toNat + n) (256 * q.toNat + m) (by cases b <;> simp <;> omega) (by cases q <;> simp <;> omega) a p
    have h2 := sg_succ 8 n m hn hm b q
    exact h1.trans (congrArg _ h2)
  have k00 := key false false
  have k01 := key false true
  have k10 := key true false
  have k11 := key true true
  simp only [Bool.toNat_false, Bool.toNat_true, Nat.mul_zero, Nat.mul_one, Nat.zero_add, ← Nat.add_assoc, Nat.reduceAdd, Bool.false_and, Bool.true_and, Bool.false_eq_true, if_false, one_mul] at k00 k01 k10 k11
  rw [k00, k01, k10, k11]
  ring

/-- The scale of the transform. -/
def κ : ℝ := (Ideal.ofBits .f32 0x3D000000#32).toReal

theorem κ_eq : Ideal.ofBits .f32 0x3D000000#32 = (κ : EReal) := by
  have h : Ideal.ofBits .f32 0x3D000000#32 = ((1 / 32 : ℝ) : EReal) := by
    simp [Ideal.ofBits, Ideal.ieee, -EReal.coe_mul]; norm_num
  unfold κ
  rw [h, EReal.toReal_coe]

/-- The largest bfloat16 pattern that is not a NaN is infinity. -/
theorem top16 : Ideal.ofBits .bf16 0x7F80#16 = (⊤ : EReal) := by simp [Ideal.ofBits, Ideal.ieee]

theorem top32 : Ideal.ofBits .f32 0x7F800000#32 = (⊤ : EReal) := by simp [Ideal.ofBits, Ideal.ieee]

/-- The transformed activation in row `s` and column `k`. -/
def XRr (xf : ℕ → ℕ → ℝ) (suf : ℕ → ℝ) (s k : ℕ) : ℝ :=
  (∑ n ∈ Finset.range 1024, xf s (1024 * (k / 1024) + n) * suf (1024 * (k / 1024) + n) * sg 10 n (k % 1024)) * κ

def XRv (xf : ℕ → ℕ → ℝ) (suf : ℕ → ℝ) : S128x4096.Idx → EReal := fun i => (XRr xf suf (i 0).val (i 1).val : EReal)

theorem sumFin (n : ℕ) (f : ℕ → ℝ) : ∑ i : Fin n, f i.val = ∑ i ∈ Finset.range n, f i := (Finset.sum_range f).symm

section
variable (v160 : FVec Ideal S256x256 .bf16) (u0 u1 u2 u3 : Vec Ideal S128x256 .bf16) (w0 w1 w2 w3 : Vec Ideal S1x256 .f32)
  (xf : ℕ → ℕ → ℝ) (suf : ℕ → ℝ) (c : ℕ)
  (hh : ∀ a b : Fin 256, v160 (ix2 a b) = ((sg 8 a.val b.val : ℝ) : EReal))
  (hu0 : ∀ (s : Fin 128) (n : Fin 256), u0 (ix2 s n) = (xf s.val (c + n.val) : EReal))
  (hu1 : ∀ (s : Fin 128) (n : Fin 256), u1 (ix2 s n) = (xf s.val (c + (256 + n.val)) : EReal))
  (hu2 : ∀ (s : Fin 128) (n : Fin 256), u2 (ix2 s n) = (xf s.val (c + (512 + n.val)) : EReal))
  (hu3 : ∀ (s : Fin 128) (n : Fin 256), u3 (ix2 s n) = (xf s.val (c + (768 + n.val)) : EReal))
  (hw0 : ∀ (n : Fin 256), w0 (ix2 0 n) = (suf (c + n.val) : EReal))
  (hw1 : ∀ (n : Fin 256), w1 (ix2 0 n) = (suf (c + (256 + n.val)) : EReal))
  (hw2 : ∀ (n : Fin 256), w2 (ix2 0 n) = (suf (c + (512 + n.val)) : EReal))
  (hw3 : ∀ (n : Fin 256), w3 (ix2 0 n) = (suf (c + (768 + n.val)) : EReal))
include hh hu0 hu1 hu2 hu3 hw0 hw1 hw2 hw3

theorem out0_at (s : Fin 128) (m : Fin 256) :
    k0_pay13 v160 (k0_pay3 u0 w0) (k0_pay4 u1 w1) (k0_pay5 u2 w2) (k0_pay6 u3) w3 (ix2 s m)
      = ((∑ n ∈ Finset.range 1024, xf s.val (c + n) * suf (c + n) * sg 10 n m.val : ℝ) : EReal) := by
  have hb := butterfly (fun n => xf s.val (c + n) * suf (c + n)) m.val m.isLt false false
  simp only [Bool.toNat_false, Bool.toNat_true, Nat.mul_zero, Nat.mul_one, Nat.zero_add, Nat.add_zero, Nat.reduceAdd, Bool.false_eq_true, if_false, if_true, one_mul, neg_mul, neg_neg] at hb
  rw [hb, ← sumFin 256 (fun n => _)]
  refine (had3_at v160 (addf (addf (k0_pay3 u0 w0) (k0_pay4 u1 w1)) (addf (k0_pay5 u2 w2) (k0_pay7 (k0_pay6 u3) w3)))
    (fun s n =>  xf s.val (c + n.val) * suf (c + n.val) + xf s.val (c + (256 + n.val)) * suf (c + (256 + n.val)) + xf s.val (c + (512 + n.val)) * suf (c + (512 + n.val)) + xf s.val (c + (768 + n.val)) * suf (c + (768 + n.val))) (fun a b => sg 8 a.val b.val) ?_ hh s m)
  · intro s n
    pointwise [k0_pay3, k0_pay4, k0_pay5, k0_pay6, k0_pay7]
    simp only [hu0, hu1, hu2, hu3, hw0, hw1, hw2, hw3, ← EReal.coe_mul, ← EReal.coe_add, ← EReal.coe_sub]
    congr 1; ring

theorem out1_at (s : Fin 128) (m : Fin 256) :
    k0_pay14 v160 (k0_pay3 u0 w0) (k0_pay4 u1 w1) (k0_pay5 u2 w2) (k0_pay6 u3) w3 (ix2 s m)
      = ((∑ n ∈ Finset.range 1024, xf s.val (c + n) * suf (c + n) * sg 10 n (256 + m.val) : ℝ) : EReal) := by
  have hb := butterfly (fun n => xf s.val (c + n) * suf (c + n)) m.val m.isLt false true
  simp only [Bool.toNat_false, Bool.toNat_true, Nat.mul_zero, Nat.mul_one, Nat.zero_add, Nat.add_zero, Nat.reduceAdd, Bool.false_eq_true, if_false, if_true, one_mul, neg_mul, neg_neg] at hb
  rw [hb, ← sumFin 256 (fun n => _)]
  refine (had3_at v160 (addf (subf (k0_pay3 u0 w0) (k0_pay4 u1 w1)) (subf (k0_pay5 u2 w2) (k0_pay7 (k0_pay6 u3) w3)))
    (fun s n =>  xf s.val (c + n.val) * suf (c + n.val) - xf s.val (c + (256 + n.val)) * suf (c + (256 + n.val)) + xf s.val (c + (512 + n.val)) * suf (c + (512 + n.val)) - xf s.val (c + (768 + n.val)) * suf (c + (768 + n.val))) (fun a b => sg 8 a.val b.val) ?_ hh s m)
  · intro s n
    pointwise [k0_pay3, k0_pay4, k0_pay5, k0_pay6, k0_pay7]
    simp only [hu0, hu1, hu2, hu3, hw0, hw1, hw2, hw3, ← EReal.coe_mul, ← EReal.coe_add, ← EReal.coe_sub]
    congr 1; ring

theorem out2_at (s : Fin 128) (m : Fin 256) :
    k0_pay15 v160 (k0_pay3 u0 w0) (k0_pay4 u1 w1) (k0_pay5 u2 w2) (k0_pay6 u3) w3 (ix2 s m)
      = ((∑ n ∈ Finset.range 1024, xf s.val (c + n) * suf (c + n) * sg 10 n (512 + m.val) : ℝ) : EReal) := by
  have hb := butterfly (fun n => xf s.val (c + n) * suf (c + n)) m.val m.isLt true false
  simp only [Bool.toNat_false, Bool.toNat_true, Nat.mul_zero, Nat.mul_one, Nat.zero_add, Nat.add_zero, Nat.reduceAdd, Bool.false_eq_true, if_false, if_true, one_mul, neg_mul, neg_neg] at hb
  rw [hb, ← sumFin 256 (fun n => _)]
  refine (had3_at v160 (subf (addf (k0_pay3 u0 w0) (k0_pay4 u1 w1)) (addf (k0_pay5 u2 w2) (k0_pay7 (k0_pay6 u3) w3)))
    (fun s n =>  xf s.val (c + n.val) * suf (c + n.val) + xf s.val (c + (256 + n.val)) * suf (c + (256 + n.val)) - xf s.val (c + (512 + n.val)) * suf (c + (512 + n.val)) - xf s.val (c + (768 + n.val)) * suf (c + (768 + n.val))) (fun a b => sg 8 a.val b.val) ?_ hh s m)
  · intro s n
    pointwise [k0_pay3, k0_pay4, k0_pay5, k0_pay6, k0_pay7]
    simp only [hu0, hu1, hu2, hu3, hw0, hw1, hw2, hw3, ← EReal.coe_mul, ← EReal.coe_add, ← EReal.coe_sub]
    congr 1; ring

theorem out3_at (s : Fin 128) (m : Fin 256) :
    k0_pay19 v160 (k0_pay16 (k0_pay3 u0 w0) (k0_pay4 u1 w1) (k0_pay5 u2 w2) (k0_pay6 u3) w3) (k0_pay17 (k0_pay3 u0 w0) (k0_pay4 u1 w1) (k0_pay5 u2 w2) (k0_pay6 u3) w3) (k0_pay18 (k0_pay3 u0 w0) (k0_pay4 u1 w1) (k0_pay5 u2 w2) (k0_pay6 u3) w3) (ix2 s m)
      = ((∑ n ∈ Finset.range 1024, xf s.val (c + n) * suf (c + n) * sg 10 n (768 + m.val) : ℝ) : EReal) := by
  have hb := butterfly (fun n => xf s.val (c + n) * suf (c + n)) m.val m.isLt true true
  simp only [Bool.toNat_false, Bool.toNat_true, Nat.mul_zero, Nat.mul_one, Nat.zero_add, Nat.add_zero, Nat.reduceAdd, Bool.false_eq_true, if_false, if_true, one_mul, neg_mul, neg_neg] at hb
  rw [hb, ← sumFin 256 (fun n => _)]
  refine (had3_at v160 (subf (subf (k0_pay3 u0 w0) (k0_pay4 u1 w1)) (subf (k0_pay5 u2 w2) (k0_pay7 (k0_pay6 u3) w3)))
    (fun s n =>  xf s.val (c + n.val) * suf (c + n.val) - xf s.val (c + (256 + n.val)) * suf (c + (256 + n.val)) - xf s.val (c + (512 + n.val)) * suf (c + (512 + n.val)) + xf s.val (c + (768 + n.val)) * suf (c + (768 + n.val))) (fun a b => sg 8 a.val b.val) ?_ hh s m)
  · intro s n
    pointwise [k0_pay3, k0_pay4, k0_pay5, k0_pay6, k0_pay7]
    simp only [hu0, hu1, hu2, hu3, hw0, hw1, hw2, hw3, ← EReal.coe_mul, ← EReal.coe_add, ← EReal.coe_sub]
    congr 1; ring

end

end Cert.Proof.KernelIdeal

end

end
-- ==== Proof.KernelIdeal.ValB.lean ====
/- Values in the prologue's outer loop: the transformed activations, block of 1024 columns by block. -/
module

public import proofs.«01_k».proof.Proof.KernelIdeal.ValA
public import proofs.«01_k».proof.Proof.KernelIdeal.ValHad
public import Idealize.ShloMosaic.Lib.Pipeline.ValueKit.Geometry

@[expose] public section

set_option maxRecDepth 65536

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

theorem off1_eq (k : Fin k0_t1_loop.trips) : k0_off1 k 0#32 = ![0, 1024 * k.val] ∧ k0_off1 k 256#32 = ![0, 1024 * k.val + 256] ∧
    k0_off1 k 512#32 = ![0, 1024 * k.val + 512] ∧ k0_off1 k 768#32 = ![0, 1024 * k.val + 768] := by
  revert k; decide +kernel
theorem off2_eq (k : Fin k0_t1_loop.trips) : k0_off2 k 0#32 = ![0, 1024 * k.val] ∧ k0_off2 k 256#32 = ![0, 1024 * k.val + 256] ∧
    k0_off2 k 512#32 = ![0, 1024 * k.val + 512] ∧ k0_off2 k 768#32 = ![0, 1024 * k.val + 768] := by
  revert k; decide +kernel

/-- Columns below `n` of the second result's block hold the transformed activations. -/
def Cols (xf : ℕ → ℕ → ℝ) (suf : ℕ → ℝ) (n : ℕ) (r : S128x4096.Idx → EReal) : Prop :=
  ∀ (s : Fin 128) (k : Fin 4096), k.val < n → r (ix2 s k) = XRv xf suf (ix2 s k)

theorem pay20_at (v : FVec Ideal S128x256 .f32) (s : Fin 128) (m : Fin 256) : k0_pay20 v (ix2 s m) = v (ix2 s m) * (κ : EReal) := by
  pointwise [k0_pay20]; rw [← κ_eq]

/-- The transform before its scale, of row `s` at column `m` of block `g`. -/
def raw (xf : ℕ → ℕ → ℝ) (suf : ℕ → ℝ) (g s m : ℕ) : ℝ := ∑ n ∈ Finset.range 1024, xf s (1024 * g + n) * suf (1024 * g + n) * sg 10 n m

theorem raw_XRr (xf : ℕ → ℕ → ℝ) (suf : ℕ → ℝ) (g s m : ℕ) (h : m < 1024) : (raw xf suf g s m : EReal) * (κ : EReal) = (XRr xf suf s (1024 * g + m) : EReal) := by
  rw [← EReal.coe_mul]; unfold raw XRr
  rw [show (1024 * g + m) / 1024 = g by omega, show (1024 * g + m) % 1024 = m by omega]

theorem piece0_at (o : FVec Ideal S128x256 .f32) (a b : Fin 128) : k0_pay22 o (ix2 a b) = o (ix2 b ⟨0 + a.val, by omega⟩) * (κ : EReal) := by
  rw [← κ_eq]; pointwise [k0_pay22, k0_pay21, k0_pay20]

theorem piece1_at (o : FVec Ideal S128x256 .f32) (a b : Fin 128) : k0_pay23 o (ix2 a b) = o (ix2 b ⟨128 + a.val, by omega⟩) * (κ : EReal) := by
  rw [← κ_eq]; pointwise [k0_pay23, k0_pay21, k0_pay20]

theorem piece2_at (o : FVec Ideal S128x256 .f32) (a b : Fin 128) : k0_pay26 o (ix2 a b) = o (ix2 b ⟨0 + a.val, by omega⟩) * (κ : EReal) := by
  rw [← κ_eq]; pointwise [k0_pay26, k0_pay25, k0_pay24]

theorem piece3_at (o : FVec Ideal S128x256 .f32) (a b : Fin 128) : k0_pay28 (k0_pay27 o) (ix2 a b) = o (ix2 b ⟨128 + a.val, by omega⟩) * (κ : EReal) := by
  rw [← κ_eq]; pointwise [k0_pay28, k0_pay27, k0_pay25, k0_pay24]

theorem piece4_at (o : FVec Ideal S128x256 .f32) (a b : Fin 128) : k0_pay31 o (ix2 a b) = o (ix2 b ⟨0 + a.val, by omega⟩) * (κ : EReal) := by
  rw [← κ_eq]; pointwise [k0_pay31, k0_pay30, k0_pay29]

theorem piece5_at (o : FVec Ideal S128x256 .f32) (a b : Fin 128) : k0_pay32 o (ix2 a b) = o (ix2 b ⟨128 + a.val, by omega⟩) * (κ : EReal) := by
  rw [← κ_eq]; pointwise [k0_pay32, k0_pay30, k0_pay29]

theorem piece6_at (o : FVec Ideal S128x256 .f32) (a b : Fin 128) : k0_pay35 o (ix2 a b) = o (ix2 b ⟨0 + a.val, by omega⟩) * (κ : EReal) := by
  rw [← κ_eq]; pointwise [k0_pay35, k0_pay34, k0_pay33]

theorem piece7_at (o : FVec Ideal S128x256 .f32) (a b : Fin 128) : k0_pay217 (k0_pay36 o) (ix2 a b) = o (ix2 b ⟨128 + a.val, by omega⟩) * (κ : EReal) := by
  rw [← κ_eq]; pointwise [k0_pay217, k0_pay36, k0_pay34, k0_pay33]

section
variable (xf : ℕ → ℕ → ℝ) (suf : ℕ → ℝ) (g : ℕ) (hg : g < 4) (o0 o1 o2 o3 : FVec Ideal S128x256 .f32)
  (h0 : ∀ (s : Fin 128) (m : Fin 256), o0 (ix2 s m) = (raw xf suf g s.val m.val : EReal))
  (h1 : ∀ (s : Fin 128) (m : Fin 256), o1 (ix2 s m) = (raw xf suf g s.val (256 + m.val) : EReal))
  (h2 : ∀ (s : Fin 128) (m : Fin 256), o2 (ix2 s m) = (raw xf suf g s.val (512 + m.val) : EReal))
  (h3 : ∀ (s : Fin 128) (m : Fin 256), o3 (ix2 s m) = (raw xf suf g s.val (768 + m.val) : EReal))
include hg h0 h1 h2 h3

theorem tmp_step {sp11 : Space} (M11 : Memref sig .tc sp11 S1024x128 .f32) (f11 : BufTy.Contents (Elt Ideal) M11.view.ty) {j0 j1 j2 j3 j4 j5 j6 j7} :
    Tmp (XRv xf suf) g (M11.view.read (Elt Ideal) (M11.view.writes (Elt Ideal) f11
      [⟨Rect.unit (s := S1024x128) ![896, 0] S128x128.size j7, k0_pay217 (k0_pay36 o3)⟩,
       ⟨Rect.unit (s := S1024x128) ![768, 0] S128x128.size j6, k0_pay35 o3⟩,
       ⟨Rect.unit (s := S1024x128) ![640, 0] S128x128.size j5, k0_pay32 o2⟩,
       ⟨Rect.unit (s := S1024x128) ![512, 0] S128x128.size j4, k0_pay31 o2⟩,
       ⟨Rect.unit (s := S1024x128) ![384, 0] S128x128.size j3, k0_pay28 (k0_pay27 o1)⟩,
       ⟨Rect.unit (s := S1024x128) ![256, 0] S128x128.size j2, k0_pay26 o1⟩,
       ⟨Rect.unit (s := S1024x128) ![128, 0] S128x128.size j1, k0_pay23 o0⟩,
       ⟨Rect.unit (s := S1024x128) ![0, 0] S128x128.size j0, k0_pay22 o0⟩])) := by
  intro k t hk
  refine (View.read_writes_apply_of_pieces M11.view f11 (fun y => (XRr xf suf (y 1).val (1024 * g + (y 0).val) : EReal)) _ ?_ (ix2 k t) ?_).trans rfl
  · simp only [List.forall_mem_cons, List.not_mem_nil, false_imp_iff, implies_true, and_true]
    refine ⟨?_, ?_, ?_, ?_, ?_, ?_, ?_, ?_⟩ <;> intro x <;> obtain ⟨a, b, rfl⟩ : ∃ (a : Fin 128) (b : Fin 128), x = ix2 a b := ⟨x 0, x 1, eq_ix2 x⟩
    · rw [piece7_at, h3, raw_XRr _ _ _ _ _ (by simp only []; omega), ValueKit.rect_emb_unit_val, ValueKit.rect_emb_unit_val]
      simp; try (congr 1; omega)
    · rw [piece6_at, h3, raw_XRr _ _ _ _ _ (by simp only []; omega), ValueKit.rect_emb_unit_val, ValueKit.rect_emb_unit_val]
      simp; try (congr 1; omega)
    · rw [piece5_at, h2, raw_XRr _ _ _ _ _ (by simp only []; omega), ValueKit.rect_emb_unit_val, ValueKit.rect_emb_unit_val]
      simp; try (congr 1; omega)
    · rw [piece4_at, h2, raw_XRr _ _ _ _ _ (by simp only []; omega), ValueKit.rect_emb_unit_val, ValueKit.rect_emb_unit_val]
      simp; try (congr 1; omega)
    · rw [piece3_at, h1, raw_XRr _ _ _ _ _ (by simp only []; omega), ValueKit.rect_emb_unit_val, ValueKit.rect_emb_unit_val]
      simp; try (congr 1; omega)
    · rw [piece2_at, h1, raw_XRr _ _ _ _ _ (by simp only []; omega), ValueKit.rect_emb_unit_val, ValueKit.rect_emb_unit_val]
      simp; try (congr 1; omega)
    · rw [piece1_at, h0, raw_XRr _ _ _ _ _ (by simp only []; omega), ValueKit.rect_emb_unit_val, ValueKit.rect_emb_unit_val]
      simp; try (congr 1; omega)
    · rw [piece0_at, h0, raw_XRr _ _ _ _ _ (by simp only []; omega), ValueKit.rect_emb_unit_val, ValueKit.rect_emb_unit_val]
      simp; try (congr 1; omega)
  · simp only [List.exists_mem_cons_iff, List.not_mem_nil, _root_.false_and, exists_false, _root_.or_false, Rect.mem_set_unit, Fin.forall_fin_two]
    have := t.isLt
    have := k.isLt
    simp
    omega

theorem cols_step {sp8 : Space} (M8 : Memref sig .tc sp8 S128x4096 .bf16) (f8 : BufTy.Contents (Elt Ideal) M8.view.ty) {off0 off1 off2 off3}
    (e0 : off0 = ![0, 1024 * g]) (e1 : off1 = ![0, 1024 * g + 256]) (e2 : off2 = ![0, 1024 * g + 512]) (e3 : off3 = ![0, 1024 * g + 768]) {j0 j1 j2 j3}
    (h : Cols xf suf (1024 * g) (M8.view.read (Elt Ideal) f8)) :
    Cols xf suf (1024 * (g + 1)) (M8.view.read (Elt Ideal) (M8.view.writes (Elt Ideal) f8
      [⟨Rect.unit (s := S128x4096) off3 S128x256.size j3, k0_pay33 o3⟩,
       ⟨Rect.unit (s := S128x4096) off2 S128x256.size j2, k0_pay29 o2⟩,
       ⟨Rect.unit (s := S128x4096) off1 S128x256.size j1, k0_pay24 o1⟩,
       ⟨Rect.unit (s := S128x4096) off0 S128x256.size j0, k0_pay20 o0⟩])) := by
  subst e0 e1 e2 e3
  intro s k hk
  by_cases hlt : k.val < 1024 * g
  · refine (View.read_writes_apply_of_forall_not_mem M8.view f8 (ix2 s k) _ ?_).trans (h s k hlt)
    simp only [List.forall_mem_cons, List.not_mem_nil, false_imp_iff, implies_true, and_true, Rect.mem_set_unit, Fin.forall_fin_two]
    simp
    omega
  · refine (View.read_writes_apply_of_pieces M8.view f8 (XRv xf suf) _ ?_ (ix2 s k) ?_)
    · simp only [List.forall_mem_cons, List.not_mem_nil, false_imp_iff, implies_true, and_true]
      refine ⟨?_, ?_, ?_, ?_⟩ <;> intro x <;> obtain ⟨a, b, rfl⟩ : ∃ (a : Fin 128) (b : Fin 256), x = ix2 a b := ⟨x 0, x 1, eq_ix2 x⟩
      · show k0_pay20 o3 (ix2 a b) = _
        rw [pay20_at, h3, raw_XRr _ _ _ _ _ (by omega)]; unfold XRv; rw [ValueKit.rect_emb_unit_val, ValueKit.rect_emb_unit_val]; simp; try (congr 1; omega)
      · show k0_pay20 o2 (ix2 a b) = _
        rw [pay20_at, h2, raw_XRr _ _ _ _ _ (by omega)]; unfold XRv; rw [ValueKit.rect_emb_unit_val, ValueKit.rect_emb_unit_val]; simp; try (congr 1; omega)
      · show k0_pay20 o1 (ix2 a b) = _
        rw [pay20_at, h1, raw_XRr _ _ _ _ _ (by omega)]; unfold XRv; rw [ValueKit.rect_emb_unit_val, ValueKit.rect_emb_unit_val]; simp; try (congr 1; omega)
      · rw [pay20_at, h0, raw_XRr _ _ _ _ _ (by omega)]; unfold XRv; rw [ValueKit.rect_emb_unit_val, ValueKit.rect_emb_unit_val]; simp
    · simp only [List.exists_mem_cons_iff, List.not_mem_nil, _root_.false_and, exists_false, _root_.or_false, Rect.mem_set_unit, Fin.forall_fin_two]
      have := s.isLt
      simp
      omega

end

/-- The activations and their scales are the reals `xf` and `suf`. -/
def In1 (xf : ℕ → ℕ → ℝ) (suf : ℕ → ℝ) (r1 : S128x4096.Idx → EReal) (r5 : S1x4096.Idx → EReal) : Prop :=
  (∀ (s : Fin 128) (k : Fin 4096), r1 (ix2 s k) = (xf s.val k.val : EReal)) ∧ ∀ k : Fin 4096, r5 (ix2 0 k) = (suf k.val : EReal)

/-- The matrix of signs. -/
def HadM (h : S256x256.Idx → EReal) : Prop := ∀ a b : Fin 256, h (ix2 a b) = ((sg 8 a.val b.val : ℝ) : EReal)

@[simp] theorem Cols_zero (xf : ℕ → ℕ → ℝ) (suf : ℕ → ℝ) (r : S128x4096.Idx → EReal) : Cols xf suf 0 r := fun _ _ h => absurd h (Nat.not_lt_zero _)
@[simp] theorem Rows_zero (XR : S128x4096.Idx → EReal) (r : S4096x128.Idx → EReal) : Rows XR 0 r := fun _ _ h => absurd h (Nat.not_lt_zero _)

section
variable {sp1 sp5 : Space} (M1 : Memref sig .tc sp1 S128x4096 .bf16) (M5 : Memref sig .tc sp5 S1x4096 .f32) (X1 : BufTy.Contents (Elt Ideal) M1.view.ty)
    (X5 : BufTy.Contents (Elt Ideal) M5.view.ty) (xf : ℕ → ℕ → ℝ) (suf : ℕ → ℝ) (h : In1 xf suf (M1.view.read (Elt Ideal) X1) (M5.view.read (Elt Ideal) X5))
include h

theorem ld1 {off : Fin 2 → ℕ} {j} (c : ℕ) (ho : off = ![0, c]) (hc : c + 256 ≤ 4096) (s : Fin 128) (n : Fin 256) :
    M1.view.readAt (Elt Ideal) (Rect.unit (s := S128x4096) off S128x256.size j).toLoadRect X1 (ix2 s n) = (xf s.val (c + n.val) : EReal) := by
  subst ho
  refine (readAt_at M1 X1 (Rect.unit (s := S128x4096) ![0, c] S128x256.size j).toLoadRect (ix2 s n) (ix2 s ⟨c + n.val, by omega⟩) rfl ?_).trans (h.1 _ _)
  intro a; fin_cases a <;> simp

theorem ld5 {off : Fin 2 → ℕ} {j} (c : ℕ) (ho : off = ![0, c]) (hc : c + 256 ≤ 4096) (n : Fin 256) :
    M5.view.readAt (Elt Ideal) (Rect.unit (s := S1x4096) off S1x256.size j).toLoadRect X5 (ix2 0 n) = (suf (c + n.val) : EReal) := by
  subst ho
  refine (readAt_at M5 X5 (Rect.unit (s := S1x4096) ![0, c] S1x256.size j).toLoadRect (ix2 (0 : Fin 1) n) (ix2 0 ⟨c + n.val, by omega⟩) rfl ?_).trans (h.2 _)
  intro a; fin_cases a <;> simp
end

@[sl_loop] def valInv_k0_t1 (c : Dev nD) (i : grid0.Coords) (arg1 : Memref sig .tc .vmem S128x4096 .bf16) (harg1 : arg1.IsWhole) (arg2 : Memref sig .tc .vmem S1024x512 .i16) (harg2 : arg2.IsWhole) (arg3 : Memref sig .tc .vmem S1x1024 .f32) (harg3 : arg3.IsWhole) (arg4 : Memref sig .tc .vmem S1024x16 .f32) (harg4 : arg4.IsWhole) (arg5 : Memref sig .tc .vmem S1x4096 .f32) (harg5 : arg5.IsWhole) (arg6 : Memref sig .tc .vmem S1x1024 .f32) (harg6 : arg6.IsWhole) (arg7 : Memref sig .tc .vmem S128x1024 .bf16) (harg7 : arg7.IsWhole) (arg8 : Memref sig .tc .vmem S128x4096 .bf16) (harg8 : arg8.IsWhole) (arg9 : Memref sig .tc .vmem S256x256 .bf16) (harg9 : arg9.IsWhole) (arg10 : Memref sig .tc .vmem S4096x128 .bf16) (harg10 : arg10.IsWhole) (arg11 : Memref sig .tc .vmem S1024x128 .f32) (harg11 : arg11.IsWhole) (arg12 : Memref sig .tc .vmem S4x1024x128 .bf16) (harg12 : arg12.IsWhole) (arg13 : Memref sig .tc .vmem S2x8x256x128 .bf16) (harg13 : arg13.IsWhole) (arg14 : Memref sig .tc .vmem S1024x128 .f32) (harg14 : arg14.IsWhole) (k0_h1 : k0_cond1 i = 1#1) (v160 : Vec Ideal S256x256 .bf16)
    (X1 : BufTy.Contents (Elt Ideal) arg1.view.ty) (X5 : BufTy.Contents (Elt Ideal) arg5.view.ty) :
    VTy_k0_t1 (F := Ideal) Unit ℕ (UR sig nD τ) ℕ 𝒱v c none Set.univ i arg1 harg1 arg2 harg2 arg3 harg3 arg4 harg4 arg5 harg5 arg6 harg6 arg7 harg7 arg8 harg8 arg9 harg9 arg10 harg10 arg11 harg11 arg12 harg12 arg13 harg13 arg14 harg14 k0_h1 v160 where
  inv := fun k acc => iprop(∃ f8 f10, (arg1.view.loc (c : Thread nD τ) ↦[arg1.view.set]{fullShare} X1) ∗
    (arg5.view.loc (c : Thread nD τ) ↦[arg5.view.set]{fullShare} X5) ∗
    (arg8.view.loc (c : Thread nD τ) ↦[arg8.view.set]{fullShare} f8) ∗
    (∃ f11, (arg11.view.loc (c : Thread nD τ) ↦[arg11.view.set]{fullShare} f11)) ∗
    (arg10.view.loc (c : Thread nD τ) ↦[arg10.view.set]{fullShare} f10) ∗
    ⌜∀ xf suf, In1 xf suf (arg1.view.read (Elt Ideal) X1) (arg5.view.read (Elt Ideal) X5) → HadM v160 →
      Cols xf suf (1024 * k) (arg8.view.read (Elt Ideal) f8) ∧ Rows (XRv xf suf) (1024 * k) (arg10.view.read (Elt Ideal) f10)⌝)
  step := fun k acc => by
    iintro ⟨%f8, %f10, H1, H5, H8, ⟨%f11, H11⟩, H10, %hI⟩
    unfold k0_t1_body
    sl_exec
    sl_step
    iexists _, f10L0
    isplitl [H1]; · iexact H1
    isplitl [H5]; · iexact H5
    isplitl [H8]; · iexact H8
    isplitl [H11]; · iexists _; iexact H11
    isplitl [H10]; · iexact H10
    ipureintro
    intro xf suf h1 hh
    obtain ⟨hc, hr⟩ := hI xf suf h1 hh
    have hk : k.val < 4 := k.isLt
    obtain ⟨e0, e1, e2, e3⟩ := off1_eq k
    obtain ⟨g0, g1, g2, g3⟩ := off2_eq k
    have A0 : ∀ (s : Fin 128) (n : Fin 256), arg1.view.readAt (Elt Ideal) (Rect.unit (s := S128x4096) (k0_off1 k 0#32) S128x256.size (k0_off1_inb i k k0_h1 0)).toLoadRect X1 (ix2 s n) = (xf s.val (1024 * k.val + n.val) : EReal) :=
      fun s n => (ld1 arg1 arg5 X1 X5 xf suf h1 _ e0 (by omega) s n)
    have B0 : ∀ (n : Fin 256), arg5.view.readAt (Elt Ideal) (Rect.unit (s := S1x4096) (k0_off2 k 0#32) S1x256.size (k0_off2_inb i k k0_h1 0)).toLoadRect X5 (ix2 0 n) = (suf (1024 * k.val + n.val) : EReal) :=
      fun n => (ld5 arg1 arg5 X1 X5 xf suf h1 _ g0 (by omega) n)
    have A1 : ∀ (s : Fin 128) (n : Fin 256), arg1.view.readAt (Elt Ideal) (Rect.unit (s := S128x4096) (k0_off1 k 256#32) S128x256.size (k0_off1_inb i k k0_h1 1)).toLoadRect X1 (ix2 s n) = (xf s.val (1024 * k.val + (256 + n.val)) : EReal) :=
      fun s n => (ld1 arg1 arg5 X1 X5 xf suf h1 _ e1 (by omega) s n).trans (by rw [Nat.add_assoc])
    have B1 : ∀ (n : Fin 256), arg5.view.readAt (Elt Ideal) (Rect.unit (s := S1x4096) (k0_off2 k 256#32) S1x256.size (k0_off2_inb i k k0_h1 1)).toLoadRect X5 (ix2 0 n) = (suf (1024 * k.val + (256 + n.val)) : EReal) :=
      fun n => (ld5 arg1 arg5 X1 X5 xf suf h1 _ g1 (by omega) n).trans (by rw [Nat.add_assoc])
    have A2 : ∀ (s : Fin 128) (n : Fin 256), arg1.view.readAt (Elt Ideal) (Rect.unit (s := S128x4096) (k0_off1 k 512#32) S128x256.size (k0_off1_inb i k k0_h1 2)).toLoadRect X1 (ix2 s n) = (xf s.val (1024 * k.val + (512 + n.val)) : EReal) :=
      fun s n => (ld1 arg1 arg5 X1 X5 xf suf h1 _ e2 (by omega) s n).trans (by rw [Nat.add_assoc])
    have B2 : ∀ (n : Fin 256), arg5.view.readAt (Elt Ideal) (Rect.unit (s := S1x4096) (k0_off2 k 512#32) S1x256.size (k0_off2_inb i k k0_h1 2)).toLoadRect X5 (ix2 0 n) = (suf (1024 * k.val + (512 + n.val)) : EReal) :=
      fun n => (ld5 arg1 arg5 X1 X5 xf suf h1 _ g2 (by omega) n).trans (by rw [Nat.add_assoc])
    have A3 : ∀ (s : Fin 128) (n : Fin 256), arg1.view.readAt (Elt Ideal) (Rect.unit (s := S128x4096) (k0_off1 k 768#32) S128x256.size (k0_off1_inb i k k0_h1 3)).toLoadRect X1 (ix2 s n) = (xf s.val (1024 * k.val + (768 + n.val)) : EReal) :=
      fun s n => (ld1 arg1 arg5 X1 X5 xf suf h1 _ e3 (by omega) s n).trans (by rw [Nat.add_assoc])
    have B3 : ∀ (n : Fin 256), arg5.view.readAt (Elt Ideal) (Rect.unit (s := S1x4096) (k0_off2 k 768#32) S1x256.size (k0_off2_inb i k k0_h1 3)).toLoadRect X5 (ix2 0 n) = (suf (1024 * k.val + (768 + n.val)) : EReal) :=
      fun n => (ld5 arg1 arg5 X1 X5 xf suf h1 _ g3 (by omega) n).trans (by rw [Nat.add_assoc])

    sl_unfold_run_names
    refine ⟨cols_step xf suf k.val hk _ _ _ _ ?_ ?_ ?_ ?_ arg8 f8 e0 e1 e2 e3 hc, ?_⟩
    · exact out0_at _ _ _ _ _ _ _ _ _ xf suf _ hh A0 A1 A2 A3 B0 B1 B2 B3
    · exact out1_at _ _ _ _ _ _ _ _ _ xf suf _ hh A0 A1 A2 A3 B0 B1 B2 B3
    · exact out2_at _ _ _ _ _ _ _ _ _ xf suf _ hh A0 A1 A2 A3 B0 B1 B2 B3
    · exact out3_at _ _ _ _ _ _ _ _ _ xf suf _ hh A0 A1 A2 A3 B0 B1 B2 B3
    have e : 1024 * k.val + 128 * Scf.trips k0_t2_loop.lb k0_t2_loop.ub k0_t2_loop.st = 1024 * (k.val + 1) := by
      have : Scf.trips k0_t2_loop.lb k0_t2_loop.ub k0_t2_loop.st = 8 := rfl
      omega
    rw [e] at hL3
    refine hL3 (XRv xf suf) ?_ hr
    sl_unfold_run_names
    refine tmp_step xf suf k.val hk _ _ _ _ ?_ ?_ ?_ ?_ arg11 _
    · exact out0_at _ _ _ _ _ _ _ _ _ xf suf _ hh A0 A1 A2 A3 B0 B1 B2 B3
    · exact out1_at _ _ _ _ _ _ _ _ _ xf suf _ hh A0 A1 A2 A3 B0 B1 B2 B3
    · exact out2_at _ _ _ _ _ _ _ _ _ xf suf _ hh A0 A1 A2 A3 B0 B1 B2 B3
    · exact out3_at _ _ _ _ _ _ _ _ _ xf suf _ hh A0 A1 A2 A3 B0 B1 B2 B3

end Cert.Proof.KernelIdeal

end

end
-- ==== Proof.KernelIdeal.ValY.lean ====
/- The last stage at an index: row scale, transform, column scale; and the spread of the group scales. -/
module

public import proofs.«01_k».proof.Proof.KernelIdeal.ValB

@[expose] public section

set_option maxRecDepth 65536

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

section
variable (v38 : Vec Ideal S256x256 .bf16) (v39 : Vec Ideal S1024x128 .f32) (v41 : Vec Ideal S1x1024 .f32)

theorem pay228_at (s : Fin 128) (n : Fin 256) : k0_pay228 v39 v41 (ix2 s n) = v39 (ix2 ⟨0 + n.val, by omega⟩ s) * v41 (ix2 0 ⟨0 + n.val, by omega⟩) := by
  pointwise [k0_pay227, k0_pay228]

theorem pay229_at (s : Fin 128) (n : Fin 256) : k0_pay229 v39 v41 (ix2 s n) = v39 (ix2 ⟨256 + n.val, by omega⟩ s) * v41 (ix2 0 ⟨256 + n.val, by omega⟩) := by
  pointwise [k0_pay227, k0_pay229]

theorem pay230_at (s : Fin 128) (n : Fin 256) : k0_pay230 v39 v41 (ix2 s n) = v39 (ix2 ⟨512 + n.val, by omega⟩ s) * v41 (ix2 0 ⟨512 + n.val, by omega⟩) := by
  pointwise [k0_pay227, k0_pay230]

theorem pay231_at (s : Fin 128) (n : Fin 256) : k0_pay231 v39 v41 (ix2 s n) = v39 (ix2 ⟨768 + n.val, by omega⟩ s) * v41 (ix2 0 ⟨768 + n.val, by omega⟩) := by
  pointwise [k0_pay227, k0_pay231]

theorem pay247_at (v : FVec Ideal S128x256 .f32) (w : Vec Ideal S1x256 .f32) (s : Fin 128) (m : Fin 256) : k0_pay247 v w (ix2 s m) = v (ix2 s m) * (κ : EReal) * w (ix2 0 m) := by
  pointwise [k0_pay247]; rw [← κ_eq]

theorem pay1_at (v : FVec Ideal S128x256 .f32) (w : Vec Ideal S1x256 .f32) (s : Fin 128) (m : Fin 256) : k0_pay1 v w (ix2 s m) = v (ix2 s m) * (κ : EReal) * w (ix2 0 m) := by
  pointwise [k0_pay1]; rw [← κ_eq]

theorem pay2_at (v : FVec Ideal S128x256 .f32) (w : Vec Ideal S1x256 .f32) (s : Fin 128) (m : Fin 256) : k0_pay2 v w (ix2 s m) = v (ix2 s m) * (κ : EReal) * w (ix2 0 m) := by
  pointwise [k0_pay2]; rw [← κ_eq]

theorem had239 : k0_pay239 v38 v39 v41 = had3 v38 (addf (k0_pay232 v39 v41) (k0_pay234 v39 v41)) := rfl
theorem had248 (w : Vec Ideal S1x256 .f32) : k0_pay248 v38 (k0_pay242 v39 v41) (k0_pay243 v39 v41) (k0_pay244 v38 v39 v41) w = k0_pay247 (had3 v38 (k0_pay236 v39 v41)) w := rfl
theorem had245 (z : FVec Ideal S128x256 .f32) : k0_pay245 v38 z = had3 v38 z := rfl
theorem had246 (z : FVec Ideal S128x256 .f32) : k0_pay246 v38 z = had3 v38 z := rfl

variable (A : ℕ → ℕ → ℝ) (rs : ℕ → ℝ) (sv : ℕ → EReal)
  (hh : ∀ a b : Fin 256, v38 (ix2 a b) = ((sg 8 a.val b.val : ℝ) : EReal))
  (hA : ∀ (o : Fin 1024) (s : Fin 128), v39 (ix2 o s) = (A o.val s.val : EReal))
  (hr : ∀ (o : Fin 1024), v41 (ix2 0 o) = (rs o.val : EReal))

/-- The output of a tile of 1024 columns. -/
def ytile (s n : ℕ) : EReal := (((∑ o ∈ Finset.range 1024, A o s * rs o * sg 10 o n) * κ : ℝ) : EReal) * sv n

include hh hA hr

theorem y0_at (w : Vec Ideal S1x256 .f32) (hs : ∀ m : Fin 256, w (ix2 0 m) = (sv m.val : EReal)) (s : Fin 128) (m : Fin 256) :
    k0_pay247 (k0_pay239 v38 v39 v41) w (ix2 s m) = ytile A rs sv s.val m.val := by
  have hb := butterfly (fun n => A n s.val * rs n) m.val m.isLt false false
  simp only [Bool.toNat_false, Bool.toNat_true, Nat.mul_zero, Nat.mul_one, Nat.zero_add, Nat.add_zero, Nat.reduceAdd, Bool.false_eq_true, if_false, if_true, one_mul, neg_mul, neg_neg] at hb
  rw [had239, pay247_at, hs]
  unfold ytile
  rw [hb, ← sumFin 256 (fun n => _), EReal.coe_mul]
  refine congrArg (fun x : EReal => x * (κ : EReal) * (sv m.val : EReal)) ?_
  refine (had3_at v38 (addf (k0_pay232 v39 v41) (k0_pay234 v39 v41))
    (fun s n => A n.val s.val * rs n.val + A (256 + n.val) s.val * rs (256 + n.val) + A (512 + n.val) s.val * rs (512 + n.val) + A (768 + n.val) s.val * rs (768 + n.val)) (fun a b => sg 8 a.val b.val) ?_ hh s m).trans ?_
  · intro s n
    have key (a b c d : FVec Ideal S128x256 .f32) (j : S128x256.Idx) : addf (addf a b) (addf c d) j = HAdd.hAdd (γ := EReal) (HAdd.hAdd (γ := EReal) (a j : EReal) (b j : EReal)) (HAdd.hAdd (γ := EReal) (c j : EReal) (d j : EReal)) := rfl
    refine (key (k0_pay228 v39 v41) (k0_pay229 v39 v41) (k0_pay230 v39 v41) (k0_pay231 v39 v41) (ix2 s n)).trans ?_
    simp only [pay228_at, pay229_at, pay230_at, pay231_at, hA, hr, ← EReal.coe_mul, ← EReal.coe_add, ← EReal.coe_sub, Nat.zero_add]
    congr 1; ring
  · refine congrArg _ (Finset.sum_congr rfl fun n _ => ?_)
    ring

theorem y1_at (w : Vec Ideal S1x256 .f32) (hs : ∀ m : Fin 256, w (ix2 0 m) = (sv (256 + m.val) : EReal)) (s : Fin 128) (m : Fin 256) :
    k0_pay248 v38 (k0_pay242 v39 v41) (k0_pay243 v39 v41) (k0_pay244 v38 v39 v41) w (ix2 s m) = ytile A rs sv s.val (256 + m.val) := by
  have hb := butterfly (fun n => A n s.val * rs n) m.val m.isLt false true
  simp only [Bool.toNat_false, Bool.toNat_true, Nat.mul_zero, Nat.mul_one, Nat.zero_add, Nat.add_zero, Nat.reduceAdd, Bool.false_eq_true, if_false, if_true, one_mul, neg_mul, neg_neg] at hb
  rw [had248, pay247_at, hs]
  unfold ytile
  rw [hb, ← sumFin 256 (fun n => _), EReal.coe_mul]
  refine congrArg (fun x : EReal => x * (κ : EReal) * (sv (256 + m.val) : EReal)) ?_
  refine (had3_at v38 (k0_pay236 v39 v41)
    (fun s n => A n.val s.val * rs n.val - A (256 + n.val) s.val * rs (256 + n.val) + A (512 + n.val) s.val * rs (512 + n.val) - A (768 + n.val) s.val * rs (768 + n.val)) (fun a b => sg 8 a.val b.val) ?_ hh s m).trans ?_
  · intro s n
    have key (a b c d : FVec Ideal S128x256 .f32) (j : S128x256.Idx) : addf (subf a b) (subf c d) j = HAdd.hAdd (γ := EReal) (HSub.hSub (γ := EReal) (a j : EReal) (b j : EReal)) (HSub.hSub (γ := EReal) (c j : EReal) (d j : EReal)) := rfl
    refine (key (k0_pay228 v39 v41) (k0_pay229 v39 v41) (k0_pay230 v39 v41) (k0_pay231 v39 v41) (ix2 s n)).trans ?_
    simp only [pay228_at, pay229_at, pay230_at, pay231_at, hA, hr, ← EReal.coe_mul, ← EReal.coe_add, ← EReal.coe_sub, Nat.zero_add]
    congr 1; ring
  · refine congrArg _ (Finset.sum_congr rfl fun n _ => ?_)
    ring

theorem y2_at (w : Vec Ideal S1x256 .f32) (hs : ∀ m : Fin 256, w (ix2 0 m) = (sv (512 + m.val) : EReal)) (s : Fin 128) (m : Fin 256) :
    k0_pay1 (k0_pay245 v38 (k0_pay237 v39 v41)) w (ix2 s m) = ytile A rs sv s.val (512 + m.val) := by
  have hb := butterfly (fun n => A n s.val * rs n) m.val m.isLt true false
  simp only [Bool.toNat_false, Bool.toNat_true, Nat.mul_zero, Nat.mul_one, Nat.zero_add, Nat.add_zero, Nat.reduceAdd, Bool.false_eq_true, if_false, if_true, one_mul, neg_mul, neg_neg] at hb
  rw [had245, pay1_at, hs]
  unfold ytile
  rw [hb, ← sumFin 256 (fun n => _), EReal.coe_mul]
  refine congrArg (fun x : EReal => x * (κ : EReal) * (sv (512 + m.val) : EReal)) ?_
  refine (had3_at v38 (k0_pay237 v39 v41)
    (fun s n => A n.val s.val * rs n.val + A (256 + n.val) s.val * rs (256 + n.val) - A (512 + n.val) s.val * rs (512 + n.val) - A (768 + n.val) s.val * rs (768 + n.val)) (fun a b => sg 8 a.val b.val) ?_ hh s m).trans ?_
  · intro s n
    have key (a b c d : FVec Ideal S128x256 .f32) (j : S128x256.Idx) : subf (addf a b) (addf c d) j = HSub.hSub (γ := EReal) (HAdd.hAdd (γ := EReal) (a j : EReal) (b j : EReal)) (HAdd.hAdd (γ := EReal) (c j : EReal) (d j : EReal)) := rfl
    refine (key (k0_pay228 v39 v41) (k0_pay229 v39 v41) (k0_pay230 v39 v41) (k0_pay231 v39 v41) (ix2 s n)).trans ?_
    simp only [pay228_at, pay229_at, pay230_at, pay231_at, hA, hr, ← EReal.coe_mul, ← EReal.coe_add, ← EReal.coe_sub, Nat.zero_add]
    congr 1; ring
  · refine congrArg _ (Finset.sum_congr rfl fun n _ => ?_)
    ring

theorem y3_at (w : Vec Ideal S1x256 .f32) (hs : ∀ m : Fin 256, w (ix2 0 m) = (sv (768 + m.val) : EReal)) (s : Fin 128) (m : Fin 256) :
    k0_pay2 (k0_pay246 v38 (k0_pay238 v39 v41)) w (ix2 s m) = ytile A rs sv s.val (768 + m.val) := by
  have hb := butterfly (fun n => A n s.val * rs n) m.val m.isLt true true
  simp only [Bool.toNat_false, Bool.toNat_true, Nat.mul_zero, Nat.mul_one, Nat.zero_add, Nat.add_zero, Nat.reduceAdd, Bool.false_eq_true, if_false, if_true, one_mul, neg_mul, neg_neg] at hb
  rw [had246, pay2_at, hs]
  unfold ytile
  rw [hb, ← sumFin 256 (fun n => _), EReal.coe_mul]
  refine congrArg (fun x : EReal => x * (κ : EReal) * (sv (768 + m.val) : EReal)) ?_
  refine (had3_at v38 (k0_pay238 v39 v41)
    (fun s n => A n.val s.val * rs n.val - A (256 + n.val) s.val * rs (256 + n.val) - A (512 + n.val) s.val * rs (512 + n.val) + A (768 + n.val) s.val * rs (768 + n.val)) (fun a b => sg 8 a.val b.val) ?_ hh s m).trans ?_
  · intro s n
    have key (a b c d : FVec Ideal S128x256 .f32) (j : S128x256.Idx) : subf (subf a b) (subf c d) j = HSub.hSub (γ := EReal) (HSub.hSub (γ := EReal) (a j : EReal) (b j : EReal)) (HSub.hSub (γ := EReal) (c j : EReal) (d j : EReal)) := rfl
    refine (key (k0_pay228 v39 v41) (k0_pay229 v39 v41) (k0_pay230 v39 v41) (k0_pay231 v39 v41) (ix2 s n)).trans ?_
    simp only [pay228_at, pay229_at, pay230_at, pay231_at, hA, hr, ← EReal.coe_mul, ← EReal.coe_add, ← EReal.coe_sub, Nat.zero_add]
    congr 1; ring
  · refine congrArg _ (Finset.sum_congr rfl fun n _ => ?_)
    ring

end

/-- The group scales spread over the lanes. -/
theorem pay220_at (v17 : Vec Ideal S1024x16 .f32) (G : ℕ → ℕ → ℝ) (hG : ∀ (o : Fin 1024) (g : Fin 16), v17 (ix2 o g) = (G o.val g.val : EReal)) (o : Fin 1024) (c : Fin 512) :
    k0_pay220 v17 (ix2 o c) = (G o.val (c.val / 32) : EReal) := by
  pointwise [k0_pay220]
  have key : ∀ (c : Fin 512) (x : Fin 16), IntOp.cmpi CmpIPredicate.eq (IntOp.shrui ArithUnit.vector (BitVec.ofNat 32 c.val) 5#32) (BitVec.ofNat 32 x.val) = if x.val = c.val / 32 then 1#1 else 0#1 := by
    decide +kernel
  have hc : c.val / 32 < 16 := by omega
  rw [Finset.sum_eq_single (⟨c.val / 32, hc⟩ : Fin 16)]
  · rw [key, if_pos rfl, hG]; rfl
  · intro x _ hx
    rw [key, if_neg (fun h => hx (Fin.ext h))]; rfl
  · intro h; exact absurd (Finset.mem_univ _) h

end Cert.Proof.KernelIdeal

end

end
-- ==== Proof.KernelIdeal.ValI0.lean ====
/- The stores of the scales and of the output tile, read back. -/
module

public import proofs.«01_k».proof.Proof.KernelIdeal.ValY

@[expose] public section

set_option maxRecDepth 65536

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

theorem pay221_at (v17 : Vec Ideal S1024x16 .f32) (o : Fin 1024) (l : Fin 128) : k0_pay221 v17 (ix3 0 o l) = k0_pay220 v17 (ix2 o ⟨0 + l.val, by omega⟩) := by
  pointwise [k0_pay221]

theorem pay222_at (v17 : Vec Ideal S1024x16 .f32) (o : Fin 1024) (l : Fin 128) : k0_pay222 v17 (ix3 0 o l) = k0_pay220 v17 (ix2 o ⟨128 + l.val, by omega⟩) := by
  pointwise [k0_pay222]

theorem pay223_at (v17 : Vec Ideal S1024x16 .f32) (o : Fin 1024) (l : Fin 128) : k0_pay223 v17 (ix3 0 o l) = k0_pay220 v17 (ix2 o ⟨256 + l.val, by omega⟩) := by
  pointwise [k0_pay223]

theorem pay225_at (v17 : Vec Ideal S1024x16 .f32) (o : Fin 1024) (l : Fin 128) : k0_pay225 (k0_pay224 v17) (ix3 0 o l) = k0_pay220 v17 (ix2 o ⟨384 + l.val, by omega⟩) := by
  pointwise [k0_pay225, k0_pay224]

/-- The spread scales, read back from the four stores. -/
theorem gs_at {sp : Space} (M : Memref sig .tc sp S4x1024x128 .bf16) (f0 : BufTy.Contents (Elt Ideal) M.view.ty) (v17 : Vec Ideal S1024x16 .f32) (G : ℕ → ℕ → ℝ)
    (hG : ∀ (o : Fin 1024) (g : Fin 16), v17 (ix2 o g) = (G o.val g.val : EReal)) {j0 j1 j2 j3} (j : Fin 4) (o : Fin 1024) (l : Fin 128) :
    M.view.read (Elt Ideal) (M.view.writes (Elt Ideal) f0
      [⟨Rect.unit (s := S4x1024x128) ![3, 0, 0] S1x1024x128.size j3, k0_pay225 (k0_pay224 v17)⟩,
       ⟨Rect.unit (s := S4x1024x128) ![2, 0, 0] S1x1024x128.size j2, k0_pay223 v17⟩,
       ⟨Rect.unit (s := S4x1024x128) ![1, 0, 0] S1x1024x128.size j1, k0_pay222 v17⟩,
       ⟨Rect.unit (s := S4x1024x128) ![0, 0, 0] S1x1024x128.size j0, k0_pay221 v17⟩]) (ix3 j o l) = (G o.val ((128 * j.val + l.val) / 32) : EReal) := by
  refine (View.read_writes_apply_of_pieces M.view f0 (fun y => (G (y 1).val ((128 * (y 0).val + (y 2).val) / 32) : EReal)) _ ?_ (ix3 j o l) ?_).trans rfl
  · simp only [List.forall_mem_cons, List.not_mem_nil, false_imp_iff, implies_true, and_true]
    refine ⟨?_, ?_, ?_, ?_⟩ <;> intro x <;> obtain ⟨z, a, b, rfl⟩ : ∃ (z : Fin 1) (a : Fin 1024) (b : Fin 128), x = ix3 z a b := ⟨x 0, x 1, x 2, eq_ix3 x⟩ <;> obtain rfl : z = 0 := Subsingleton.elim _ _
    · rw [pay225_at, pay220_at v17 G hG, ValueKit.rect_emb_unit_val, ValueKit.rect_emb_unit_val, ValueKit.rect_emb_unit_val]; simp
    · rw [pay223_at, pay220_at v17 G hG, ValueKit.rect_emb_unit_val, ValueKit.rect_emb_unit_val, ValueKit.rect_emb_unit_val]; simp
    · rw [pay222_at, pay220_at v17 G hG, ValueKit.rect_emb_unit_val, ValueKit.rect_emb_unit_val, ValueKit.rect_emb_unit_val]; simp
    · rw [pay221_at, pay220_at v17 G hG, ValueKit.rect_emb_unit_val, ValueKit.rect_emb_unit_val, ValueKit.rect_emb_unit_val]; simp
  · simp only [List.exists_mem_cons_iff, List.not_mem_nil, _root_.false_and, exists_false, _root_.or_false, Rect.mem_set_unit, Fin.forall_fin_succ]
    have := j.isLt
    have := o.isLt
    have := l.isLt
    simp
    omega

/-- The tile of the first result, read back from its four stores. -/
theorem tile_at {sp : Space} (M : Memref sig .tc sp S128x1024 .bf16) (f0 : BufTy.Contents (Elt Ideal) M.view.ty) (Y : ℕ → ℕ → EReal) {p0 p1 p2 p3 : FVec Ideal S128x256 .bf16}
    (h0 : ∀ (s : Fin 128) (m : Fin 256), p0 (ix2 s m) = (Y s.val m.val : EReal))
    (h1 : ∀ (s : Fin 128) (m : Fin 256), p1 (ix2 s m) = (Y s.val (256 + m.val) : EReal))
    (h2 : ∀ (s : Fin 128) (m : Fin 256), p2 (ix2 s m) = (Y s.val (512 + m.val) : EReal))
    (h3 : ∀ (s : Fin 128) (m : Fin 256), p3 (ix2 s m) = (Y s.val (768 + m.val) : EReal)) {j0 j1 j2 j3} :
    M.view.read (Elt Ideal) (M.view.writes (Elt Ideal) f0
      [⟨Rect.unit (s := S128x1024) ![0, 768] S128x256.size j3, p3⟩,
       ⟨Rect.unit (s := S128x1024) ![0, 512] S128x256.size j2, p2⟩,
       ⟨Rect.unit (s := S128x1024) ![0, 256] S128x256.size j1, p1⟩,
       ⟨Rect.unit (s := S128x1024) ![0, 0] S128x256.size j0, p0⟩]) = fun i => (Y (i 0).val (i 1).val : EReal) := by
  funext i
  refine View.read_writes_apply_of_pieces M.view f0 (fun y => (Y (y 0).val (y 1).val : EReal)) _ ?_ i ?_
  · simp only [List.forall_mem_cons, List.not_mem_nil, false_imp_iff, implies_true, and_true]
    refine ⟨?_, ?_, ?_, ?_⟩ <;> intro x <;> obtain ⟨a, b, rfl⟩ : ∃ (a : Fin 128) (b : Fin 256), x = ix2 a b := ⟨x 0, x 1, eq_ix2 x⟩
    · rw [h3, ValueKit.rect_emb_unit_val, ValueKit.rect_emb_unit_val]; simp
    · rw [h2, ValueKit.rect_emb_unit_val, ValueKit.rect_emb_unit_val]; simp
    · rw [h1, ValueKit.rect_emb_unit_val, ValueKit.rect_emb_unit_val]; simp
    · rw [h0, ValueKit.rect_emb_unit_val, ValueKit.rect_emb_unit_val]; simp
  · obtain ⟨s, n, rfl⟩ : ∃ (s : Fin 128) (n : Fin 1024), i = ix2 s n := ⟨i 0, i 1, eq_ix2 i⟩
    simp only [List.exists_mem_cons_iff, List.not_mem_nil, _root_.false_and, exists_false, _root_.or_false, Rect.mem_set_unit, Fin.forall_fin_two]
    have := s.isLt
    have := n.isLt
    simp
    omega

/-- A load of a whole buffer is its contents. -/
theorem ldFull {sp : Space} {a b : ℕ} {e : EltTy} (M : Memref sig .tc sp (⟨2, ![a, b]⟩ : Shape) e) (f0 : BufTy.Contents (Elt Ideal) M.view.ty) {off : Fin 2 → ℕ} {j} (ho : off = ![0, 0]) (x : Fin a) (y : Fin b) :
    M.view.readAt (Elt Ideal) (Rect.unit (s := (⟨2, ![a, b]⟩ : Shape)) off ![a, b] j).toLoadRect f0 (ix2 x y) = M.view.read (Elt Ideal) f0 (ix2 x y) := by
  refine readAt_at M f0 (Rect.unit (s := (⟨2, ![a, b]⟩ : Shape)) off ![a, b] j).toLoadRect (ix2 x y) (ix2 x y) ho ?_
  intro d; fin_cases d <;> simp

/-- A load of a stretch of columns. -/
theorem ldCol {sp : Space} (M : Memref sig .tc sp S1x1024 .f32) (f0 : BufTy.Contents (Elt Ideal) M.view.ty) (n : ℕ) {off : Fin 2 → ℕ} {j} (ho : off = ![0, n]) (hn : n + 256 ≤ 1024) (y : Fin 256) :
    M.view.readAt (Elt Ideal) (Rect.unit (s := S1x1024) off S1x256.size j).toLoadRect f0 (ix2 0 y) = M.view.read (Elt Ideal) f0 (ix2 0 ⟨n + y.val, by omega⟩) := by
  refine readAt_at M f0 (Rect.unit (s := S1x1024) off S1x256.size j).toLoadRect (ix2 0 y) _ ho ?_
  intro d; fin_cases d <;> simp

theorem had_read {sp : Space} (M : Memref sig .tc sp S256x256 .bf16) (f0 : BufTy.Contents (Elt Ideal) M.view.ty) {j} :
    HadM (M.view.read (Elt Ideal) (M.view.writes (Elt Ideal) f0 [⟨Rect.unit (s := S256x256) ![0, 0] S256x256.size j, (k0_pay216 (F := Ideal) : FVec Ideal S256x256 .bf16)⟩])) := fun a b => by
  have e : (Rect.unit (s := S256x256) ![0, 0] S256x256.size j).emb (ix2 a b) = ix2 a b := by
    funext d; apply Fin.ext; rw [ValueKit.rect_emb_unit_val]; fin_cases d <;> simp
  have h := View.read_writes_cons_emb (v := M.view) (f := f0) (Rect.unit (s := S256x256) ![0, 0] S256x256.size j) (k0_pay216 (F := Ideal)) [] (ix2 a b)
  rw [e] at h
  exact h.trans (pay216_at a b)

theorem tile_of {sp : Space} (M : Memref sig .tc sp S128x1024 .bf16) (f0 : BufTy.Contents (Elt Ideal) M.view.ty) (A : ℕ → ℕ → ℝ) (rs : ℕ → ℝ) (sv : ℕ → EReal)
    {v38 : Vec Ideal S256x256 .bf16} {v39 : Vec Ideal S1024x128 .f32} {v41 : Vec Ideal S1x1024 .f32} {w0 w1 w2 w3 : Vec Ideal S1x256 .f32}
    (hh : ∀ a b : Fin 256, v38 (ix2 a b) = ((sg 8 a.val b.val : ℝ) : EReal))
    (hA : ∀ (o : Fin 1024) (s : Fin 128), v39 (ix2 o s) = (A o.val s.val : EReal))
    (hr : ∀ (o : Fin 1024), v41 (ix2 0 o) = (rs o.val : EReal))
    (h0 : ∀ m : Fin 256, w0 (ix2 0 m) = (sv (0 + m.val) : EReal)) (h1 : ∀ m : Fin 256, w1 (ix2 0 m) = (sv (256 + m.val) : EReal))
    (h2 : ∀ m : Fin 256, w2 (ix2 0 m) = (sv (512 + m.val) : EReal)) (h3 : ∀ m : Fin 256, w3 (ix2 0 m) = (sv (768 + m.val) : EReal)) {j0 j1 j2 j3} :
    M.view.read (Elt Ideal) (M.view.writes (Elt Ideal) f0
      [⟨Rect.unit (s := S128x1024) ![0, 768] S128x256.size j3, k0_pay2 (k0_pay246 v38 (k0_pay238 v39 v41)) w3⟩,
       ⟨Rect.unit (s := S128x1024) ![0, 512] S128x256.size j2, k0_pay1 (k0_pay245 v38 (k0_pay237 v39 v41)) w2⟩,
       ⟨Rect.unit (s := S128x1024) ![0, 256] S128x256.size j1, k0_pay248 v38 (k0_pay242 v39 v41) (k0_pay243 v39 v41) (k0_pay244 v38 v39 v41) w1⟩,
       ⟨Rect.unit (s := S128x1024) ![0, 0] S128x256.size j0, k0_pay247 (k0_pay239 v38 v39 v41) w0⟩]) = fun i => (ytile A rs sv (i 0).val (i 1).val : EReal) :=
  tile_at M f0 (ytile A rs sv) (y0_at v38 v39 v41 A rs sv hh hA hr w0 (fun m => (h0 m).trans (by rw [Nat.zero_add]))) (y1_at v38 v39 v41 A rs sv hh hA hr w1 h1)
    (y2_at v38 v39 v41 A rs sv hh hA hr w2 h2) (y3_at v38 v39 v41 A rs sv hh hA hr w3 h3)

end Cert.Proof.KernelIdeal

end

end
-- ==== Proof.KernelIdeal.ValC.lean ====
/- Values of the decoded weights: one trip of a decode loop, element by element. -/
module

public import proofs.«01_k».proof.Proof.KernelIdeal.ValBase
public import Idealize.ShloMosaic.Lib.BitcastPair

@[expose] public section

set_option maxRecDepth 65536

noncomputable section

namespace Cert.Proof.KernelIdeal

open Cert.KernelIdeal Cert.KernelIdeal.Gen
open Idealize.ShloMosaic Idealize.ShloMosaic.TcCoe Idealize.ShloMosaic.Tactic

/-- The sum of two hashed floats, over any constants. -/
def decG (a b c s m z : BitVec 32) (w : IVec S8x128 32) : FVec Ideal S8x128 .f32 :=
  addf (bitcastToFloat .f32 (xori (andi (shrsi (addi (muli (shrui w (broadcast S8x128 s)) (broadcast S8x128 a)) (broadcast S8x128 b)) (broadcast S8x128 c)) (broadcast S8x128 m)) (broadcast S8x128 z)))
    (bitcastToFloat .f32 (xori (andi (shrsi (shli (addi (muli (shrui w (broadcast S8x128 s)) (broadcast S8x128 a)) (broadcast S8x128 b)) (broadcast S8x128 s)) (broadcast S8x128 c)) (broadcast S8x128 m)) (broadcast S8x128 z)))

/-- `decG` at one lane. -/
def decg (a b c s m z : BitVec 32) (w : BitVec 32) : EReal :=
  Ideal.ofBits .f32 (IntOp.xori (IntOp.andi (IntOp.shrsi .vector (IntOp.addi (IntOp.muli (IntOp.shrui .vector w s) a) b) c) m) z)
  + Ideal.ofBits .f32 (IntOp.xori (IntOp.andi (IntOp.shrsi .vector (IntOp.shli .vector (IntOp.addi (IntOp.muli (IntOp.shrui .vector w s) a) b) s) c) m) z)

theorem decG_at (a b c s m z : BitVec 32) (w : IVec S8x128 32) (j : S8x128.Idx) : decG a b c s m z w j = decg a b c s m z (w j) := rfl

/-- The sum of the two halves of a word's hash, each read as a float. -/
def decV (w : IVec S8x128 32) : FVec Ideal S8x128 .f32 := decG 89226354#32 64248484#32 3#32 16#32 2181029888#32 1064042496#32 w

/-- Even rows decoded from `a`, odd rows from `b`, times the scales `x`. -/
def storeV (a b : IVec S8x128 32) (x : Vec Ideal S1x16x128 .bf16) : FVec Ideal S1x1x16x128 .bf16 :=
  shapeCast S1x1x16x128 (mulf (interleaveRows S16x128 (truncf .bf16 (decV a) bitsLt_bf16_f32) (truncf .bf16 (decV b) bitsLt_bf16_f32) bitcasts_S16x128_w16_S8x128_w32)
    (shapeCast S16x128 x shapeCasts_S1x16x128_S16x128)) shapeCasts_S16x128_S1x1x16x128

theorem storeV_at (a b : IVec S8x128 32) (x : Vec Ideal S1x16x128 .bf16) (i : Fin 16) (l : Fin 128) :
    storeV a b x (ix4 0 0 i l) = (if i.val % 2 = 0 then decV a (ix2 ⟨i.val / 2, by omega⟩ l) else decV b (ix2 ⟨i.val / 2, by omega⟩ l)) * x (ix3 0 i l) := by
  pointwise [storeV]

section
variable (v7 : IVec S8x128 1) (v : Vec Ideal S16x128 .i16) (x : Vec Ideal S1x16x128 .bf16)

abbrev shl (w : IVec S8x128 32) (s : BitVec 32) : IVec S8x128 32 := shli w (broadcast S8x128 s)

end

/-- Two codes as one 32-bit word, the first in the high half. -/
def cat (a b : BitVec 16) : BitVec 32 := a ++ b

/-- The next lane of a group of 32, around. -/
def nxt (l : Fin 128) : Fin 128 := ⟨if l.val % 32 = 31 then l.val - 31 else l.val + 1, by split <;> omega⟩

theorem pay219_at (r : Fin 8) (l : Fin 128) : (k0_pay219 : IVec S8x128 1) (ix2 r l) = if l.val % 32 = 31 then 1#1 else 0#1 := by
  revert r l; decide +kernel

theorem pay37_at (v : Vec Ideal S16x128 .i16) (r : Fin 8) (l : Fin 128) :
    k0_pay37 (F := Ideal) v (ix2 r l) = cat (v (ix2 ⟨2 * r.val + 1, by omega⟩ l)) (v (ix2 ⟨2 * r.val, by omega⟩ l)) := by
  refine (bitcast_16_32 v bitcasts_S16x128_w16_S8x128_w32 (ix2 r l)).trans ?_
  congr 1 <;> congr 1 <;> funext a <;> apply Fin.ext <;> match a with | ⟨0, _⟩ => rfl | ⟨1, _⟩ => rfl

theorem pay38_j (v7 : IVec S8x128 1) (v : Vec Ideal S16x128 .i16) (j : S8x128.Idx) : k0_pay38 (F := Ideal) v7 v j
    = if v7 j = 1#1 then dynamicRotate 1 31#32 none (k0_pay37 (F := Ideal) v) rotates_S8x128_d1 j else dynamicRotate 1 127#32 none (k0_pay37 (F := Ideal) v) rotates_S8x128_d1 j := rfl

theorem pay39_j (v7 : IVec S8x128 1) (v : Vec Ideal S16x128 .i16) (j : S8x128.Idx) : k0_pay39 (F := Ideal) v7 v j
    = IntOp.ori (IntOp.shli .vector (k0_pay37 (F := Ideal) v j) 16#32) (IntOp.andi (k0_pay38 (F := Ideal) v7 v j) 65535#32) := rfl

theorem pay40_j (v7 : IVec S8x128 1) (v : Vec Ideal S16x128 .i16) (j : S8x128.Idx) : k0_pay40 (F := Ideal) v7 v j
    = IntOp.ori (IntOp.andi (k0_pay37 (F := Ideal) v j) 4294901760#32) (IntOp.shrui .vector (k0_pay38 (F := Ideal) v7 v j) 16#32) := rfl

theorem shl_j (w : IVec S8x128 32) (s : BitVec 32) (j : S8x128.Idx) : shl w s j = IntOp.shli .vector (w j) s := rfl

theorem rot_at (y : IVec S8x128 32) (s : BitVec 32) (r : Fin 8) (l : Fin 128) (l' : Fin 128) (h : (l.val + 128 - s.toNat % 128) % 128 = l'.val) :
    dynamicRotate 1 s none y rotates_S8x128_d1 (ix2 r l) = y (ix2 r l') := by
  unfold dynamicRotate
  refine congrArg y (funext fun b => Fin.ext ?_)
  match b with
  | ⟨0, _⟩ => rfl
  | ⟨1, _⟩ => exact h

theorem pay38_at (v : Vec Ideal S16x128 .i16) (r : Fin 8) (l : Fin 128) :
    k0_pay38 (F := Ideal) k0_pay219 v (ix2 r l) = cat (v (ix2 ⟨2 * r.val + 1, by omega⟩ (nxt l))) (v (ix2 ⟨2 * r.val, by omega⟩ (nxt l))) := by
  rw [← pay37_at]
  rw [pay38_j, pay219_at]
  by_cases h : l.val % 32 = 31
  · rw [if_pos h, if_pos rfl]
    exact rot_at _ _ r l (nxt l) (by show _ = (if l.val % 32 = 31 then l.val - 31 else l.val + 1); rw [if_pos h]; simp only [BitVec.toNat_ofNat, Nat.reduceMod, Nat.reducePow]; omega)
  · rw [if_neg h, if_neg (by decide)]
    exact rot_at _ _ r l (nxt l) (by show _ = (if l.val % 32 = 31 then l.val - 31 else l.val + 1); rw [if_neg h]; simp only [BitVec.toNat_ofNat, Nat.reduceMod, Nat.reducePow]; omega)

theorem lowPair (a b c d : BitVec 16) : IntOp.ori (IntOp.shli .vector (cat a b) 16#32) (IntOp.andi (cat c d) 65535#32) = (cat b d) := by
  show ((a ++ b : BitVec 32) <<< 16) ||| ((c ++ d : BitVec 32) &&& (0#16 ++ BitVec.allOnes 16 : BitVec 32)) = (b ++ d : BitVec 32)
  have hO : ∀ (i : ℕ) (h : i < 16), (BitVec.allOnes 16)[i] = true := fun i h => by
    have := BitVec.getLsbD_allOnes (v := 16) (i := i); rw [decide_eq_true h] at this
    exact (BitVec.getLsbD_eq_getElem h).symm.trans this
  generalize BitVec.allOnes 16 = O at hO ⊢
  apply BitVec.eq_of_getLsbD_eq
  intro i hi
  rw [BitVec.getLsbD_or, BitVec.getLsbD_shiftLeft, BitVec.getLsbD_and, BitVec.getLsbD_append, BitVec.getLsbD_append, BitVec.getLsbD_append, BitVec.getLsbD_append]
  by_cases h : i < 16
  · simp [h, hO]
  · have h2 : i - 16 < 16 := by omega
    simp [h, h2, hi, hO]

theorem highPair (a b c d : BitVec 16) : IntOp.ori (IntOp.andi (cat a b) 4294901760#32) (IntOp.shrui .vector (cat c d) 16#32) = (cat a c) := by
  show ((a ++ b : BitVec 32) &&& (BitVec.allOnes 16 ++ 0#16 : BitVec 32)) ||| ((c ++ d : BitVec 32) >>> 16) = (a ++ c : BitVec 32)
  have hO : ∀ (i : ℕ) (h : i < 16), (BitVec.allOnes 16)[i] = true := fun i h => by
    have := BitVec.getLsbD_allOnes (v := 16) (i := i); rw [decide_eq_true h] at this
    exact (BitVec.getLsbD_eq_getElem h).symm.trans this
  generalize BitVec.allOnes 16 = O at hO ⊢
  apply BitVec.eq_of_getLsbD_eq
  intro i hi
  rw [BitVec.getLsbD_or, BitVec.getLsbD_ushiftRight, BitVec.getLsbD_and, BitVec.getLsbD_append, BitVec.getLsbD_append, BitVec.getLsbD_append, BitVec.getLsbD_append]
  by_cases h : i < 16
  · simp [h, hO]
  · have h2 : i - 16 < 16 := by omega
    have h3 : c.getLsbD i = false := BitVec.getLsbD_of_ge _ _ (by omega)
    simp [h, h2, hO, h3]

/-- One decoded value of a 32-bit word. -/
def decu (w : BitVec 32) : EReal := decg 89226354#32 64248484#32 3#32 16#32 2181029888#32 1064042496#32 w

theorem decV_at (w : IVec S8x128 32) (j : S8x128.Idx) : decV w j = decu (w j) := decG_at _ _ _ _ _ _ w j

theorem pair_at (v : Vec Ideal S16x128 .i16) (x : Vec Ideal S1x16x128 .bf16) (s : BitVec 32) (i : Fin 16) (l : Fin 128) :
    storeV (shl (k0_pay39 (F := Ideal) k0_pay219 v) s) (shl (k0_pay40 (F := Ideal) k0_pay219 v) s) x (ix4 0 0 i l)
      = decu (IntOp.shli .vector (cat (v (ix2 i l)) (v (ix2 i (nxt l)))) s) * x (ix3 0 i l) := by
  rw [storeV_at]
  congr 1
  have e39 (r : Fin 8) : k0_pay39 (F := Ideal) k0_pay219 v (ix2 r l) = cat (v (ix2 ⟨2 * r.val, by omega⟩ l)) (v (ix2 ⟨2 * r.val, by omega⟩ (nxt l))) := by
    rw [pay39_j]
    rw [pay37_at, pay38_at, lowPair]
  have e40 (r : Fin 8) : k0_pay40 (F := Ideal) k0_pay219 v (ix2 r l) = cat (v (ix2 ⟨2 * r.val + 1, by omega⟩ l)) (v (ix2 ⟨2 * r.val + 1, by omega⟩ (nxt l))) := by
    rw [pay40_j]
    rw [pay37_at, pay38_at, highPair]
  split
  · rw [decV_at]
    rw [shl_j]
    have e : (⟨2 * (i.val / 2), by omega⟩ : Fin 16) = i := Fin.ext (by simp only []; omega)
    rw [e39]; simp only [e]
  · rw [decV_at]
    rw [shl_j]
    have e : (⟨2 * (i.val / 2) + 1, by omega⟩ : Fin 16) = i := Fin.ext (by simp only []; omega)
    rw [e40]; simp only [e]

theorem pair_at_zero (v : Vec Ideal S16x128 .i16) (x : Vec Ideal S1x16x128 .bf16) (i : Fin 16) (l : Fin 128) :
    storeV (k0_pay39 (F := Ideal) k0_pay219 v) (k0_pay40 (F := Ideal) k0_pay219 v) x (ix4 0 0 i l)
      = decu (IntOp.shli .vector (cat (v (ix2 i l)) (v (ix2 i (nxt l)))) 0#32) * x (ix3 0 i l) := by
  have h (w : IVec S8x128 32) : shl w 0#32 = w := by
    funext j; rw [shl_j]; simp [IntOp.shli]
  have := pair_at v x 0#32 i l
  rwa [h, h] at this

end Cert.Proof.KernelIdeal

end

end
-- ==== Proof.KernelIdeal.ValDec.lean ====
/- Values of the decoded weights: one trip of a decode loop, element by element. -/
module

public import proofs.«01_k».proof.Proof.KernelIdeal.ValC
public import Idealize.ShloMosaic.Lib.BitcastPair

@[expose] public section

set_option maxRecDepth 65536

noncomputable section

namespace Cert.Proof.KernelIdeal

open Cert.KernelIdeal Cert.KernelIdeal.Gen
open Idealize.ShloMosaic Idealize.ShloMosaic.TcCoe Idealize.ShloMosaic.Tactic

section
variable (v7 : IVec S8x128 1) (v : Vec Ideal S16x128 .i16) (x : Vec Ideal S1x16x128 .bf16)

theorem dec5_0 : k0_pay46 (F := Ideal) (k0_pay40 v7 v) (k0_pay41 x) (k0_pay43 v7 v) (k0_pay44 v7 v) k0_pay45 = storeV (k0_pay39 v7 v) (k0_pay40 v7 v) x := rfl
theorem dec5_1 : k0_pay52 (F := Ideal) (k0_pay41 x) (k0_pay48 (k0_pay47 (k0_pay39 v7 v)) 16#32) (k0_pay50 (k0_pay40 v7 v)) (k0_pay51 (k0_pay40 v7 v)) 2181029888#32
  = storeV (shl (k0_pay39 v7 v) 2#32) (shl (k0_pay40 v7 v) 2#32) x := rfl
theorem dec5_2 : k0_pay55 (F := Ideal) (k0_pay41 x) (k0_pay53 (k0_pay39 v7 v)) (k0_pay54 (k0_pay40 v7 v))
  = storeV (shl (k0_pay39 v7 v) 4#32) (shl (k0_pay40 v7 v) 4#32) x := rfl
theorem dec5_3 : k0_pay60 (F := Ideal) (k0_pay41 x) (k0_pay58 (k0_pay56 (k0_pay39 v7 v)) k0_pay57) (k0_pay59 (k0_pay40 v7 v))
  = storeV (shl (k0_pay39 v7 v) 6#32) (shl (k0_pay40 v7 v) 6#32) x := rfl
theorem dec5_4 : k0_pay63 (F := Ideal) (k0_pay41 x) (k0_pay61 (k0_pay39 v7 v)) (k0_pay62 (k0_pay40 v7 v)) 3#32
  = storeV (shl (k0_pay39 v7 v) 8#32) (shl (k0_pay40 v7 v) 8#32) x := rfl
theorem dec5_5 : k0_pay67 (F := Ideal) (k0_pay40 v7 v) (k0_pay41 x) (k0_pay65 (k0_pay39 v7 v)) (k0_pay66 (k0_pay39 v7 v))
  = storeV (shl (k0_pay39 v7 v) 10#32) (shl (k0_pay40 v7 v) 10#32) x := rfl
theorem dec5_6 : k0_pay73 (F := Ideal) (k0_pay41 x) (k0_pay68 (k0_pay39 v7 v)) (k0_pay70 (k0_pay40 v7 v)) (k0_pay71 (k0_pay40 v7 v)) k0_pay72
  = storeV (shl (k0_pay39 v7 v) 12#32) (shl (k0_pay40 v7 v) 12#32) x := rfl
theorem dec5_7 : k0_pay201 (F := Ideal) (k0_pay77 (k0_pay40 v7 v) (k0_pay41 x) (k0_pay75 (k0_pay39 v7 v)) (k0_pay76 (k0_pay39 v7 v)))
  = storeV (shl (k0_pay39 v7 v) 14#32) (shl (k0_pay40 v7 v) 14#32) x := rfl
theorem dec6_0 : k0_pay87 (F := Ideal) (k0_pay81 v7 v) (k0_pay82 x) (k0_pay84 v7 v) (k0_pay85 v7 v) k0_pay86 = storeV (k0_pay80 v7 v) (k0_pay81 v7 v) x := rfl
theorem dec6_1 : k0_pay93 (F := Ideal) (k0_pay82 x) (k0_pay89 (k0_pay88 (k0_pay80 v7 v)) 16#32) (k0_pay91 (k0_pay81 v7 v)) (k0_pay92 (k0_pay81 v7 v)) 2181029888#32
  = storeV (shl (k0_pay80 v7 v) 2#32) (shl (k0_pay81 v7 v) 2#32) x := rfl
theorem dec6_2 : k0_pay96 (F := Ideal) (k0_pay82 x) (k0_pay94 (k0_pay80 v7 v)) (k0_pay95 (k0_pay81 v7 v))
  = storeV (shl (k0_pay80 v7 v) 4#32) (shl (k0_pay81 v7 v) 4#32) x := rfl
theorem dec6_3 : k0_pay101 (F := Ideal) (k0_pay82 x) (k0_pay99 (k0_pay97 (k0_pay80 v7 v)) k0_pay98) (k0_pay100 (k0_pay81 v7 v))
  = storeV (shl (k0_pay80 v7 v) 6#32) (shl (k0_pay81 v7 v) 6#32) x := rfl
theorem dec6_4 : k0_pay104 (F := Ideal) (k0_pay82 x) (k0_pay102 (k0_pay80 v7 v)) (k0_pay103 (k0_pay81 v7 v)) 3#32
  = storeV (shl (k0_pay80 v7 v) 8#32) (shl (k0_pay81 v7 v) 8#32) x := rfl
theorem dec6_5 : k0_pay108 (F := Ideal) (k0_pay81 v7 v) (k0_pay82 x) (k0_pay106 (k0_pay80 v7 v)) (k0_pay107 (k0_pay80 v7 v))
  = storeV (shl (k0_pay80 v7 v) 10#32) (shl (k0_pay81 v7 v) 10#32) x := rfl
theorem dec6_6 : k0_pay114 (F := Ideal) (k0_pay82 x) (k0_pay109 (k0_pay80 v7 v)) (k0_pay111 (k0_pay81 v7 v)) (k0_pay112 (k0_pay81 v7 v)) k0_pay113
  = storeV (shl (k0_pay80 v7 v) 12#32) (shl (k0_pay81 v7 v) 12#32) x := rfl
theorem dec6_7 : k0_pay205 (F := Ideal) (k0_pay118 (k0_pay81 v7 v) (k0_pay82 x) (k0_pay116 (k0_pay80 v7 v)) (k0_pay117 (k0_pay80 v7 v)))
  = storeV (shl (k0_pay80 v7 v) 14#32) (shl (k0_pay81 v7 v) 14#32) x := rfl
theorem same6 : k0_pay80 (F := Ideal) v7 v = k0_pay39 v7 v ∧ k0_pay81 (F := Ideal) v7 v = k0_pay40 v7 v := ⟨rfl, rfl⟩
theorem dec7_0 : k0_pay128 (F := Ideal) (k0_pay122 v7 v) (k0_pay123 x) (k0_pay125 v7 v) (k0_pay126 v7 v) k0_pay127 = storeV (k0_pay121 v7 v) (k0_pay122 v7 v) x := rfl
theorem dec7_1 : k0_pay134 (F := Ideal) (k0_pay123 x) (k0_pay130 (k0_pay129 (k0_pay121 v7 v)) 16#32) (k0_pay132 (k0_pay122 v7 v)) (k0_pay133 (k0_pay122 v7 v)) 2181029888#32
  = storeV (shl (k0_pay121 v7 v) 2#32) (shl (k0_pay122 v7 v) 2#32) x := rfl
theorem dec7_2 : k0_pay137 (F := Ideal) (k0_pay123 x) (k0_pay135 (k0_pay121 v7 v)) (k0_pay136 (k0_pay122 v7 v))
  = storeV (shl (k0_pay121 v7 v) 4#32) (shl (k0_pay122 v7 v) 4#32) x := rfl
theorem dec7_3 : k0_pay142 (F := Ideal) (k0_pay123 x) (k0_pay140 (k0_pay138 (k0_pay121 v7 v)) k0_pay139) (k0_pay141 (k0_pay122 v7 v))
  = storeV (shl (k0_pay121 v7 v) 6#32) (shl (k0_pay122 v7 v) 6#32) x := rfl
theorem dec7_4 : k0_pay145 (F := Ideal) (k0_pay123 x) (k0_pay143 (k0_pay121 v7 v)) (k0_pay144 (k0_pay122 v7 v)) 3#32
  = storeV (shl (k0_pay121 v7 v) 8#32) (shl (k0_pay122 v7 v) 8#32) x := rfl
theorem dec7_5 : k0_pay149 (F := Ideal) (k0_pay122 v7 v) (k0_pay123 x) (k0_pay147 (k0_pay121 v7 v)) (k0_pay148 (k0_pay121 v7 v))
  = storeV (shl (k0_pay121 v7 v) 10#32) (shl (k0_pay122 v7 v) 10#32) x := rfl
theorem dec7_6 : k0_pay155 (F := Ideal) (k0_pay123 x) (k0_pay150 (k0_pay121 v7 v)) (k0_pay152 (k0_pay122 v7 v)) (k0_pay153 (k0_pay122 v7 v)) k0_pay154
  = storeV (shl (k0_pay121 v7 v) 12#32) (shl (k0_pay122 v7 v) 12#32) x := rfl
theorem dec7_7 : k0_pay209 (F := Ideal) (k0_pay159 (k0_pay122 v7 v) (k0_pay123 x) (k0_pay157 (k0_pay121 v7 v)) (k0_pay158 (k0_pay121 v7 v)))
  = storeV (shl (k0_pay121 v7 v) 14#32) (shl (k0_pay122 v7 v) 14#32) x := rfl
theorem same7 : k0_pay121 (F := Ideal) v7 v = k0_pay39 v7 v ∧ k0_pay122 (F := Ideal) v7 v = k0_pay40 v7 v := ⟨rfl, rfl⟩
theorem dec8_0 : k0_pay169 (F := Ideal) (k0_pay163 v7 v) (k0_pay164 x) (k0_pay166 v7 v) (k0_pay167 v7 v) k0_pay168 = storeV (k0_pay162 v7 v) (k0_pay163 v7 v) x := rfl
theorem dec8_1 : k0_pay175 (F := Ideal) (k0_pay164 x) (k0_pay171 (k0_pay170 (k0_pay162 v7 v)) 16#32) (k0_pay173 (k0_pay163 v7 v)) (k0_pay174 (k0_pay163 v7 v)) 2181029888#32
  = storeV (shl (k0_pay162 v7 v) 2#32) (shl (k0_pay163 v7 v) 2#32) x := rfl
theorem dec8_2 : k0_pay178 (F := Ideal) (k0_pay164 x) (k0_pay176 (k0_pay162 v7 v)) (k0_pay177 (k0_pay163 v7 v))
  = storeV (shl (k0_pay162 v7 v) 4#32) (shl (k0_pay163 v7 v) 4#32) x := rfl
theorem dec8_3 : k0_pay183 (F := Ideal) (k0_pay164 x) (k0_pay181 (k0_pay179 (k0_pay162 v7 v)) k0_pay180) (k0_pay182 (k0_pay163 v7 v))
  = storeV (shl (k0_pay162 v7 v) 6#32) (shl (k0_pay163 v7 v) 6#32) x := rfl
theorem dec8_4 : k0_pay186 (F := Ideal) (k0_pay164 x) (k0_pay184 (k0_pay162 v7 v)) (k0_pay185 (k0_pay163 v7 v)) 3#32
  = storeV (shl (k0_pay162 v7 v) 8#32) (shl (k0_pay163 v7 v) 8#32) x := rfl
theorem dec8_5 : k0_pay190 (F := Ideal) (k0_pay163 v7 v) (k0_pay164 x) (k0_pay188 (k0_pay162 v7 v)) (k0_pay189 (k0_pay162 v7 v))
  = storeV (shl (k0_pay162 v7 v) 10#32) (shl (k0_pay163 v7 v) 10#32) x := rfl
theorem dec8_6 : k0_pay196 (F := Ideal) (k0_pay164 x) (k0_pay191 (k0_pay162 v7 v)) (k0_pay193 (k0_pay163 v7 v)) (k0_pay194 (k0_pay163 v7 v)) k0_pay195
  = storeV (shl (k0_pay162 v7 v) 12#32) (shl (k0_pay163 v7 v) 12#32) x := rfl
theorem dec8_7 : k0_pay213 (F := Ideal) (k0_pay200 (k0_pay163 v7 v) (k0_pay164 x) (k0_pay198 (k0_pay162 v7 v)) (k0_pay199 (k0_pay162 v7 v)))
  = storeV (shl (k0_pay162 v7 v) 14#32) (shl (k0_pay163 v7 v) 14#32) x := rfl
theorem same8 : k0_pay162 (F := Ideal) v7 v = k0_pay39 v7 v ∧ k0_pay163 (F := Ideal) v7 v = k0_pay40 v7 v := ⟨rfl, rfl⟩

end

end Cert.Proof.KernelIdeal

end

end
-- ==== Proof.KernelIdeal.ValG0.lean ====
/- The decode loops with what they leave in the two slots. -/
module

public import proofs.«01_k».proof.Proof.KernelIdeal.ValDec
public import Idealize.ShloMosaic.Lib.Pipeline.ValueKit

@[expose] public section

set_option maxRecDepth 65536

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- Slot `sl` holds `W` in its first `n` rows. -/
structure Slot (sl : Fin 2) (W : Fin 8 → Fin 256 → Fin 128 → EReal) (n : ℕ) (r : S2x8x256x128.Idx → EReal) : Prop where
  at' : ∀ (f : Fin 8) (row : Fin 256) (l : Fin 128), row.val < n → r (ix4 sl f row l) = W f row l

@[simp] theorem Slot_zero (sl : Fin 2) (W : Fin 8 → Fin 256 → Fin 128 → EReal) (r : S2x8x256x128.Idx → EReal) : Slot sl W 0 r :=
  ⟨fun _ _ _ h => absurd h (Nat.not_lt_zero _)⟩

/-- The decoded weight of field `f` of a word: the word and the next one, shifted by `2 f`, hashed. -/
def dw (a b : BitVec 16) (f : ℕ) : EReal := decu (IntOp.shli .vector (cat a b) (BitVec.ofNat 32 (2 * f)))

/-- The lane's column in block `j`. -/
def colJ (j : Fin 4) (l : Fin 128) : Fin 512 := ⟨128 * j.val + l.val, by omega⟩

/-- What the decode of row block `kt` and lane block `j` puts in a slot. -/
def Wd (r2 : S1024x512.Idx → BitVec 16) (r12 : S4x1024x128.Idx → EReal) (kt : Fin 4) (j : Fin 4) (f : Fin 8) (row : Fin 256) (l : Fin 128) : EReal :=
  dw (r2 (ix2 ⟨256 * kt.val + row.val, by omega⟩ (colJ j l))) (r2 (ix2 ⟨256 * kt.val + row.val, by omega⟩ (colJ j (nxt l)))) f.val
    * r12 (ix3 j ⟨256 * kt.val + row.val, by omega⟩ l)

theorem slot_step {sp : Space} (M : Memref sig .tc sp S2x8x256x128 .bf16) (f0 : BufTy.Contents (Elt Ideal) M.view.ty) (sl : Fin 2)
    (W : Fin 8 → Fin 256 → Fin 128 → EReal) (k : ℕ) (hk : k < 16) {o0 o1 o2 o3 o4 o5 o6 o7 : Fin 4 → ℕ}
    (e0 : o0 = ![sl.val, 0, 16 * k, 0]) (e1 : o1 = ![sl.val, 1, 16 * k, 0]) (e2 : o2 = ![sl.val, 2, 16 * k, 0]) (e3 : o3 = ![sl.val, 3, 16 * k, 0]) (e4 : o4 = ![sl.val, 4, 16 * k, 0]) (e5 : o5 = ![sl.val, 5, 16 * k, 0]) (e6 : o6 = ![sl.val, 6, 16 * k, 0]) (e7 : o7 = ![sl.val, 7, 16 * k, 0]) {j0 j1 j2 j3 j4 j5 j6 j7}
    (P0 P1 P2 P3 P4 P5 P6 P7 : FVec Ideal S1x1x16x128 .bf16)
    (h0 : ∀ (a : Fin 16) (l : Fin 128), P0 (ix4 0 0 a l) = W 0 ⟨16 * k + a.val, by omega⟩ l)
    (h1 : ∀ (a : Fin 16) (l : Fin 128), P1 (ix4 0 0 a l) = W 1 ⟨16 * k + a.val, by omega⟩ l)
    (h2 : ∀ (a : Fin 16) (l : Fin 128), P2 (ix4 0 0 a l) = W 2 ⟨16 * k + a.val, by omega⟩ l)
    (h3 : ∀ (a : Fin 16) (l : Fin 128), P3 (ix4 0 0 a l) = W 3 ⟨16 * k + a.val, by omega⟩ l)
    (h4 : ∀ (a : Fin 16) (l : Fin 128), P4 (ix4 0 0 a l) = W 4 ⟨16 * k + a.val, by omega⟩ l)
    (h5 : ∀ (a : Fin 16) (l : Fin 128), P5 (ix4 0 0 a l) = W 5 ⟨16 * k + a.val, by omega⟩ l)
    (h6 : ∀ (a : Fin 16) (l : Fin 128), P6 (ix4 0 0 a l) = W 6 ⟨16 * k + a.val, by omega⟩ l)
    (h7 : ∀ (a : Fin 16) (l : Fin 128), P7 (ix4 0 0 a l) = W 7 ⟨16 * k + a.val, by omega⟩ l)
    (h : Slot sl W (16 * k) (M.view.read (Elt Ideal) f0)) :
    Slot sl W (16 * (k + 1)) (M.view.read (Elt Ideal) (M.view.writes (Elt Ideal) f0
      [⟨Rect.unit (s := S2x8x256x128) o7 S1x1x16x128.size j7, P7⟩,
       ⟨Rect.unit (s := S2x8x256x128) o6 S1x1x16x128.size j6, P6⟩,
       ⟨Rect.unit (s := S2x8x256x128) o5 S1x1x16x128.size j5, P5⟩,
       ⟨Rect.unit (s := S2x8x256x128) o4 S1x1x16x128.size j4, P4⟩,
       ⟨Rect.unit (s := S2x8x256x128) o3 S1x1x16x128.size j3, P3⟩,
       ⟨Rect.unit (s := S2x8x256x128) o2 S1x1x16x128.size j2, P2⟩,
       ⟨Rect.unit (s := S2x8x256x128) o1 S1x1x16x128.size j1, P1⟩,
       ⟨Rect.unit (s := S2x8x256x128) o0 S1x1x16x128.size j0, P0⟩])) := by
  subst e0 e1 e2 e3 e4 e5 e6 e7
  refine ⟨?_⟩
  intro f row l hrow
  by_cases hlt : row.val < 16 * k
  · refine (View.read_writes_apply_of_forall_not_mem M.view f0 (ix4 sl f row l) _ ?_).trans (h.at' f row l hlt)
    simp only [List.forall_mem_cons, List.not_mem_nil, false_imp_iff, implies_true, and_true, Rect.mem_set_unit, Fin.forall_fin_succ]
    simp
    omega
  · refine (View.read_writes_apply_of_pieces M.view f0 (fun y => W (y 1) (y 2) (y 3)) _ ?_ (ix4 sl f row l) ?_).trans rfl
    · simp only [List.forall_mem_cons, List.not_mem_nil, false_imp_iff, implies_true, and_true]
      refine ⟨?_, ?_, ?_, ?_, ?_, ?_, ?_, ?_⟩ <;> intro x <;> obtain ⟨a, b, rfl⟩ : ∃ (a : Fin 16) (b : Fin 128), x = ix4 0 0 a b := ⟨x 2, x 3, by
        funext i; match i with
        | ⟨0, _⟩ => exact Subsingleton.elim (α := Fin 1) _ _
        | ⟨1, _⟩ => exact Subsingleton.elim (α := Fin 1) _ _
        | ⟨2, _⟩ => rfl
        | ⟨3, _⟩ => rfl⟩
      · rw [h7]
        congr 1 <;> apply Fin.ext <;> rw [ValueKit.rect_emb_unit_val] <;> simp
      · rw [h6]
        congr 1 <;> apply Fin.ext <;> rw [ValueKit.rect_emb_unit_val] <;> simp
      · rw [h5]
        congr 1 <;> apply Fin.ext <;> rw [ValueKit.rect_emb_unit_val] <;> simp
      · rw [h4]
        congr 1 <;> apply Fin.ext <;> rw [ValueKit.rect_emb_unit_val] <;> simp
      · rw [h3]
        congr 1 <;> apply Fin.ext <;> rw [ValueKit.rect_emb_unit_val] <;> simp
      · rw [h2]
        congr 1 <;> apply Fin.ext <;> rw [ValueKit.rect_emb_unit_val] <;> simp
      · rw [h1]
        congr 1 <;> apply Fin.ext <;> rw [ValueKit.rect_emb_unit_val] <;> simp
      · rw [h0]
        congr 1 <;> apply Fin.ext <;> rw [ValueKit.rect_emb_unit_val] <;> simp
    · simp only [List.exists_mem_cons_iff, List.not_mem_nil, _root_.false_and, exists_false, _root_.or_false, Rect.mem_set_unit, Fin.forall_fin_succ]
      have := sl.isLt
      have := f.isLt
      have := l.isLt
      simp
      omega

end Cert.Proof.KernelIdeal

end

end
-- ==== Proof.KernelIdeal.ValG.lean ====
/- The decode loops with what they leave in the two slots. -/
module

public import proofs.«01_k».proof.Proof.KernelIdeal.ValG0

@[expose] public section

set_option maxRecDepth 65536

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

theorem off8_eq : ∀ k : Fin k0_t5_loop.trips, k0_off8 k = ![0, 0, 16 * k.val, 0] := by decide +kernel
theorem off9_eq : ∀ k : Fin k0_t5_loop.trips, k0_off9 k = ![0, 1, 16 * k.val, 0] := by decide +kernel
theorem off10_eq : ∀ k : Fin k0_t5_loop.trips, k0_off10 k = ![0, 2, 16 * k.val, 0] := by decide +kernel
theorem off11_eq : ∀ k : Fin k0_t5_loop.trips, k0_off11 k = ![0, 3, 16 * k.val, 0] := by decide +kernel
theorem off12_eq : ∀ k : Fin k0_t5_loop.trips, k0_off12 k = ![0, 4, 16 * k.val, 0] := by decide +kernel
theorem off13_eq : ∀ k : Fin k0_t5_loop.trips, k0_off13 k = ![0, 5, 16 * k.val, 0] := by decide +kernel
theorem off14_eq : ∀ k : Fin k0_t5_loop.trips, k0_off14 k = ![0, 6, 16 * k.val, 0] := by decide +kernel
theorem off15_eq : ∀ k : Fin k0_t5_loop.trips, k0_off15 k = ![0, 7, 16 * k.val, 0] := by decide +kernel
theorem off6_eq : ∀ (q : Fin k0_t4_loop.trips) (k : Fin k0_t5_loop.trips), k0_off6 q k = ![256 * q.val + 16 * k.val, 0] := by decide +kernel
theorem off7_eq : ∀ (q : Fin k0_t4_loop.trips) (k : Fin k0_t5_loop.trips), k0_off7 q k = ![0, 256 * q.val + 16 * k.val, 0] := by decide +kernel

set_option maxHeartbeats 1000000 in
@[sl_loop] def slotInv_k0_t5 (c : Dev nD) (i : grid0.Coords) (arg1 : Memref sig .tc .vmem S128x4096 .bf16) (harg1 : arg1.IsWhole) (arg2 : Memref sig .tc .vmem S1024x512 .i16) (harg2 : arg2.IsWhole) (arg3 : Memref sig .tc .vmem S1x1024 .f32) (harg3 : arg3.IsWhole) (arg4 : Memref sig .tc .vmem S1024x16 .f32) (harg4 : arg4.IsWhole) (arg5 : Memref sig .tc .vmem S1x4096 .f32) (harg5 : arg5.IsWhole) (arg6 : Memref sig .tc .vmem S1x1024 .f32) (harg6 : arg6.IsWhole) (arg7 : Memref sig .tc .vmem S128x1024 .bf16) (harg7 : arg7.IsWhole) (arg8 : Memref sig .tc .vmem S128x4096 .bf16) (harg8 : arg8.IsWhole) (arg9 : Memref sig .tc .vmem S256x256 .bf16) (harg9 : arg9.IsWhole) (arg10 : Memref sig .tc .vmem S4096x128 .bf16) (harg10 : arg10.IsWhole) (arg11 : Memref sig .tc .vmem S1024x128 .f32) (harg11 : arg11.IsWhole) (arg12 : Memref sig .tc .vmem S4x1024x128 .bf16) (harg12 : arg12.IsWhole) (arg13 : Memref sig .tc .vmem S2x8x256x128 .bf16) (harg13 : arg13.IsWhole) (arg14 : Memref sig .tc .vmem S1024x128 .f32) (harg14 : arg14.IsWhole) (v7 : IVec S8x128 1) (c0_i32_14 : BitVec 32) (c1_i32 : BitVec 32) (k0_t4 : Fin k0_t4_loop.trips) (v139 : BitVec 32)
    (X2 : BufTy.Contents (Elt Ideal) arg2.view.ty) (X12 : BufTy.Contents (Elt Ideal) arg12.view.ty) :
    VTy_k0_t5 (F := Ideal) Unit ℕ (UR sig nD τ) ℕ 𝒱v c none Set.univ i arg1 harg1 arg2 harg2 arg3 harg3 arg4 harg4 arg5 harg5 arg6 harg6 arg7 harg7 arg8 harg8 arg9 harg9 arg10 harg10 arg11 harg11 arg12 harg12 arg13 harg13 arg14 harg14 v7 c0_i32_14 c1_i32 k0_t4 v139 where
  inv := fun k acc => iprop(∃ f13, (arg2.view.loc (c : Thread nD τ) ↦[arg2.view.set]{fullShare} X2) ∗ (arg12.view.loc (c : Thread nD τ) ↦[arg12.view.set]{fullShare} X12) ∗ (arg13.view.loc (c : Thread nD τ) ↦[arg13.view.set]{fullShare} f13) ∗
    ⌜v7 = k0_pay219 → Slot 0 (Wd (arg2.view.read (Elt Ideal) X2) (arg12.view.read (Elt Ideal) X12) k0_t4 0) (16 * k) (arg13.view.read (Elt Ideal) f13)⌝)
  step := fun k acc => by
    iintro ⟨%f13, H2, H12, H13, %hI⟩
    unfold k0_t5_body
    sl_exec
    sl_step
    iexists _
    isplitl [H2]; · iexact H2
    isplitl [H12]; · iexact H12
    isplitl [H13]; · iexact H13
    ipureintro
    intro hv
    subst hv
    have hk : k.val < 16 := k.isLt
    have hq : k0_t4.val < 4 := k0_t4.isLt
    sl_unfold_run_names
    have hV : ∀ (a : Fin 16) (l : Fin 128), arg2.view.readAt (Elt Ideal) (Rect.unit (s := S1024x512) (k0_off6 k0_t4 k) S16x128.size (k0_off6_inb k0_t4 k)).toLoadRect X2 (ix2 a l)
        = arg2.view.read (Elt Ideal) X2 (ix2 ⟨256 * k0_t4.val + (16 * k.val + a.val), by omega⟩ (colJ 0 l)) := fun a l => by
      refine readAt_at arg2 X2 (Rect.unit (s := S1024x512) (k0_off6 k0_t4 k) S16x128.size (k0_off6_inb k0_t4 k)).toLoadRect (ix2 a l) _ (off6_eq k0_t4 k) ?_
      intro d; fin_cases d <;> simp [colJ] <;> omega
    have hX : ∀ (a : Fin 16) (l : Fin 128), arg12.view.readAt (Elt Ideal) (Rect.unit (s := S4x1024x128) (k0_off7 k0_t4 k) S1x16x128.size (k0_off7_inb k0_t4 k)).toLoadRect X12 (ix3 0 a l)
        = arg12.view.read (Elt Ideal) X12 (ix3 0 ⟨256 * k0_t4.val + (16 * k.val + a.val), by omega⟩ l) := fun a l => by
      refine readAt_at arg12 X12 (Rect.unit (s := S4x1024x128) (k0_off7 k0_t4 k) S1x16x128.size (k0_off7_inb k0_t4 k)).toLoadRect (ix3 0 a l) _ (off7_eq k0_t4 k) ?_
      intro d; fin_cases d <;> simp <;> omega
    generalize arg2.view.readAt (Elt Ideal) (Rect.unit (s := S1024x512) (k0_off6 k0_t4 k) S16x128.size (k0_off6_inb k0_t4 k)).toLoadRect X2 = V at hV ⊢
    generalize arg12.view.readAt (Elt Ideal) (Rect.unit (s := S4x1024x128) (k0_off7 k0_t4 k) S1x16x128.size (k0_off7_inb k0_t4 k)).toLoadRect X12 = X at hX ⊢
    have hgen : ∀ (f : Fin 8) (s : BitVec 32) (hs : s = BitVec.ofNat 32 (2 * f.val)) (a : Fin 16) (l : Fin 128),
        decu (IntOp.shli .vector (cat (V (ix2 a l)) (V (ix2 a (nxt l)))) s) * X (ix3 0 a l)
          = Wd (arg2.view.read (Elt Ideal) X2) (arg12.view.read (Elt Ideal) X12) k0_t4 0 f ⟨16 * k.val + a.val, by omega⟩ l := by
      rintro f _ rfl a l
      rw [hV, hV, hX]
      rfl
    exact slot_step arg13 f13 0 _ k.val hk (off8_eq k) (off9_eq k) (off10_eq k) (off11_eq k) (off12_eq k) (off13_eq k) (off14_eq k) (off15_eq k) _ _ _ _ _ _ _ _
      (fun a l => (congrFun (dec5_0 k0_pay219 V X) (ix4 0 0 a l)).trans (by exact (pair_at_zero V X a l).trans (hgen 0 0#32 rfl a l)))
      (fun a l => (congrFun (dec5_1 k0_pay219 V X) (ix4 0 0 a l)).trans (by exact (pair_at V X 2#32 a l).trans (hgen 1 2#32 rfl a l)))
      (fun a l => (congrFun (dec5_2 k0_pay219 V X) (ix4 0 0 a l)).trans (by exact (pair_at V X 4#32 a l).trans (hgen 2 4#32 rfl a l)))
      (fun a l => (congrFun (dec5_3 k0_pay219 V X) (ix4 0 0 a l)).trans (by exact (pair_at V X 6#32 a l).trans (hgen 3 6#32 rfl a l)))
      (fun a l => (congrFun (dec5_4 k0_pay219 V X) (ix4 0 0 a l)).trans (by exact (pair_at V X 8#32 a l).trans (hgen 4 8#32 rfl a l)))
      (fun a l => (congrFun (dec5_5 k0_pay219 V X) (ix4 0 0 a l)).trans (by exact (pair_at V X 10#32 a l).trans (hgen 5 10#32 rfl a l)))
      (fun a l => (congrFun (dec5_6 k0_pay219 V X) (ix4 0 0 a l)).trans (by exact (pair_at V X 12#32 a l).trans (hgen 6 12#32 rfl a l)))
      (fun a l => (congrFun (dec5_7 k0_pay219 V X) (ix4 0 0 a l)).trans (by exact (pair_at V X 14#32 a l).trans (hgen 7 14#32 rfl a l)))
      (hI rfl)

theorem off19_eq : ∀ k : Fin k0_t6_loop.trips, k0_off19 k = ![1, 0, 16 * k.val, 0] := by decide +kernel
theorem off20_eq : ∀ k : Fin k0_t6_loop.trips, k0_off20 k = ![1, 1, 16 * k.val, 0] := by decide +kernel
theorem off21_eq : ∀ k : Fin k0_t6_loop.trips, k0_off21 k = ![1, 2, 16 * k.val, 0] := by decide +kernel
theorem off22_eq : ∀ k : Fin k0_t6_loop.trips, k0_off22 k = ![1, 3, 16 * k.val, 0] := by decide +kernel
theorem off23_eq : ∀ k : Fin k0_t6_loop.trips, k0_off23 k = ![1, 4, 16 * k.val, 0] := by decide +kernel
theorem off24_eq : ∀ k : Fin k0_t6_loop.trips, k0_off24 k = ![1, 5, 16 * k.val, 0] := by decide +kernel
theorem off25_eq : ∀ k : Fin k0_t6_loop.trips, k0_off25 k = ![1, 6, 16 * k.val, 0] := by decide +kernel
theorem off26_eq : ∀ k : Fin k0_t6_loop.trips, k0_off26 k = ![1, 7, 16 * k.val, 0] := by decide +kernel
theorem off17_eq : ∀ (q : Fin k0_t4_loop.trips) (k : Fin k0_t6_loop.trips), k0_off17 q k = ![256 * q.val + 16 * k.val, 128] := by decide +kernel
theorem off18_eq : ∀ (q : Fin k0_t4_loop.trips) (k : Fin k0_t6_loop.trips), k0_off18 q k = ![1, 256 * q.val + 16 * k.val, 0] := by decide +kernel

set_option maxHeartbeats 1000000 in
@[sl_loop] def slotInv_k0_t6 (c : Dev nD) (i : grid0.Coords) (arg1 : Memref sig .tc .vmem S128x4096 .bf16) (harg1 : arg1.IsWhole) (arg2 : Memref sig .tc .vmem S1024x512 .i16) (harg2 : arg2.IsWhole) (arg3 : Memref sig .tc .vmem S1x1024 .f32) (harg3 : arg3.IsWhole) (arg4 : Memref sig .tc .vmem S1024x16 .f32) (harg4 : arg4.IsWhole) (arg5 : Memref sig .tc .vmem S1x4096 .f32) (harg5 : arg5.IsWhole) (arg6 : Memref sig .tc .vmem S1x1024 .f32) (harg6 : arg6.IsWhole) (arg7 : Memref sig .tc .vmem S128x1024 .bf16) (harg7 : arg7.IsWhole) (arg8 : Memref sig .tc .vmem S128x4096 .bf16) (harg8 : arg8.IsWhole) (arg9 : Memref sig .tc .vmem S256x256 .bf16) (harg9 : arg9.IsWhole) (arg10 : Memref sig .tc .vmem S4096x128 .bf16) (harg10 : arg10.IsWhole) (arg11 : Memref sig .tc .vmem S1024x128 .f32) (harg11 : arg11.IsWhole) (arg12 : Memref sig .tc .vmem S4x1024x128 .bf16) (harg12 : arg12.IsWhole) (arg13 : Memref sig .tc .vmem S2x8x256x128 .bf16) (harg13 : arg13.IsWhole) (arg14 : Memref sig .tc .vmem S1024x128 .f32) (harg14 : arg14.IsWhole) (v7 : IVec S8x128 1) (k0_t4 : Fin k0_t4_loop.trips) (v139 : BitVec 32) (v155 : FVec Ideal S256x128 .f32) (v157 : FVec Ideal S256x128 .bf16)
    (X2 : BufTy.Contents (Elt Ideal) arg2.view.ty) (X12 : BufTy.Contents (Elt Ideal) arg12.view.ty) :
    VTy_k0_t6 (F := Ideal) Unit ℕ (UR sig nD τ) ℕ 𝒱v c none Set.univ i arg1 harg1 arg2 harg2 arg3 harg3 arg4 harg4 arg5 harg5 arg6 harg6 arg7 harg7 arg8 harg8 arg9 harg9 arg10 harg10 arg11 harg11 arg12 harg12 arg13 harg13 arg14 harg14 v7 k0_t4 v139 v155 v157 where
  inv := fun k acc => iprop(∃ f13, (arg2.view.loc (c : Thread nD τ) ↦[arg2.view.set]{fullShare} X2) ∗ (arg12.view.loc (c : Thread nD τ) ↦[arg12.view.set]{fullShare} X12) ∗ (arg13.view.loc (c : Thread nD τ) ↦[arg13.view.set]{fullShare} f13) ∗
    ⌜v7 = k0_pay219 → Slot 1 (Wd (arg2.view.read (Elt Ideal) X2) (arg12.view.read (Elt Ideal) X12) k0_t4 1) (16 * k) (arg13.view.read (Elt Ideal) f13)⌝)
  step := fun k acc => by
    iintro ⟨%f13, H2, H12, H13, %hI⟩
    unfold k0_t6_body
    sl_exec
    sl_step
    iexists _
    isplitl [H2]; · iexact H2
    isplitl [H12]; · iexact H12
    isplitl [H13]; · iexact H13
    ipureintro
    intro hv
    subst hv
    have hk : k.val < 16 := k.isLt
    have hq : k0_t4.val < 4 := k0_t4.isLt
    sl_unfold_run_names
    have hV : ∀ (a : Fin 16) (l : Fin 128), arg2.view.readAt (Elt Ideal) (Rect.unit (s := S1024x512) (k0_off17 k0_t4 k) S16x128.size (k0_off17_inb k0_t4 k)).toLoadRect X2 (ix2 a l)
        = arg2.view.read (Elt Ideal) X2 (ix2 ⟨256 * k0_t4.val + (16 * k.val + a.val), by omega⟩ (colJ 1 l)) := fun a l => by
      refine readAt_at arg2 X2 (Rect.unit (s := S1024x512) (k0_off17 k0_t4 k) S16x128.size (k0_off17_inb k0_t4 k)).toLoadRect (ix2 a l) _ (off17_eq k0_t4 k) ?_
      intro d; fin_cases d <;> simp [colJ] <;> omega
    have hX : ∀ (a : Fin 16) (l : Fin 128), arg12.view.readAt (Elt Ideal) (Rect.unit (s := S4x1024x128) (k0_off18 k0_t4 k) S1x16x128.size (k0_off18_inb k0_t4 k)).toLoadRect X12 (ix3 0 a l)
        = arg12.view.read (Elt Ideal) X12 (ix3 1 ⟨256 * k0_t4.val + (16 * k.val + a.val), by omega⟩ l) := fun a l => by
      refine readAt_at arg12 X12 (Rect.unit (s := S4x1024x128) (k0_off18 k0_t4 k) S1x16x128.size (k0_off18_inb k0_t4 k)).toLoadRect (ix3 0 a l) _ (off18_eq k0_t4 k) ?_
      intro d; fin_cases d <;> simp <;> omega
    generalize arg2.view.readAt (Elt Ideal) (Rect.unit (s := S1024x512) (k0_off17 k0_t4 k) S16x128.size (k0_off17_inb k0_t4 k)).toLoadRect X2 = V at hV ⊢
    generalize arg12.view.readAt (Elt Ideal) (Rect.unit (s := S4x1024x128) (k0_off18 k0_t4 k) S1x16x128.size (k0_off18_inb k0_t4 k)).toLoadRect X12 = X at hX ⊢
    have hgen : ∀ (f : Fin 8) (s : BitVec 32) (hs : s = BitVec.ofNat 32 (2 * f.val)) (a : Fin 16) (l : Fin 128),
        decu (IntOp.shli .vector (cat (V (ix2 a l)) (V (ix2 a (nxt l)))) s) * X (ix3 0 a l)
          = Wd (arg2.view.read (Elt Ideal) X2) (arg12.view.read (Elt Ideal) X12) k0_t4 1 f ⟨16 * k.val + a.val, by omega⟩ l := by
      rintro f _ rfl a l
      rw [hV, hV, hX]
      rfl
    exact slot_step arg13 f13 1 _ k.val hk (off19_eq k) (off20_eq k) (off21_eq k) (off22_eq k) (off23_eq k) (off24_eq k) (off25_eq k) (off26_eq k) _ _ _ _ _ _ _ _
      (fun a l => (congrFun (dec6_0 k0_pay219 V X) (ix4 0 0 a l)).trans (by rw [(same6 _ _).1, (same6 _ _).2]; exact (pair_at_zero V X a l).trans (hgen 0 0#32 rfl a l)))
      (fun a l => (congrFun (dec6_1 k0_pay219 V X) (ix4 0 0 a l)).trans (by rw [(same6 _ _).1, (same6 _ _).2]; exact (pair_at V X 2#32 a l).trans (hgen 1 2#32 rfl a l)))
      (fun a l => (congrFun (dec6_2 k0_pay219 V X) (ix4 0 0 a l)).trans (by rw [(same6 _ _).1, (same6 _ _).2]; exact (pair_at V X 4#32 a l).trans (hgen 2 4#32 rfl a l)))
      (fun a l => (congrFun (dec6_3 k0_pay219 V X) (ix4 0 0 a l)).trans (by rw [(same6 _ _).1, (same6 _ _).2]; exact (pair_at V X 6#32 a l).trans (hgen 3 6#32 rfl a l)))
      (fun a l => (congrFun (dec6_4 k0_pay219 V X) (ix4 0 0 a l)).trans (by rw [(same6 _ _).1, (same6 _ _).2]; exact (pair_at V X 8#32 a l).trans (hgen 4 8#32 rfl a l)))
      (fun a l => (congrFun (dec6_5 k0_pay219 V X) (ix4 0 0 a l)).trans (by rw [(same6 _ _).1, (same6 _ _).2]; exact (pair_at V X 10#32 a l).trans (hgen 5 10#32 rfl a l)))
      (fun a l => (congrFun (dec6_6 k0_pay219 V X) (ix4 0 0 a l)).trans (by rw [(same6 _ _).1, (same6 _ _).2]; exact (pair_at V X 12#32 a l).trans (hgen 6 12#32 rfl a l)))
      (fun a l => (congrFun (dec6_7 k0_pay219 V X) (ix4 0 0 a l)).trans (by rw [(same6 _ _).1, (same6 _ _).2]; exact (pair_at V X 14#32 a l).trans (hgen 7 14#32 rfl a l)))
      (hI rfl)

theorem off29_eq : ∀ k : Fin k0_t7_loop.trips, k0_off29 k = ![0, 0, 16 * k.val, 0] := by decide +kernel
theorem off30_eq : ∀ k : Fin k0_t7_loop.trips, k0_off30 k = ![0, 1, 16 * k.val, 0] := by decide +kernel
theorem off31_eq : ∀ k : Fin k0_t7_loop.trips, k0_off31 k = ![0, 2, 16 * k.val, 0] := by decide +kernel
theorem off32_eq : ∀ k : Fin k0_t7_loop.trips, k0_off32 k = ![0, 3, 16 * k.val, 0] := by decide +kernel
theorem off33_eq : ∀ k : Fin k0_t7_loop.trips, k0_off33 k = ![0, 4, 16 * k.val, 0] := by decide +kernel
theorem off34_eq : ∀ k : Fin k0_t7_loop.trips, k0_off34 k = ![0, 5, 16 * k.val, 0] := by decide +kernel
theorem off35_eq : ∀ k : Fin k0_t7_loop.trips, k0_off35 k = ![0, 6, 16 * k.val, 0] := by decide +kernel
theorem off36_eq : ∀ k : Fin k0_t7_loop.trips, k0_off36 k = ![0, 7, 16 * k.val, 0] := by decide +kernel
theorem off27_eq : ∀ (q : Fin k0_t4_loop.trips) (k : Fin k0_t7_loop.trips), k0_off27 q k = ![256 * q.val + 16 * k.val, 256] := by decide +kernel
theorem off28_eq : ∀ (q : Fin k0_t4_loop.trips) (k : Fin k0_t7_loop.trips), k0_off28 q k = ![2, 256 * q.val + 16 * k.val, 0] := by decide +kernel

set_option maxHeartbeats 1000000 in
@[sl_loop] def slotInv_k0_t7 (c : Dev nD) (i : grid0.Coords) (arg1 : Memref sig .tc .vmem S128x4096 .bf16) (harg1 : arg1.IsWhole) (arg2 : Memref sig .tc .vmem S1024x512 .i16) (harg2 : arg2.IsWhole) (arg3 : Memref sig .tc .vmem S1x1024 .f32) (harg3 : arg3.IsWhole) (arg4 : Memref sig .tc .vmem S1024x16 .f32) (harg4 : arg4.IsWhole) (arg5 : Memref sig .tc .vmem S1x4096 .f32) (harg5 : arg5.IsWhole) (arg6 : Memref sig .tc .vmem S1x1024 .f32) (harg6 : arg6.IsWhole) (arg7 : Memref sig .tc .vmem S128x1024 .bf16) (harg7 : arg7.IsWhole) (arg8 : Memref sig .tc .vmem S128x4096 .bf16) (harg8 : arg8.IsWhole) (arg9 : Memref sig .tc .vmem S256x256 .bf16) (harg9 : arg9.IsWhole) (arg10 : Memref sig .tc .vmem S4096x128 .bf16) (harg10 : arg10.IsWhole) (arg11 : Memref sig .tc .vmem S1024x128 .f32) (harg11 : arg11.IsWhole) (arg12 : Memref sig .tc .vmem S4x1024x128 .bf16) (harg12 : arg12.IsWhole) (arg13 : Memref sig .tc .vmem S2x8x256x128 .bf16) (harg13 : arg13.IsWhole) (arg14 : Memref sig .tc .vmem S1024x128 .f32) (harg14 : arg14.IsWhole) (v7 : IVec S8x128 1) (k0_t4 : Fin k0_t4_loop.trips) (v139 : BitVec 32) (v208 : FVec Ideal S256x128 .f32) (v209 : BitVec 32) (v211 : Vec Ideal S256x128 .f32)
    (X2 : BufTy.Contents (Elt Ideal) arg2.view.ty) (X12 : BufTy.Contents (Elt Ideal) arg12.view.ty) :
    VTy_k0_t7 (F := Ideal) Unit ℕ (UR sig nD τ) ℕ 𝒱v c none Set.univ i arg1 harg1 arg2 harg2 arg3 harg3 arg4 harg4 arg5 harg5 arg6 harg6 arg7 harg7 arg8 harg8 arg9 harg9 arg10 harg10 arg11 harg11 arg12 harg12 arg13 harg13 arg14 harg14 v7 k0_t4 v139 v208 v209 v211 where
  inv := fun k acc => iprop(∃ f13, (arg2.view.loc (c : Thread nD τ) ↦[arg2.view.set]{fullShare} X2) ∗ (arg12.view.loc (c : Thread nD τ) ↦[arg12.view.set]{fullShare} X12) ∗ (arg13.view.loc (c : Thread nD τ) ↦[arg13.view.set]{fullShare} f13) ∗
    ⌜v7 = k0_pay219 → Slot 0 (Wd (arg2.view.read (Elt Ideal) X2) (arg12.view.read (Elt Ideal) X12) k0_t4 2) (16 * k) (arg13.view.read (Elt Ideal) f13)⌝)
  step := fun k acc => by
    iintro ⟨%f13, H2, H12, H13, %hI⟩
    unfold k0_t7_body
    sl_exec
    sl_step
    iexists _
    isplitl [H2]; · iexact H2
    isplitl [H12]; · iexact H12
    isplitl [H13]; · iexact H13
    ipureintro
    intro hv
    subst hv
    have hk : k.val < 16 := k.isLt
    have hq : k0_t4.val < 4 := k0_t4.isLt
    sl_unfold_run_names
    have hV : ∀ (a : Fin 16) (l : Fin 128), arg2.view.readAt (Elt Ideal) (Rect.unit (s := S1024x512) (k0_off27 k0_t4 k) S16x128.size (k0_off27_inb k0_t4 k)).toLoadRect X2 (ix2 a l)
        = arg2.view.read (Elt Ideal) X2 (ix2 ⟨256 * k0_t4.val + (16 * k.val + a.val), by omega⟩ (colJ 2 l)) := fun a l => by
      refine readAt_at arg2 X2 (Rect.unit (s := S1024x512) (k0_off27 k0_t4 k) S16x128.size (k0_off27_inb k0_t4 k)).toLoadRect (ix2 a l) _ (off27_eq k0_t4 k) ?_
      intro d; fin_cases d <;> simp [colJ] <;> omega
    have hX : ∀ (a : Fin 16) (l : Fin 128), arg12.view.readAt (Elt Ideal) (Rect.unit (s := S4x1024x128) (k0_off28 k0_t4 k) S1x16x128.size (k0_off28_inb k0_t4 k)).toLoadRect X12 (ix3 0 a l)
        = arg12.view.read (Elt Ideal) X12 (ix3 2 ⟨256 * k0_t4.val + (16 * k.val + a.val), by omega⟩ l) := fun a l => by
      refine readAt_at arg12 X12 (Rect.unit (s := S4x1024x128) (k0_off28 k0_t4 k) S1x16x128.size (k0_off28_inb k0_t4 k)).toLoadRect (ix3 0 a l) _ (off28_eq k0_t4 k) ?_
      intro d; fin_cases d <;> simp <;> omega
    generalize arg2.view.readAt (Elt Ideal) (Rect.unit (s := S1024x512) (k0_off27 k0_t4 k) S16x128.size (k0_off27_inb k0_t4 k)).toLoadRect X2 = V at hV ⊢
    generalize arg12.view.readAt (Elt Ideal) (Rect.unit (s := S4x1024x128) (k0_off28 k0_t4 k) S1x16x128.size (k0_off28_inb k0_t4 k)).toLoadRect X12 = X at hX ⊢
    have hgen : ∀ (f : Fin 8) (s : BitVec 32) (hs : s = BitVec.ofNat 32 (2 * f.val)) (a : Fin 16) (l : Fin 128),
        decu (IntOp.shli .vector (cat (V (ix2 a l)) (V (ix2 a (nxt l)))) s) * X (ix3 0 a l)
          = Wd (arg2.view.read (Elt Ideal) X2) (arg12.view.read (Elt Ideal) X12) k0_t4 2 f ⟨16 * k.val + a.val, by omega⟩ l := by
      rintro f _ rfl a l
      rw [hV, hV, hX]
      rfl
    exact slot_step arg13 f13 0 _ k.val hk (off29_eq k) (off30_eq k) (off31_eq k) (off32_eq k) (off33_eq k) (off34_eq k) (off35_eq k) (off36_eq k) _ _ _ _ _ _ _ _
      (fun a l => (congrFun (dec7_0 k0_pay219 V X) (ix4 0 0 a l)).trans (by rw [(same7 _ _).1, (same7 _ _).2]; exact (pair_at_zero V X a l).trans (hgen 0 0#32 rfl a l)))
      (fun a l => (congrFun (dec7_1 k0_pay219 V X) (ix4 0 0 a l)).trans (by rw [(same7 _ _).1, (same7 _ _).2]; exact (pair_at V X 2#32 a l).trans (hgen 1 2#32 rfl a l)))
      (fun a l => (congrFun (dec7_2 k0_pay219 V X) (ix4 0 0 a l)).trans (by rw [(same7 _ _).1, (same7 _ _).2]; exact (pair_at V X 4#32 a l).trans (hgen 2 4#32 rfl a l)))
      (fun a l => (congrFun (dec7_3 k0_pay219 V X) (ix4 0 0 a l)).trans (by rw [(same7 _ _).1, (same7 _ _).2]; exact (pair_at V X 6#32 a l).trans (hgen 3 6#32 rfl a l)))
      (fun a l => (congrFun (dec7_4 k0_pay219 V X) (ix4 0 0 a l)).trans (by rw [(same7 _ _).1, (same7 _ _).2]; exact (pair_at V X 8#32 a l).trans (hgen 4 8#32 rfl a l)))
      (fun a l => (congrFun (dec7_5 k0_pay219 V X) (ix4 0 0 a l)).trans (by rw [(same7 _ _).1, (same7 _ _).2]; exact (pair_at V X 10#32 a l).trans (hgen 5 10#32 rfl a l)))
      (fun a l => (congrFun (dec7_6 k0_pay219 V X) (ix4 0 0 a l)).trans (by rw [(same7 _ _).1, (same7 _ _).2]; exact (pair_at V X 12#32 a l).trans (hgen 6 12#32 rfl a l)))
      (fun a l => (congrFun (dec7_7 k0_pay219 V X) (ix4 0 0 a l)).trans (by rw [(same7 _ _).1, (same7 _ _).2]; exact (pair_at V X 14#32 a l).trans (hgen 7 14#32 rfl a l)))
      (hI rfl)

theorem off39_eq : ∀ k : Fin k0_t8_loop.trips, k0_off39 k = ![1, 0, 16 * k.val, 0] := by decide +kernel
theorem off40_eq : ∀ k : Fin k0_t8_loop.trips, k0_off40 k = ![1, 1, 16 * k.val, 0] := by decide +kernel
theorem off41_eq : ∀ k : Fin k0_t8_loop.trips, k0_off41 k = ![1, 2, 16 * k.val, 0] := by decide +kernel
theorem off42_eq : ∀ k : Fin k0_t8_loop.trips, k0_off42 k = ![1, 3, 16 * k.val, 0] := by decide +kernel
theorem off43_eq : ∀ k : Fin k0_t8_loop.trips, k0_off43 k = ![1, 4, 16 * k.val, 0] := by decide +kernel
theorem off44_eq : ∀ k : Fin k0_t8_loop.trips, k0_off44 k = ![1, 5, 16 * k.val, 0] := by decide +kernel
theorem off45_eq : ∀ k : Fin k0_t8_loop.trips, k0_off45 k = ![1, 6, 16 * k.val, 0] := by decide +kernel
theorem off46_eq : ∀ k : Fin k0_t8_loop.trips, k0_off46 k = ![1, 7, 16 * k.val, 0] := by decide +kernel
theorem off37_eq : ∀ (q : Fin k0_t4_loop.trips) (k : Fin k0_t8_loop.trips), k0_off37 q k = ![256 * q.val + 16 * k.val, 384] := by decide +kernel
theorem off38_eq : ∀ (q : Fin k0_t4_loop.trips) (k : Fin k0_t8_loop.trips), k0_off38 q k = ![3, 256 * q.val + 16 * k.val, 0] := by decide +kernel

set_option maxHeartbeats 1000000 in
@[sl_loop] def slotInv_k0_t8 (c : Dev nD) (i : grid0.Coords) (arg1 : Memref sig .tc .vmem S128x4096 .bf16) (harg1 : arg1.IsWhole) (arg2 : Memref sig .tc .vmem S1024x512 .i16) (harg2 : arg2.IsWhole) (arg3 : Memref sig .tc .vmem S1x1024 .f32) (harg3 : arg3.IsWhole) (arg4 : Memref sig .tc .vmem S1024x16 .f32) (harg4 : arg4.IsWhole) (arg5 : Memref sig .tc .vmem S1x4096 .f32) (harg5 : arg5.IsWhole) (arg6 : Memref sig .tc .vmem S1x1024 .f32) (harg6 : arg6.IsWhole) (arg7 : Memref sig .tc .vmem S128x1024 .bf16) (harg7 : arg7.IsWhole) (arg8 : Memref sig .tc .vmem S128x4096 .bf16) (harg8 : arg8.IsWhole) (arg9 : Memref sig .tc .vmem S256x256 .bf16) (harg9 : arg9.IsWhole) (arg10 : Memref sig .tc .vmem S4096x128 .bf16) (harg10 : arg10.IsWhole) (arg11 : Memref sig .tc .vmem S1024x128 .f32) (harg11 : arg11.IsWhole) (arg12 : Memref sig .tc .vmem S4x1024x128 .bf16) (harg12 : arg12.IsWhole) (arg13 : Memref sig .tc .vmem S2x8x256x128 .bf16) (harg13 : arg13.IsWhole) (arg14 : Memref sig .tc .vmem S1024x128 .f32) (harg14 : arg14.IsWhole) (v7 : IVec S8x128 1) (k0_t4 : Fin k0_t4_loop.trips) (v139 : BitVec 32) (v232 : FVec Ideal S256x128 .f32) (v234 : FVec Ideal S256x128 .bf16)
    (X2 : BufTy.Contents (Elt Ideal) arg2.view.ty) (X12 : BufTy.Contents (Elt Ideal) arg12.view.ty) :
    VTy_k0_t8 (F := Ideal) Unit ℕ (UR sig nD τ) ℕ 𝒱v c none Set.univ i arg1 harg1 arg2 harg2 arg3 harg3 arg4 harg4 arg5 harg5 arg6 harg6 arg7 harg7 arg8 harg8 arg9 harg9 arg10 harg10 arg11 harg11 arg12 harg12 arg13 harg13 arg14 harg14 v7 k0_t4 v139 v232 v234 where
  inv := fun k acc => iprop(∃ f13, (arg2.view.loc (c : Thread nD τ) ↦[arg2.view.set]{fullShare} X2) ∗ (arg12.view.loc (c : Thread nD τ) ↦[arg12.view.set]{fullShare} X12) ∗ (arg13.view.loc (c : Thread nD τ) ↦[arg13.view.set]{fullShare} f13) ∗
    ⌜v7 = k0_pay219 → Slot 1 (Wd (arg2.view.read (Elt Ideal) X2) (arg12.view.read (Elt Ideal) X12) k0_t4 3) (16 * k) (arg13.view.read (Elt Ideal) f13)⌝)
  step := fun k acc => by
    iintro ⟨%f13, H2, H12, H13, %hI⟩
    unfold k0_t8_body
    sl_exec
    sl_step
    iexists _
    isplitl [H2]; · iexact H2
    isplitl [H12]; · iexact H12
    isplitl [H13]; · iexact H13
    ipureintro
    intro hv
    subst hv
    have hk : k.val < 16 := k.isLt
    have hq : k0_t4.val < 4 := k0_t4.isLt
    sl_unfold_run_names
    have hV : ∀ (a : Fin 16) (l : Fin 128), arg2.view.readAt (Elt Ideal) (Rect.unit (s := S1024x512) (k0_off37 k0_t4 k) S16x128.size (k0_off37_inb k0_t4 k)).toLoadRect X2 (ix2 a l)
        = arg2.view.read (Elt Ideal) X2 (ix2 ⟨256 * k0_t4.val + (16 * k.val + a.val), by omega⟩ (colJ 3 l)) := fun a l => by
      refine readAt_at arg2 X2 (Rect.unit (s := S1024x512) (k0_off37 k0_t4 k) S16x128.size (k0_off37_inb k0_t4 k)).toLoadRect (ix2 a l) _ (off37_eq k0_t4 k) ?_
      intro d; fin_cases d <;> simp [colJ] <;> omega
    have hX : ∀ (a : Fin 16) (l : Fin 128), arg12.view.readAt (Elt Ideal) (Rect.unit (s := S4x1024x128) (k0_off38 k0_t4 k) S1x16x128.size (k0_off38_inb k0_t4 k)).toLoadRect X12 (ix3 0 a l)
        = arg12.view.read (Elt Ideal) X12 (ix3 3 ⟨256 * k0_t4.val + (16 * k.val + a.val), by omega⟩ l) := fun a l => by
      refine readAt_at arg12 X12 (Rect.unit (s := S4x1024x128) (k0_off38 k0_t4 k) S1x16x128.size (k0_off38_inb k0_t4 k)).toLoadRect (ix3 0 a l) _ (off38_eq k0_t4 k) ?_
      intro d; fin_cases d <;> simp <;> omega
    generalize arg2.view.readAt (Elt Ideal) (Rect.unit (s := S1024x512) (k0_off37 k0_t4 k) S16x128.size (k0_off37_inb k0_t4 k)).toLoadRect X2 = V at hV ⊢
    generalize arg12.view.readAt (Elt Ideal) (Rect.unit (s := S4x1024x128) (k0_off38 k0_t4 k) S1x16x128.size (k0_off38_inb k0_t4 k)).toLoadRect X12 = X at hX ⊢
    have hgen : ∀ (f : Fin 8) (s : BitVec 32) (hs : s = BitVec.ofNat 32 (2 * f.val)) (a : Fin 16) (l : Fin 128),
        decu (IntOp.shli .vector (cat (V (ix2 a l)) (V (ix2 a (nxt l)))) s) * X (ix3 0 a l)
          = Wd (arg2.view.read (Elt Ideal) X2) (arg12.view.read (Elt Ideal) X12) k0_t4 3 f ⟨16 * k.val + a.val, by omega⟩ l := by
      rintro f _ rfl a l
      rw [hV, hV, hX]
      rfl
    exact slot_step arg13 f13 1 _ k.val hk (off39_eq k) (off40_eq k) (off41_eq k) (off42_eq k) (off43_eq k) (off44_eq k) (off45_eq k) (off46_eq k) _ _ _ _ _ _ _ _
      (fun a l => (congrFun (dec8_0 k0_pay219 V X) (ix4 0 0 a l)).trans (by rw [(same8 _ _).1, (same8 _ _).2]; exact (pair_at_zero V X a l).trans (hgen 0 0#32 rfl a l)))
      (fun a l => (congrFun (dec8_1 k0_pay219 V X) (ix4 0 0 a l)).trans (by rw [(same8 _ _).1, (same8 _ _).2]; exact (pair_at V X 2#32 a l).trans (hgen 1 2#32 rfl a l)))
      (fun a l => (congrFun (dec8_2 k0_pay219 V X) (ix4 0 0 a l)).trans (by rw [(same8 _ _).1, (same8 _ _).2]; exact (pair_at V X 4#32 a l).trans (hgen 2 4#32 rfl a l)))
      (fun a l => (congrFun (dec8_3 k0_pay219 V X) (ix4 0 0 a l)).trans (by rw [(same8 _ _).1, (same8 _ _).2]; exact (pair_at V X 6#32 a l).trans (hgen 3 6#32 rfl a l)))
      (fun a l => (congrFun (dec8_4 k0_pay219 V X) (ix4 0 0 a l)).trans (by rw [(same8 _ _).1, (same8 _ _).2]; exact (pair_at V X 8#32 a l).trans (hgen 4 8#32 rfl a l)))
      (fun a l => (congrFun (dec8_5 k0_pay219 V X) (ix4 0 0 a l)).trans (by rw [(same8 _ _).1, (same8 _ _).2]; exact (pair_at V X 10#32 a l).trans (hgen 5 10#32 rfl a l)))
      (fun a l => (congrFun (dec8_6 k0_pay219 V X) (ix4 0 0 a l)).trans (by rw [(same8 _ _).1, (same8 _ _).2]; exact (pair_at V X 12#32 a l).trans (hgen 6 12#32 rfl a l)))
      (fun a l => (congrFun (dec8_7 k0_pay219 V X) (ix4 0 0 a l)).trans (by rw [(same8 _ _).1, (same8 _ _).2]; exact (pair_at V X 14#32 a l).trans (hgen 7 14#32 rfl a l)))
      (hI rfl)

end Cert.Proof.KernelIdeal

end

end
-- ==== Proof.KernelIdeal.ValH0.lean ====
/- The products of one row block, over the decoded weights of the four column groups. -/
module

public import proofs.«01_k».proof.Proof.KernelIdeal.ValG0

@[expose] public section

set_option maxRecDepth 65536

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- Two slots side by side times a block of activations. -/
def mmC (A B : Vec Ideal S1x1x256x128 .bf16) (X : Vec Ideal S256x128 .bf16) : FVec Ideal S256x128 .f32 :=
  matmul (φ₁ := .bf16) (φ₂ := .bf16) dot_S256x256_S256x128_S256x128_1_0_0_1_n_n none
    (concatenate S256x256 1 [⟨S256x128, shapeCast S256x128 A shapeCasts_S1x1x256x128_S256x128⟩, ⟨S256x128, shapeCast S256x128 B shapeCasts_S1x1x256x128_S256x128⟩] concatenates_S256x128_S256x128_S256x256_d1) X (constant (F := Ideal) S256x128 .f32 0x00000000#32)

theorem mmC_at (A B : Vec Ideal S1x1x256x128 .bf16) (X : Vec Ideal S256x128 .bf16) (r : Fin 256) (s : Fin 128) :
    mmC A B X (ix2 r s) = ∑ k : Fin 256, (if h : k.val < 128 then A (ix4 0 0 r ⟨k.val, h⟩) else B (ix4 0 0 r ⟨k.val - 128, by omega⟩)) * X (ix2 k s) := by
  pointwise [mmC]

theorem g0 (a b c d e f g h : Vec Ideal S1x1x256x128 .bf16) (x y z w : Vec Ideal S256x128 .bf16) :
    k0_pay204 (F := Ideal) (k0_pay202 a b x c d y) (k0_pay203 e) f z g h w = shapeCast S256x128 (addf (addf (addf (mmC a b x) (mmC c d y)) (mmC e f z)) (mmC g h w)) shapeCasts_S256x128_S256x128 := by
  unfold k0_pay204 k0_pay202 k0_pay203 mmC; with_reducible rfl
theorem g1 (a b c d e f g h : Vec Ideal S1x1x256x128 .bf16) (x y z w : Vec Ideal S256x128 .bf16) (p : Vec Ideal S256x128 .f32) :
    k0_pay208 (F := Ideal) (k0_pay207 (k0_pay206 a b x) c d y e f z g h w) p = shapeCast S256x128 (addf p (addf (addf (addf (mmC a b x) (mmC c d y)) (mmC e f z)) (mmC g h w))) shapeCasts_S256x128_S256x128 := by
  unfold k0_pay208 k0_pay207 k0_pay206 mmC; with_reducible rfl
theorem g2 (a b c d e f g h : Vec Ideal S1x1x256x128 .bf16) (x y z w : Vec Ideal S256x128 .bf16) (p : Vec Ideal S256x128 .f32) :
    k0_pay212 (F := Ideal) (k0_pay210 a b x c d y) (k0_pay211 e) f z g h w p = shapeCast S256x128 (addf p (addf (addf (addf (mmC a b x) (mmC c d y)) (mmC e f z)) (mmC g h w))) shapeCasts_S256x128_S256x128 := by
  unfold k0_pay212 k0_pay210 k0_pay211 mmC; with_reducible rfl
theorem g3 (a b c d e f g h : Vec Ideal S1x1x256x128 .bf16) (x y z w : Vec Ideal S256x128 .bf16) (p : Vec Ideal S256x128 .f32) :
    k0_pay226 (F := Ideal) (k0_pay215 (k0_pay214 a b) x c d y e f z g h w) p = shapeCast S256x128 (addf p (addf (addf (addf (mmC a b x) (mmC c d y)) (mmC e f z)) (mmC g h w))) shapeCasts_S256x128_S256x128 := by
  unfold k0_pay226 k0_pay215 k0_pay214 mmC; with_reducible rfl

theorem cast_id (v : FVec Ideal S256x128 .f32) (r : Fin 256) (s : Fin 128) : shapeCast S256x128 v shapeCasts_S256x128_S256x128 (ix2 r s) = v (ix2 r s) := by
  pointwise []

/-- Two slots side by side. -/
def Wc (W : Fin 8 → Fin 256 → Fin 128 → EReal) (q : Fin 4) (r k : Fin 256) : EReal :=
  if h : k.val < 128 then W ⟨2 * q.val, by omega⟩ r ⟨k.val, h⟩ else W ⟨2 * q.val + 1, by omega⟩ r ⟨k.val - 128, by omega⟩

def mmS (W : Fin 8 → Fin 256 → Fin 128 → EReal) (r10 : S4096x128.Idx → EReal) (j q : Fin 4) (r : Fin 256) (s : Fin 128) : EReal :=
  ∑ k : Fin 256, Wc W q r k * r10 (ix2 ⟨1024 * j.val + 256 * q.val + k.val, by omega⟩ s)

def SJ (W : Fin 8 → Fin 256 → Fin 128 → EReal) (r10 : S4096x128.Idx → EReal) (j : Fin 4) (r : Fin 256) (s : Fin 128) : EReal :=
  mmS W r10 j 0 r s + mmS W r10 j 1 r s + mmS W r10 j 2 r s + mmS W r10 j 3 r s

/-- The product of row `256 * kt + r` of the weights with column `s` of the activations. -/
def ACC (r2 : S1024x512.Idx → BitVec 16) (r12 : S4x1024x128.Idx → EReal) (r10 : S4096x128.Idx → EReal) (kt : Fin 4) (r : Fin 256) (s : Fin 128) : EReal :=
  SJ (Wd r2 r12 kt 0) r10 0 r s + SJ (Wd r2 r12 kt 1) r10 1 r s + SJ (Wd r2 r12 kt 2) r10 2 r s + SJ (Wd r2 r12 kt 3) r10 3 r s

/-- The first rows of the products. -/
structure Acc (r2 : S1024x512.Idx → BitVec 16) (r12 : S4x1024x128.Idx → EReal) (r10 : S4096x128.Idx → EReal) (n : ℕ) (r14 : S1024x128.Idx → EReal) : Prop where
  at' : ∀ (kt : Fin 4) (r : Fin 256) (s : Fin 128), kt.val < n → r14 (ix2 ⟨256 * kt.val + r.val, by omega⟩ s) = ACC r2 r12 r10 kt r s

@[simp] theorem Acc_zero (r2 : S1024x512.Idx → BitVec 16) (r12 : S4x1024x128.Idx → EReal) (r10 : S4096x128.Idx → EReal) (r14 : S1024x128.Idx → EReal) :
    Acc r2 r12 r10 0 r14 := ⟨fun _ _ _ h => absurd h (Nat.not_lt_zero _)⟩

theorem mmC_mmS {A B : Vec Ideal S1x1x256x128 .bf16} {X : Vec Ideal S256x128 .bf16} (W : Fin 8 → Fin 256 → Fin 128 → EReal) (r10 : S4096x128.Idx → EReal) (j q : Fin 4)
    (hA : ∀ (r : Fin 256) (l : Fin 128), A (ix4 0 0 r l) = W ⟨2 * q.val, by omega⟩ r l) (hB : ∀ (r : Fin 256) (l : Fin 128), B (ix4 0 0 r l) = W ⟨2 * q.val + 1, by omega⟩ r l)
    (hX : ∀ (k : Fin 256) (s : Fin 128), X (ix2 k s) = r10 (ix2 ⟨1024 * j.val + 256 * q.val + k.val, by omega⟩ s)) (r : Fin 256) (s : Fin 128) :
    mmC A B X (ix2 r s) = mmS W r10 j q r s := by
  rw [mmC_at]
  refine Finset.sum_congr rfl fun k _ => ?_
  rw [hX]; unfold Wc
  split <;> simp [hA, hB]

section loads
variable {sp : Space} (M : Memref sig .tc sp S2x8x256x128 .bf16) (f13 : BufTy.Contents (Elt Ideal) M.view.ty) (sl : Fin 2) (W : Fin 8 → Fin 256 → Fin 128 → EReal)

theorem ldSlot (h : Slot sl W 256 (M.view.read (Elt Ideal) f13)) (f : Fin 8) {off : Fin 4 → ℕ} {j} (ho : off = ![sl.val, f.val, 0, 0]) (r : Fin 256) (l : Fin 128) :
    M.view.readAt (Elt Ideal) (Rect.unit (s := S2x8x256x128) off S1x1x256x128.size j).toLoadRect f13 (ix4 0 0 r l) = W f r l := by
  refine (readAt_at M f13 (Rect.unit (s := S2x8x256x128) off S1x1x256x128.size j).toLoadRect (ix4 0 0 r l) (ix4 sl f r l) ho ?_).trans (h.at' f r l r.isLt)
  intro d; fin_cases d <;> simp

end loads

theorem ld10 {sp : Space} (M : Memref sig .tc sp S4096x128 .bf16) (f10 : BufTy.Contents (Elt Ideal) M.view.ty) (j q : Fin 4) {off : Fin 2 → ℕ} {h} (ho : off = ![1024 * j.val + 256 * q.val, 0]) (k : Fin 256) (s : Fin 128) :
    M.view.readAt (Elt Ideal) (Rect.unit (s := S4096x128) off S256x128.size h).toLoadRect f10 (ix2 k s) = M.view.read (Elt Ideal) f10 (ix2 ⟨1024 * j.val + 256 * q.val + k.val, by omega⟩ s) := by
  refine readAt_at M f10 (Rect.unit (s := S4096x128) off S256x128.size h).toLoadRect (ix2 k s) _ ho ?_
  intro d; fin_cases d <;> simp

/-- A load of the rectangle stored last reads what was stored. -/
theorem ldHead {sp : Space} {S : Shape} {e : EltTy} (M : Memref sig .tc sp S e) (r : Rect S) (w : r.shape.Idx → Elt Ideal e) (L : List (View.Piece (Elt Ideal) S e)) :
    M.view.readCov (⟨r, w⟩ :: L) r.toLoadRect = w :=
  funext fun x => View.read_writes_cons_emb (v := M.view) (f := M.view.junk) r w L x

theorem acc_step {sp : Space} (M : Memref sig .tc sp S1024x128 .f32) (f0 : BufTy.Contents (Elt Ideal) M.view.ty)
    (r2 : S1024x512.Idx → BitVec 16) (r12 : S4x1024x128.Idx → EReal) (r10 : S4096x128.Idx → EReal) (k : ℕ) (hk : k < 4) {o : Fin 2 → ℕ} (e : o = ![256 * k, 0]) {j}
    (P Q R S : FVec Ideal S256x128 .f32) (hP : ∀ (r : Fin 256) (s : Fin 128), P (ix2 r s) = ACC r2 r12 r10 ⟨k, hk⟩ r s)
    (h : Acc r2 r12 r10 k (M.view.read (Elt Ideal) f0)) :
    Acc r2 r12 r10 (k + 1) (M.view.read (Elt Ideal) (M.view.writes (Elt Ideal) f0
      [⟨Rect.unit (s := S1024x128) o S256x128.size j, P⟩, ⟨Rect.unit (s := S1024x128) o S256x128.size j, Q⟩,
       ⟨Rect.unit (s := S1024x128) o S256x128.size j, R⟩, ⟨Rect.unit (s := S1024x128) o S256x128.size j, S⟩])) := by
  subst e
  refine ⟨fun kt r s hkt => ?_⟩
  by_cases hlt : kt.val < k
  · refine (View.read_writes_apply_of_forall_not_mem M.view f0 _ _ ?_).trans (h.at' kt r s hlt)
    simp only [List.forall_mem_cons, List.not_mem_nil, false_imp_iff, implies_true, and_true, Rect.mem_set_unit, Fin.forall_fin_succ]
    simp
    omega
  · obtain rfl : kt = ⟨k, hk⟩ := Fin.ext (by simp only []; omega)
    refine Eq.trans (congrArg (M.view.read (Elt Ideal) _) ?_) ((View.read_writes_cons_emb (v := M.view) (f := f0) (Rect.unit (s := S1024x128) ![256 * k, 0] S256x128.size j) P
      [⟨Rect.unit (s := S1024x128) ![256 * k, 0] S256x128.size j, Q⟩, ⟨Rect.unit (s := S1024x128) ![256 * k, 0] S256x128.size j, R⟩,
       ⟨Rect.unit (s := S1024x128) ![256 * k, 0] S256x128.size j, S⟩] (ix2 r s)).trans (hP r s))
    funext d
    apply Fin.ext
    rw [ValueKit.rect_emb_unit_val]
    fin_cases d <;> simp

/-- The sum of four products, cast to its own shape. -/
theorem sum4_at (W : Fin 8 → Fin 256 → Fin 128 → EReal) (r10 : S4096x128.Idx → EReal) (j : Fin 4) {m0 m1 m2 m3 : FVec Ideal S256x128 .f32} {r : Fin 256} {s : Fin 128}
    (h0 : m0 (ix2 r s) = mmS W r10 j 0 r s) (h1 : m1 (ix2 r s) = mmS W r10 j 1 r s) (h2 : m2 (ix2 r s) = mmS W r10 j 2 r s) (h3 : m3 (ix2 r s) = mmS W r10 j 3 r s) :
    addf (F := Ideal) (φ := .f32) (addf (addf m0 m1) m2) m3 (ix2 r s) = SJ W r10 j r s := by
  rw [SJ, ← h0, ← h1, ← h2, ← h3]; rfl

theorem ACC_eq (r2 : S1024x512.Idx → BitVec 16) (r12 : S4x1024x128.Idx → EReal) (r10 : S4096x128.Idx → EReal) (kt : Fin 4) (r : Fin 256) (s : Fin 128) :
    ACC r2 r12 r10 kt r s = SJ (Wd r2 r12 kt 0) r10 0 r s + SJ (Wd r2 r12 kt 1) r10 1 r s + SJ (Wd r2 r12 kt 2) r10 2 r s + SJ (Wd r2 r12 kt 3) r10 3 r s := rfl

theorem grp {F p G : FVec Ideal S256x128 .f32} {r : Fin 256} {s : Fin 128} {A B : EReal} (hg : F = shapeCast S256x128 (addf p G) shapeCasts_S256x128_S256x128)
    (hp : p (ix2 r s) = A) (hG : G (ix2 r s) = B) : F (ix2 r s) = A + B := by
  rw [hg, cast_id, ← hp, ← hG]; rfl

theorem grp0 {F G : FVec Ideal S256x128 .f32} {r : Fin 256} {s : Fin 128} {B : EReal} (hg : F = shapeCast S256x128 G shapeCasts_S256x128_S256x128)
    (hG : G (ix2 r s) = B) : F (ix2 r s) = B := by
  rw [hg, cast_id, ← hG]

theorem ldAcc {sp : Space} {M : Memref sig .tc sp S1024x128 .f32} {o : Fin 2 → ℕ} {j j'} {w : FVec Ideal S256x128 .f32} {L : List (View.Piece (Elt Ideal) S1024x128 .f32)} {r : Fin 256} {s : Fin 128} {A : EReal}
    (h : w (ix2 r s) = A) :
    (M.view.readCov (⟨Rect.unit (s := S1024x128) o S256x128.size j, w⟩ :: L) (Rect.unit (s := S1024x128) o S256x128.size j').toLoadRect : FVec Ideal S256x128 .f32) (ix2 r s) = A :=
  (congrFun (ldHead M (Rect.unit (s := S1024x128) o S256x128.size j) w L) (ix2 r s)).trans h

end Cert.Proof.KernelIdeal

end

end
-- ==== Proof.KernelIdeal.ValH.lean ====
/- The products of one row block, over the decoded weights of the four column groups. -/
module

public import proofs.«01_k».proof.Proof.KernelIdeal.ValG
public import proofs.«01_k».proof.Proof.KernelIdeal.ValH0

@[expose] public section

set_option maxRecDepth 65536

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

theorem off16_eq : ∀ q : Fin k0_t4_loop.trips, k0_off16 q = ![256 * q.val, 0] := by decide +kernel

attribute [local irreducible] Wd dw mmC mmS SJ ACC

set_option maxHeartbeats 1000000 in
@[sl_loop] def accInv_k0_t4 (c : Dev nD) (i : grid0.Coords) (arg1 : Memref sig .tc .vmem S128x4096 .bf16) (harg1 : arg1.IsWhole) (arg2 : Memref sig .tc .vmem S1024x512 .i16) (harg2 : arg2.IsWhole) (arg3 : Memref sig .tc .vmem S1x1024 .f32) (harg3 : arg3.IsWhole) (arg4 : Memref sig .tc .vmem S1024x16 .f32) (harg4 : arg4.IsWhole) (arg5 : Memref sig .tc .vmem S1x4096 .f32) (harg5 : arg5.IsWhole) (arg6 : Memref sig .tc .vmem S1x1024 .f32) (harg6 : arg6.IsWhole) (arg7 : Memref sig .tc .vmem S128x1024 .bf16) (harg7 : arg7.IsWhole) (arg8 : Memref sig .tc .vmem S128x4096 .bf16) (harg8 : arg8.IsWhole) (arg9 : Memref sig .tc .vmem S256x256 .bf16) (harg9 : arg9.IsWhole) (arg10 : Memref sig .tc .vmem S4096x128 .bf16) (harg10 : arg10.IsWhole) (arg11 : Memref sig .tc .vmem S1024x128 .f32) (harg11 : arg11.IsWhole) (arg12 : Memref sig .tc .vmem S4x1024x128 .bf16) (harg12 : arg12.IsWhole) (arg13 : Memref sig .tc .vmem S2x8x256x128 .bf16) (harg13 : arg13.IsWhole) (arg14 : Memref sig .tc .vmem S1024x128 .f32) (harg14 : arg14.IsWhole) (v7 : IVec S8x128 1) (v33 : FVec Ideal S1024x128 .bf16)
    (X2 : BufTy.Contents (Elt Ideal) arg2.view.ty) (X10 : BufTy.Contents (Elt Ideal) arg10.view.ty) (X12 : BufTy.Contents (Elt Ideal) arg12.view.ty) :
    VTy_k0_t4 (F := Ideal) Unit ℕ (UR sig nD τ) ℕ 𝒱v c none Set.univ i arg1 harg1 arg2 harg2 arg3 harg3 arg4 harg4 arg5 harg5 arg6 harg6 arg7 harg7 arg8 harg8 arg9 harg9 arg10 harg10 arg11 harg11 arg12 harg12 arg13 harg13 arg14 harg14 v7 v33 where
  inv := fun k acc => iprop(∃ f13 f14, (arg2.view.loc (c : Thread nD τ) ↦[arg2.view.set]{fullShare} X2) ∗ (arg10.view.loc (c : Thread nD τ) ↦[arg10.view.set]{fullShare} X10) ∗ (arg12.view.loc (c : Thread nD τ) ↦[arg12.view.set]{fullShare} X12) ∗ (arg13.view.loc (c : Thread nD τ) ↦[arg13.view.set]{fullShare} f13) ∗ (arg14.view.loc (c : Thread nD τ) ↦[arg14.view.set]{fullShare} f14) ∗
    ⌜v7 = k0_pay219 → Acc (arg2.view.read (Elt Ideal) X2) (arg12.view.read (Elt Ideal) X12) (arg10.view.read (Elt Ideal) X10) k (arg14.view.read (Elt Ideal) f14)⌝)
  step := fun k acc => by
    iintro ⟨%f13, %f14, H2, H10, H12, H13, H14, %hI⟩
    unfold k0_t4_body
    sl_exec
    sl_step
    iexists _
    iexists _
    isplitl [H2]; · iexact H2
    isplitl [H10]; · iexact H10
    isplitl [H12]; · iexact H12
    isplitl [H13]; · iexact H13
    isplitl [H14]; · iexact H14
    ipureintro
    intro hv
    subst hv
    have hs0 := hL3 rfl
    have hs1 := hL7 rfl
    have hs2 := hL11 rfl
    have hs3 := hL15 rfl
    sl_unfold_run_names
    refine acc_step arg14 f14 _ _ _ k.val k.isLt (off16_eq k) _ _ _ _ (fun r s => ?_) (hI rfl)
    rw [ACC_eq]
    refine grp (g3 _ _ _ _ _ _ _ _ _ _ _ _ _) ?_ ?_
    swap
    · exact (sum4_at (Wd (arg2.view.read (Elt Ideal) X2) (arg12.view.read (Elt Ideal) X12) k 3) (arg10.view.read (Elt Ideal) X10) 3
      (mmC_mmS (Wd (arg2.view.read (Elt Ideal) X2) (arg12.view.read (Elt Ideal) X12) k 3) (arg10.view.read (Elt Ideal) X10) 3 0 (ldSlot arg13 _ 1 _ hs3 0 rfl) (ldSlot arg13 _ 1 _ hs3 1 rfl) (ld10 arg10 X10 3 0 rfl) r s)
      (mmC_mmS (Wd (arg2.view.read (Elt Ideal) X2) (arg12.view.read (Elt Ideal) X12) k 3) (arg10.view.read (Elt Ideal) X10) 3 1 (ldSlot arg13 _ 1 _ hs3 2 rfl) (ldSlot arg13 _ 1 _ hs3 3 rfl) (ld10 arg10 X10 3 1 rfl) r s)
      (mmC_mmS (Wd (arg2.view.read (Elt Ideal) X2) (arg12.view.read (Elt Ideal) X12) k 3) (arg10.view.read (Elt Ideal) X10) 3 2 (ldSlot arg13 _ 1 _ hs3 4 rfl) (ldSlot arg13 _ 1 _ hs3 5 rfl) (ld10 arg10 X10 3 2 rfl) r s)
      (mmC_mmS (Wd (arg2.view.read (Elt Ideal) X2) (arg12.view.read (Elt Ideal) X12) k 3) (arg10.view.read (Elt Ideal) X10) 3 3 (ldSlot arg13 _ 1 _ hs3 6 rfl) (ldSlot arg13 _ 1 _ hs3 7 rfl) (ld10 arg10 X10 3 3 rfl) r s))
    refine ldAcc ?_
    refine grp (g2 _ _ _ _ _ _ _ _ _ _ _ _ _) ?_ ?_
    swap
    · exact (sum4_at (Wd (arg2.view.read (Elt Ideal) X2) (arg12.view.read (Elt Ideal) X12) k 2) (arg10.view.read (Elt Ideal) X10) 2
      (mmC_mmS (Wd (arg2.view.read (Elt Ideal) X2) (arg12.view.read (Elt Ideal) X12) k 2) (arg10.view.read (Elt Ideal) X10) 2 0 (ldSlot arg13 _ 0 _ hs2 0 rfl) (ldSlot arg13 _ 0 _ hs2 1 rfl) (ld10 arg10 X10 2 0 rfl) r s)
      (mmC_mmS (Wd (arg2.view.read (Elt Ideal) X2) (arg12.view.read (Elt Ideal) X12) k 2) (arg10.view.read (Elt Ideal) X10) 2 1 (ldSlot arg13 _ 0 _ hs2 2 rfl) (ldSlot arg13 _ 0 _ hs2 3 rfl) (ld10 arg10 X10 2 1 rfl) r s)
      (mmC_mmS (Wd (arg2.view.read (Elt Ideal) X2) (arg12.view.read (Elt Ideal) X12) k 2) (arg10.view.read (Elt Ideal) X10) 2 2 (ldSlot arg13 _ 0 _ hs2 4 rfl) (ldSlot arg13 _ 0 _ hs2 5 rfl) (ld10 arg10 X10 2 2 rfl) r s)
      (mmC_mmS (Wd (arg2.view.read (Elt Ideal) X2) (arg12.view.read (Elt Ideal) X12) k 2) (arg10.view.read (Elt Ideal) X10) 2 3 (ldSlot arg13 _ 0 _ hs2 6 rfl) (ldSlot arg13 _ 0 _ hs2 7 rfl) (ld10 arg10 X10 2 3 rfl) r s))
    refine ldAcc ?_
    refine grp (g1 _ _ _ _ _ _ _ _ _ _ _ _ _) ?_ ?_
    swap
    · exact (sum4_at (Wd (arg2.view.read (Elt Ideal) X2) (arg12.view.read (Elt Ideal) X12) k 1) (arg10.view.read (Elt Ideal) X10) 1
      (mmC_mmS (Wd (arg2.view.read (Elt Ideal) X2) (arg12.view.read (Elt Ideal) X12) k 1) (arg10.view.read (Elt Ideal) X10) 1 0 (ldSlot arg13 _ 1 _ hs1 0 rfl) (ldSlot arg13 _ 1 _ hs1 1 rfl) (ld10 arg10 X10 1 0 rfl) r s)
      (mmC_mmS (Wd (arg2.view.read (Elt Ideal) X2) (arg12.view.read (Elt Ideal) X12) k 1) (arg10.view.read (Elt Ideal) X10) 1 1 (ldSlot arg13 _ 1 _ hs1 2 rfl) (ldSlot arg13 _ 1 _ hs1 3 rfl) (ld10 arg10 X10 1 1 rfl) r s)
      (mmC_mmS (Wd (arg2.view.read (Elt Ideal) X2) (arg12.view.read (Elt Ideal) X12) k 1) (arg10.view.read (Elt Ideal) X10) 1 2 (ldSlot arg13 _ 1 _ hs1 4 rfl) (ldSlot arg13 _ 1 _ hs1 5 rfl) (ld10 arg10 X10 1 2 rfl) r s)
      (mmC_mmS (Wd (arg2.view.read (Elt Ideal) X2) (arg12.view.read (Elt Ideal) X12) k 1) (arg10.view.read (Elt Ideal) X10) 1 3 (ldSlot arg13 _ 1 _ hs1 6 rfl) (ldSlot arg13 _ 1 _ hs1 7 rfl) (ld10 arg10 X10 1 3 rfl) r s))
    refine ldAcc ?_
    refine grp0 (g0 _ _ _ _ _ _ _ _ _ _ _ _) ?_
    exact (sum4_at (Wd (arg2.view.read (Elt Ideal) X2) (arg12.view.read (Elt Ideal) X12) k 0) (arg10.view.read (Elt Ideal) X10) 0
      (mmC_mmS (Wd (arg2.view.read (Elt Ideal) X2) (arg12.view.read (Elt Ideal) X12) k 0) (arg10.view.read (Elt Ideal) X10) 0 0 (ldSlot arg13 _ 0 _ hs0 0 rfl) (ldSlot arg13 _ 0 _ hs0 1 rfl) (ld10 arg10 X10 0 0 rfl) r s)
      (mmC_mmS (Wd (arg2.view.read (Elt Ideal) X2) (arg12.view.read (Elt Ideal) X12) k 0) (arg10.view.read (Elt Ideal) X10) 0 1 (ldSlot arg13 _ 0 _ hs0 2 rfl) (ldSlot arg13 _ 0 _ hs0 3 rfl) (ld10 arg10 X10 0 1 rfl) r s)
      (mmC_mmS (Wd (arg2.view.read (Elt Ideal) X2) (arg12.view.read (Elt Ideal) X12) k 0) (arg10.view.read (Elt Ideal) X10) 0 2 (ldSlot arg13 _ 0 _ hs0 4 rfl) (ldSlot arg13 _ 0 _ hs0 5 rfl) (ld10 arg10 X10 0 2 rfl) r s)
      (mmC_mmS (Wd (arg2.view.read (Elt Ideal) X2) (arg12.view.read (Elt Ideal) X12) k 0) (arg10.view.read (Elt Ideal) X10) 0 3 (ldSlot arg13 _ 0 _ hs0 6 rfl) (ldSlot arg13 _ 0 _ hs0 7 rfl) (ld10 arg10 X10 0 3 rfl) r s))

end Cert.Proof.KernelIdeal

end

end
-- ==== Proof.KernelIdeal.ValW.lean ====
/- The products with the decoded weights, as sums of real numbers. -/
module

public import proofs.«01_k».proof.Proof.KernelIdeal.ValH0
public import proofs.«01_k».proof.Proof.KernelIdeal.ValB

@[expose] public section

set_option maxRecDepth 65536

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- Bits of a float whose exponent is not all ones are a real number. -/
theorem ofBits_real (b : BitVec 32) (h : b.extractLsb' 23 8 ≠ 255#8) : ∃ x : ℝ, Ideal.ofBits .f32 b = (x : EReal) := by
  have h' : (b.extractLsb' 23 8).toNat ≠ 2 ^ 8 - 1 := fun e => h (BitVec.eq_of_toNat_eq e)
  show ∃ x : ℝ, Ideal.ieee 8 23 b = (x : EReal)
  unfold Ideal.ieee
  dsimp only
  rw [if_neg h']
  split
  · exact ⟨_, rfl⟩
  · exact ⟨_, rfl⟩

theorem hash_exp (x : BitVec 32) : (IntOp.xori (IntOp.andi x 2181029888#32) 1064042496#32).extractLsb' 23 8 ≠ 255#8 := by
  intro h
  have h2 := congrArg (fun v : BitVec 8 => v.getLsbD 7) h
  revert h2
  simp [IntOp.xori, IntOp.andi]

theorem decu_real (w : BitVec 32) : ∃ x : ℝ, decu w = (x : EReal) := by
  unfold decu decg
  obtain ⟨x, hx⟩ := ofBits_real _ (hash_exp (IntOp.shrsi .vector (IntOp.addi (IntOp.muli (IntOp.shrui .vector w 16#32) 89226354#32) 64248484#32) 3#32))
  obtain ⟨y, hy⟩ := ofBits_real _ (hash_exp (IntOp.shrsi .vector (IntOp.shli .vector (IntOp.addi (IntOp.muli (IntOp.shrui .vector w 16#32) 89226354#32) 64248484#32) 16#32) 3#32))
  exact ⟨x + y, by rw [hx, hy, EReal.coe_add]⟩

/-- The decoded weight of field `f` of a word and the next one, as a real number. -/
def dv (a b : BitVec 16) (f : ℕ) : ℝ := (dw a b f).toReal

theorem dw_coe (a b : BitVec 16) (f : ℕ) : dw a b f = ((dv a b f : ℝ) : EReal) := by
  obtain ⟨x, hx⟩ := decu_real (IntOp.shli .vector (cat a b) (BitVec.ofNat 32 (2 * f)))
  unfold dv dw
  rw [hx, EReal.toReal_coe]

/-- The word after `w` in its group of 32, around. -/
def nxw (w : ℕ) : ℕ := if w % 32 = 31 then w - 31 else w + 1

/-- The weight at row `o` and column `c`. -/
def wgt (K : ℕ → ℕ → BitVec 16) (G : ℕ → ℕ → ℝ) (o c : ℕ) : ℝ := dv (K o (c / 8)) (K o (nxw (c / 8))) (c % 8) * G o (c / 256)

/-- Row `o` of the weights against row `s` of the transformed activations. -/
def Asum (K : ℕ → ℕ → BitVec 16) (G : ℕ → ℕ → ℝ) (xf : ℕ → ℕ → ℝ) (suf : ℕ → ℝ) (o s : ℕ) : ℝ :=
  ∑ c ∈ Finset.range 4096, wgt K G o c * XRr xf suf s c

theorem src_inv : ∀ k : Fin 4096, 1024 * (src k.val / 1024) + 128 * (src k.val % 8) + (src k.val % 1024) / 8 = k.val ∧ src (1024 * (k.val / 1024) + 128 * (k.val % 8) + (k.val % 1024) / 8) = k.val := by
  decide +kernel

theorem src_sum (H : ℕ → ℝ) : ∑ k ∈ Finset.range 4096, H (src k) = ∑ c ∈ Finset.range 4096, H c := by
  refine Finset.sum_nbij' src (fun c => 1024 * (c / 1024) + 128 * (c % 8) + (c % 1024) / 8) ?_ ?_ ?_ ?_ ?_
  · intro k hk; simp only [Finset.mem_range, src] at *; omega
  · intro k hk; simp only [Finset.mem_range] at *; omega
  · intro k hk; exact (src_inv ⟨k, Finset.mem_range.mp hk⟩).1
  · intro k hk; exact (src_inv ⟨k, Finset.mem_range.mp hk⟩).2
  · intro k hk; rfl

theorem sum4 (f : ℕ → ℝ) : ∑ i ∈ Finset.range 4, f i = f 0 + f 1 + f 2 + f 3 := by
  simp [Finset.sum_range_succ]

theorem sum_split (a b : ℕ) (H : ℕ → ℝ) : ∑ n ∈ Finset.range (a * b), H n = ∑ i ∈ Finset.range a, ∑ j ∈ Finset.range b, H (b * i + j) := by
  induction a with
  | zero => simp
  | succ a ih => rw [Nat.succ_mul, Finset.sum_range_add, ih, Finset.sum_range_succ, Nat.mul_comm a b]

theorem sum4096 (H : ℕ → ℝ) : ∑ n ∈ Finset.range 4096, H n = ∑ i ∈ Finset.range 4, ∑ q ∈ Finset.range 4, ∑ k ∈ Finset.range 256, H (1024 * i + (256 * q + k)) :=
  (sum_split 4 1024 H).trans (Finset.sum_congr rfl fun i _ => sum_split 4 256 (fun n => H (1024 * i + n)))

section
variable (r2 : S1024x512.Idx → BitVec 16) (r12 : S4x1024x128.Idx → EReal) (r10 : S4096x128.Idx → EReal) (K : ℕ → ℕ → BitVec 16) (G : ℕ → ℕ → ℝ) (xf : ℕ → ℕ → ℝ) (suf : ℕ → ℝ)
  (h2 : ∀ (o : Fin 1024) (w : Fin 512), r2 (ix2 o w) = K o.val w.val)
  (h12 : ∀ (j : Fin 4) (o : Fin 1024) (l : Fin 128), r12 (ix3 j o l) = (G o.val ((128 * j.val + l.val) / 32) : EReal))
  (h10 : Rows (XRv xf suf) 4096 r10)

include h2 h12 in
theorem Wd_real (kt j : Fin 4) (f : Fin 8) (r : Fin 256) (l : Fin 128) :
    Wd r2 r12 kt j f r l = (wgt K G (256 * kt.val + r.val) (1024 * j.val + 8 * l.val + f.val) : EReal) := by
  unfold Wd wgt colJ
  rw [h2, h2, h12, dw_coe, ← EReal.coe_mul]
  have e1 : (1024 * j.val + 8 * l.val + f.val) / 8 = 128 * j.val + l.val := by omega
  have e2 : (1024 * j.val + 8 * l.val + f.val) % 8 = f.val := by omega
  have e3 : (1024 * j.val + 8 * l.val + f.val) / 256 = (128 * j.val + l.val) / 32 := by omega
  have e4 : nxw (128 * j.val + l.val) = 128 * j.val + (nxt l).val := by
    unfold nxw nxt; dsimp only; split <;> split <;> omega
  rw [e1, e2, e3, e4]

include h2 h12 h10

theorem mmS_real (kt j q : Fin 4) (r : Fin 256) (s : Fin 128) :
    mmS (Wd r2 r12 kt j) r10 j q r s = ((∑ k ∈ Finset.range 256, wgt K G (256 * kt.val + r.val) (src (1024 * j.val + (256 * q.val + k))) * XRr xf suf s.val (src (1024 * j.val + (256 * q.val + k))) : ℝ) : EReal) := by
  unfold mmS
  rw [← sumFin 256 (fun k => wgt K G (256 * kt.val + r.val) (src (1024 * j.val + (256 * q.val + k))) * XRr xf suf s.val (src (1024 * j.val + (256 * q.val + k)))), ← coe_sum]
  refine Finset.sum_congr rfl fun k _ => ?_
  rw [h10 _ s (by omega), EReal.coe_mul]
  have e0 : 1024 * j.val + 256 * q.val + k.val = 1024 * j.val + (256 * q.val + k.val) := by omega
  refine congrArg₂ (fun a b : EReal => a * b) ?_ ?_
  · unfold Wc
    split
    · rename_i h
      rw [Wd_real r2 r12 K G h2 h12]
      congr 2; unfold src; dsimp only; omega
    · rename_i h
      rw [Wd_real r2 r12 K G h2 h12]
      congr 2; unfold src; dsimp only; omega
  · show (XRr xf suf s.val (src (1024 * j.val + 256 * q.val + k.val)) : EReal) = _
    rw [e0]

theorem ACC_real (kt : Fin 4) (r : Fin 256) (s : Fin 128) : ACC r2 r12 r10 kt r s = (Asum K G xf suf (256 * kt.val + r.val) s.val : EReal) := by
  unfold ACC SJ Asum
  simp only [mmS_real r2 r12 r10 K G xf suf h2 h12 h10, ← EReal.coe_add]
  rw [← src_sum (fun c => wgt K G (256 * kt.val + r.val) c * XRr xf suf s.val c)]
  rw [sum4096]
  simp only [sum4]
  rfl

theorem acc_full {r14 : S1024x128.Idx → EReal} (h : Acc r2 r12 r10 4 r14) (o : Fin 1024) (s : Fin 128) : r14 (ix2 o s) = (Asum K G xf suf o.val s.val : EReal) := by
  have e := h.at' ⟨o.val / 256, by omega⟩ ⟨o.val % 256, by omega⟩ s (by dsimp only; omega)
  rw [ACC_real r2 r12 r10 K G xf suf h2 h12 h10] at e
  have e1 : 256 * (o.val / 256) + o.val % 256 = o.val := by omega
  simp only [e1] at e
  exact e

end

end Cert.Proof.KernelIdeal

end

end
-- ==== Proof.KernelIdeal.ValI.lean ====
/- The body at a grid point, with what it leaves in both results and in the buffers it carries. -/
module

public import proofs.«01_k».proof.Proof.KernelIdeal.ValI0
public import proofs.«01_k».proof.Proof.KernelIdeal.ValH
public import proofs.«01_k».proof.Proof.KernelIdeal.ValW

@[expose] public section

set_option maxRecDepth 65536

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

attribute [local irreducible] Wd dw mmC mmS SJ ACC Asum ytile XRr

/-- What the body holds of its buffers, those it carries from point to point at given values. -/
abbrev HeldY (c : Dev nD) (i : grid0.Coords) (arg1 : Memref sig .tc .vmem S128x4096 .bf16) (harg1 : arg1.IsWhole) (arg2 : Memref sig .tc .vmem S1024x512 .i16) (harg2 : arg2.IsWhole) (arg3 : Memref sig .tc .vmem S1x1024 .f32) (harg3 : arg3.IsWhole) (arg4 : Memref sig .tc .vmem S1024x16 .f32) (harg4 : arg4.IsWhole) (arg5 : Memref sig .tc .vmem S1x4096 .f32) (harg5 : arg5.IsWhole) (arg6 : Memref sig .tc .vmem S1x1024 .f32) (harg6 : arg6.IsWhole) (arg7 : Memref sig .tc .vmem S128x1024 .bf16) (harg7 : arg7.IsWhole) (arg8 : Memref sig .tc .vmem S128x4096 .bf16) (harg8 : arg8.IsWhole) (arg9 : Memref sig .tc .vmem S256x256 .bf16) (harg9 : arg9.IsWhole) (arg10 : Memref sig .tc .vmem S4096x128 .bf16) (harg10 : arg10.IsWhole) (arg11 : Memref sig .tc .vmem S1024x128 .f32) (harg11 : arg11.IsWhole) (arg12 : Memref sig .tc .vmem S4x1024x128 .bf16) (harg12 : arg12.IsWhole) (arg13 : Memref sig .tc .vmem S2x8x256x128 .bf16) (harg13 : arg13.IsWhole) (arg14 : Memref sig .tc .vmem S1024x128 .f32) (harg14 : arg14.IsWhole)
    (X1 : S128x4096.Idx → Elt Ideal .bf16) (X2 : S1024x512.Idx → Elt Ideal .i16) (X3 : S1x1024.Idx → Elt Ideal .f32) (X4 : S1024x16.Idx → Elt Ideal .f32) (X5 : S1x4096.Idx → Elt Ideal .f32) (X6 : S1x1024.Idx → Elt Ideal .f32) (X7 : S128x1024.Idx → Elt Ideal .bf16) (X8 : S128x4096.Idx → Elt Ideal .bf16) (X9 : S256x256.Idx → Elt Ideal .bf16) (X10 : S4096x128.Idx → Elt Ideal .bf16) : sProp 𝕄 :=
  iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d))

/-- The signs and the transposed activations that the body carries. -/
structure Kept (xf : ℕ → ℕ → ℝ) (suf : ℕ → ℝ) (X9 : S256x256.Idx → Elt Ideal .bf16) (X10 : S4096x128.Idx → Elt Ideal .bf16) : Prop where
  had : HadM X9
  rows : Rows (XRv xf suf) 4096 X10

/-- The tile of the first result at a grid point. -/
def tile (K : ℕ → ℕ → BitVec 16) (G : ℕ → ℕ → ℝ) (xf : ℕ → ℕ → ℝ) (suf rs : ℕ → ℝ) (sv : ℕ → EReal) : S128x1024.Idx → EReal :=
  fun i => (ytile (fun o s => Asum K G xf suf o s) rs sv (i 0).val (i 1).val : EReal)

/-- A point's blocks of the codes, the group scales, the row scales and the column scales. -/
structure In2 (K : ℕ → ℕ → BitVec 16) (G : ℕ → ℕ → ℝ) (rs : ℕ → ℝ) (sv : ℕ → EReal) (X2 : S1024x512.Idx → BitVec 16) (X3 : S1x1024.Idx → EReal) (X4 : S1024x16.Idx → EReal) (X6 : S1x1024.Idx → EReal) : Prop where
  h2 : ∀ (o : Fin 1024) (w : Fin 512), X2 (ix2 o w) = K o.val w.val
  h3 : ∀ o : Fin 1024, X3 (ix2 0 o) = (rs o.val : EReal)
  h4 : ∀ (o : Fin 1024) (g : Fin 16), X4 (ix2 o g) = (G o.val g.val : EReal)
  h6 : ∀ o : Fin 1024, X6 (ix2 0 o) = (sv o.val : EReal)

set_option maxHeartbeats 1000000 in
theorem body_full (c : Dev nD) (i : grid0.Coords) (arg1 : Memref sig .tc .vmem S128x4096 .bf16) (harg1 : arg1.IsWhole) (arg2 : Memref sig .tc .vmem S1024x512 .i16) (harg2 : arg2.IsWhole) (arg3 : Memref sig .tc .vmem S1x1024 .f32) (harg3 : arg3.IsWhole) (arg4 : Memref sig .tc .vmem S1024x16 .f32) (harg4 : arg4.IsWhole) (arg5 : Memref sig .tc .vmem S1x4096 .f32) (harg5 : arg5.IsWhole) (arg6 : Memref sig .tc .vmem S1x1024 .f32) (harg6 : arg6.IsWhole) (arg7 : Memref sig .tc .vmem S128x1024 .bf16) (harg7 : arg7.IsWhole) (arg8 : Memref sig .tc .vmem S128x4096 .bf16) (harg8 : arg8.IsWhole) (arg9 : Memref sig .tc .vmem S256x256 .bf16) (harg9 : arg9.IsWhole) (arg10 : Memref sig .tc .vmem S4096x128 .bf16) (harg10 : arg10.IsWhole) (arg11 : Memref sig .tc .vmem S1024x128 .f32) (harg11 : arg11.IsWhole) (arg12 : Memref sig .tc .vmem S4x1024x128 .bf16) (harg12 : arg12.IsWhole) (arg13 : Memref sig .tc .vmem S2x8x256x128 .bf16) (harg13 : arg13.IsWhole) (arg14 : Memref sig .tc .vmem S1024x128 .f32) (harg14 : arg14.IsWhole)
    (X1 : S128x4096.Idx → Elt Ideal .bf16) (X2 : S1024x512.Idx → Elt Ideal .i16) (X3 : S1x1024.Idx → Elt Ideal .f32) (X4 : S1024x16.Idx → Elt Ideal .f32) (X5 : S1x4096.Idx → Elt Ideal .f32) (X6 : S1x1024.Idx → Elt Ideal .f32) (X7 : S128x1024.Idx → Elt Ideal .bf16) (X8 : S128x4096.Idx → Elt Ideal .bf16) (X9 : S256x256.Idx → Elt Ideal .bf16) (X10 : S4096x128.Idx → Elt Ideal .bf16)
    (xf : ℕ → ℕ → ℝ) (suf : ℕ → ℝ) (K : ℕ → ℕ → BitVec 16) (G : ℕ → ℕ → ℝ) (rs : ℕ → ℝ) (sv : ℕ → EReal) (hin : In1 xf suf X1 X5) (hin2 : In2 K G rs sv X2 X3 X4 X6)
    (hX8 : k0_cond1 i ≠ 1#1 → X8 = XRv xf suf) (hK : k0_cond1 i ≠ 1#1 → Kept xf suf X9 X10) (Q : PUnit → sProp 𝕄) :
    iprop(HeldY c i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 X7 X8 X9 X10 ∗ ((∃ X9' X10', HeldY c i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 X5 X6 (tile K G xf suf rs sv) (XRv xf suf) X9' X10' ∗ ⌜Kept xf suf X9' X10'⌝) -∗ Q ⟨⟩))
    ⊢ wp frame (wpE (defs₀ (F := Ideal)) 𝒱v (c : Thread nD τ) none) Set.univ (cc0_qtip_linear (F := Ideal) i arg1 harg1 arg2 harg2 arg3 harg3 arg4 harg4 arg5 harg5 arg6 harg6 arg7 harg7 arg8 harg8 arg9 harg9 arg10 harg10 arg11 harg11 arg12 harg12 arg13 harg13 arg14 harg14) Q := by
  unfold HeldY owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩⟩, Hk⟩
  by_cases h : k0_cond1 i = 1#1
  · rw [cc0_qtip_linear_eq_skeleton]; unfold cc0_qtip_linear_skel
    sl_exec (disch := sl_exact h)
    sl_step
    have hL := hL5 xf suf (by rw [hf1, hf5]; exact hin) (by
      sl_unfold_run_names
      intro a b
      exact (congrFun (View.readCov_full arg9.view _ _ _ []) (ix2 a b)).trans (pay216_at a b))
    have etr : Scf.trips k0_t1_loop.lb k0_t1_loop.ub k0_t1_loop.st = 4 := rfl
    rw [etr] at hL
    have hKK := fun f => Kept.mk (had_read arg9 f (j := inb_S256x256_S256x256_0_0)) hL.2
    have hv39 := acc_full _ _ _ K G xf suf (fun o w => (congrFun hf2 _).trans (hin2.h2 o w)) (fun j o l => by
      sl_unfold_run_names
      exact gs_at arg12 _ _ G (fun o g => (ldFull (a := 1024) (b := 16) arg4 f4 rfl o g).trans ((congrFun hf4 _).trans (hin2.h4 o g))) j o l) hL.2 (hL11 rfl)
    iapply Hk
    iexists _
    iexists _
    isplitl [H1 H2 H3 H4 H5 H6 H7 H8 H9 H10 H11 H12 H13 H14]
    isplitl [H1]; · (iexists f1; isplitr; · ipureintro; exact hf1); iexact H1
    isplitl [H2]; · (iexists f2; isplitr; · ipureintro; exact hf2); iexact H2
    isplitl [H3]; · (iexists f3; isplitr; · ipureintro; exact hf3); iexact H3
    isplitl [H4]; · (iexists f4; isplitr; · ipureintro; exact hf4); iexact H4
    isplitl [H5]; · (iexists f5; isplitr; · ipureintro; exact hf5); iexact H5
    isplitl [H6]; · (iexists f6; isplitr; · ipureintro; exact hf6); iexact H6
    isplitl [H7]
    · iexists _
      isplitr; swap; · iexact H7
      ipureintro
      sl_unfold_run_names
      refine tile_of arg7 f7 (fun o s => Asum K G xf suf o s) rs sv
        (fun a b => (congrFun (View.readCov_full arg9.view _ _ _ []) (ix2 a b)).trans (pay216_at a b)) (fun o s => ?_) (fun o => ?_) (fun m => ?_) (fun m => ?_) (fun m => ?_) (fun m => ?_)
      · exact (ldFull (a := 1024) (b := 128) arg14 _ rfl o s).trans (hv39 o s)
      · exact (ldFull (a := 1) (b := 1024) arg3 f3 rfl 0 o).trans ((congrFun hf3 _).trans (hin2.h3 o))
      · exact (ldCol arg6 f6 0 rfl (by omega) m).trans ((congrFun hf6 _).trans (hin2.h6 _))
      · exact (ldCol arg6 f6 256 rfl (by omega) m).trans ((congrFun hf6 _).trans (hin2.h6 _))
      · exact (ldCol arg6 f6 512 rfl (by omega) m).trans ((congrFun hf6 _).trans (hin2.h6 _))
      · exact (ldCol arg6 f6 768 rfl (by omega) m).trans ((congrFun hf6 _).trans (hin2.h6 _))
    isplitl [H8]; · (iexists _; isplitr; swap; · iexact H8); (ipureintro; exact funext fun y => by rw [eq_ix2 y]; exact hL.1 _ _ (by have : (y 1).val < 4096 := (y 1).isLt; omega))
    isplitl [H9]; · (iexists _; isplitr; swap; · iexact H9); ipureintro; rfl
    isplitl [H10]; · (iexists _; isplitr; swap; · iexact H10); ipureintro; rfl
    isplitl [H11]; · (iexists _; iexists _; isplitr; swap; · iexact H11); ipureintro; rfl
    isplitl [H12]; · (iexists _; iexists _; isplitr; swap; · iexact H12); ipureintro; rfl
    isplitl [H13]; · (iexists _; iexists _; isplitr; swap; · iexact H13); ipureintro; rfl
    (iexists _; iexists _; isplitr; swap; · iexact H14); ipureintro; rfl
    ipureintro
    exact hKK _
  · rw [cc0_qtip_linear_eq_skeleton]; unfold cc0_qtip_linear_skel
    sl_exec (disch := sl_exact h)
    sl_step
    have hKK : Kept xf suf (arg9.view.read (Elt Ideal) f9) (arg10.view.read (Elt Ideal) f10) := by rw [hf9, hf10]; exact hK h
    have hv39 := acc_full _ _ _ K G xf suf (fun o w => (congrFun hf2 _).trans (hin2.h2 o w)) (fun j o l => by
      sl_unfold_run_names
      exact gs_at arg12 _ _ G (fun o g => (ldFull (a := 1024) (b := 16) arg4 f4 rfl o g).trans ((congrFun hf4 _).trans (hin2.h4 o g))) j o l) hKK.rows (hL5 rfl)
    iapply Hk
    iexists _
    iexists _
    isplitl [H1 H2 H3 H4 H5 H6 H7 H8 H9 H10 H11 H12 H13 H14]
    isplitl [H1]; · (iexists f1; isplitr; · ipureintro; exact hf1); iexact H1
    isplitl [H2]; · (iexists f2; isplitr; · ipureintro; exact hf2); iexact H2
    isplitl [H3]; · (iexists f3; isplitr; · ipureintro; exact hf3); iexact H3
    isplitl [H4]; · (iexists f4; isplitr; · ipureintro; exact hf4); iexact H4
    isplitl [H5]; · (iexists f5; isplitr; · ipureintro; exact hf5); iexact H5
    isplitl [H6]; · (iexists f6; isplitr; · ipureintro; exact hf6); iexact H6
    isplitl [H7]
    · iexists _
      isplitr; swap; · iexact H7
      ipureintro
      sl_unfold_run_names
      refine tile_of arg7 f7 (fun o s => Asum K G xf suf o s) rs sv
        (fun a b => (ldFull (a := 256) (b := 256) arg9 f9 rfl a b).trans (hKK.had a b)) (fun o s => ?_) (fun o => ?_) (fun m => ?_) (fun m => ?_) (fun m => ?_) (fun m => ?_)
      · exact (ldFull (a := 1024) (b := 128) arg14 _ rfl o s).trans (hv39 o s)
      · exact (ldFull (a := 1) (b := 1024) arg3 f3 rfl 0 o).trans ((congrFun hf3 _).trans (hin2.h3 o))
      · exact (ldCol arg6 f6 0 rfl (by omega) m).trans ((congrFun hf6 _).trans (hin2.h6 _))
      · exact (ldCol arg6 f6 256 rfl (by omega) m).trans ((congrFun hf6 _).trans (hin2.h6 _))
      · exact (ldCol arg6 f6 512 rfl (by omega) m).trans ((congrFun hf6 _).trans (hin2.h6 _))
      · exact (ldCol arg6 f6 768 rfl (by omega) m).trans ((congrFun hf6 _).trans (hin2.h6 _))
    isplitl [H8]; · (iexists f8; isplitr; · ipureintro; exact hf8.trans (hX8 h)); iexact H8
    isplitl [H9]; · (iexists _; isplitr; swap; · iexact H9); ipureintro; rfl
    isplitl [H10]; · (iexists _; isplitr; swap; · iexact H10); ipureintro; rfl
    isplitl [H11]; · (iexists _; iexists _; isplitr; swap; · iexact H11); ipureintro; rfl
    isplitl [H12]; · (iexists _; iexists _; isplitr; swap; · iexact H12); ipureintro; rfl
    isplitl [H13]; · (iexists _; iexists _; isplitr; swap; · iexact H13); ipureintro; rfl
    (iexists _; iexists _; isplitr; swap; · iexact H14); ipureintro; rfl
    ipureintro
    exact hKK

end Cert.Proof.KernelIdeal

end

end
-- ==== Proof.KernelIdeal.ValJ.lean ====
/- The run of the idealized kernel, with what it leaves in both results. -/
module

public import proofs.«01_k».proof.Proof.KernelIdeal.ValI
public import Idealize.ShloMosaic.Lib.Pipeline.Quiescent
public import Idealize.ShloMosaic.Lib.Pipeline.ValueKit

@[expose] public section

set_option maxRecDepth 65536

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Pipeline (Dat Cfg Window BodyObligation BodyObligationLoose cellOf ΦA)

local notation "𝕄" => MT nD τ sig Unit (Elt Ideal) ℕ (UR sig nD τ) ℕ

variable (m : (ℓ : Loc nD τ sig) → Buf (Elt Ideal) ℓ) (ρ : Dev nD → PrngReg) (xf : Dev nD → ℕ → ℕ → ℝ) (suf : Dev nD → ℕ → ℝ)
  (K : Dev nD → ℕ → ℕ → BitVec 16) (G : Dev nD → ℕ → ℕ → ℝ) (rs : Dev nD → ℕ → ℝ) (sv : Dev nD → ℕ → EReal)

/-- The first result's tile at point `t`, from the weights' whole arrays. -/
def tileAt (c : Dev nD) (t : ℕ) : S128x1024.Idx → EReal :=
  tile (fun o w => K c (1024 * t + o) w) (fun o g => G c (1024 * t + o) g) (xf c) (suf c) (fun o => rs c (1024 * t + o)) (fun n => sv c (1024 * t + n))

/-- What the body carries from point to point: the signs and the transposed activations, from the first point on. -/
def Carry (c : Dev nD) (n : ℕ) : sProp 𝕄 :=
  iprop(∃ (X9 : S256x256.Idx → Elt Ideal .bf16) (X10 : S4096x128.Idx → Elt Ideal .bf16), owns (c : Thread nD τ) (Memref.whole cc0_scratch0) fullShare X9 ∗ owns (c : Thread nD τ) (Memref.whole cc0_scratch1) fullShare X10
    ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d)
    ∗ (∃ r, prngReg c r) ∗ ⌜n ≠ 0 → Kept (xf c) (suf c) X9 X10⌝)

theorem carry_in (c : Dev nD) : ΦA spec0 c ⊢ Carry xf suf c 0 := by
  unfold Carry Pipeline.ΦA
  rw [scopedRest0_eq]
  simp only [← owns_whole (c : Thread nD τ)]
  iintro ⟨⟨⟨%d0, S0⟩, ⟨%d1, S1⟩, S2, S3, S4, S5⟩, Hr⟩
  iexists d0
  iexists d1
  isplitl [S0]; · iexact S0
  isplitl [S1]; · iexact S1
  isplitl [S2]; · iexact S2
  isplitl [S3]; · iexact S3
  isplitl [S4]; · iexact S4
  isplitl [S5]; · iexact S5
  isplitl [Hr]; · iexact Hr
  ipureintro
  intro h; exact absurd rfl h

theorem carry_out (c : Dev nD) (n : ℕ) : Carry xf suf c n ⊢ ΦA spec0 c := by
  unfold Carry Pipeline.ΦA
  rw [scopedRest0_eq]
  simp only [← owns_whole (c : Thread nD τ)]
  iintro ⟨%d0, %d1, S0, S1, S2, S3, S4, S5, Hr, %hk⟩
  isplitr [Hr]
  · isplitl [S0]; · (iexists d0; iexact S0)
    isplitl [S1]; · (iexists d1; iexact S1)
    isplitl [S2]; · iexact S2
    isplitl [S3]; · iexact S3
    isplitl [S4]; · iexact S4
    iexact S5
  iexact Hr

/-- The proof data: each input's buffer left at its block, the second result's at the rotated activations. -/
def vdats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => tileAt xf suf K G rs sv c t.val
    | ⟨7, _⟩ => XRv (xf c) (suf c)
  Φ t := Carry xf suf c t.val
  q _ := fullShare
  owed _ := 0

theorem vbefore0 (c : Dev nD) (t : Fin cfg0.N) (d) : (vdats m xf suf K G rs sv 0 c).before 0 t d = iblk m c 0 t :=
  before0_0_of m (vdats m xf suf K G rs sv 0 c) rfl (fun _ => by dsimp only [vdats]) t d
theorem vafter0 (c : Dev nD) (t : Fin cfg0.N) : (vdats m xf suf K G rs sv 0 c).after 0 t = iblk m c 0 t := by dsimp only [vdats]
theorem vbefore1 (c : Dev nD) (t : Fin cfg0.N) (d) : (vdats m xf suf K G rs sv 0 c).before 1 t d = iblk m c 1 t :=
  before0_1_of m (vdats m xf suf K G rs sv 0 c) rfl (fun _ => by dsimp only [vdats]) t d
theorem vafter1 (c : Dev nD) (t : Fin cfg0.N) : (vdats m xf suf K G rs sv 0 c).after 1 t = iblk m c 1 t := by dsimp only [vdats]
theorem vbefore2 (c : Dev nD) (t : Fin cfg0.N) (d) : (vdats m xf suf K G rs sv 0 c).before 2 t d = iblk m c 2 t :=
  before0_2_of m (vdats m xf suf K G rs sv 0 c) rfl (fun _ => by dsimp only [vdats]) t d
theorem vafter2 (c : Dev nD) (t : Fin cfg0.N) : (vdats m xf suf K G rs sv 0 c).after 2 t = iblk m c 2 t := by dsimp only [vdats]
theorem vbefore3 (c : Dev nD) (t : Fin cfg0.N) (d) : (vdats m xf suf K G rs sv 0 c).before 3 t d = iblk m c 3 t :=
  before0_3_of m (vdats m xf suf K G rs sv 0 c) rfl (fun _ => by dsimp only [vdats]) t d
theorem vafter3 (c : Dev nD) (t : Fin cfg0.N) : (vdats m xf suf K G rs sv 0 c).after 3 t = iblk m c 3 t := by dsimp only [vdats]
theorem vbefore4 (c : Dev nD) (t : Fin cfg0.N) (d) : (vdats m xf suf K G rs sv 0 c).before 4 t d = iblk m c 4 t :=
  before0_4_of m (vdats m xf suf K G rs sv 0 c) rfl (fun _ => by dsimp only [vdats]) t d
theorem vafter4 (c : Dev nD) (t : Fin cfg0.N) : (vdats m xf suf K G rs sv 0 c).after 4 t = iblk m c 4 t := by dsimp only [vdats]
theorem vbefore5 (c : Dev nD) (t : Fin cfg0.N) (d) : (vdats m xf suf K G rs sv 0 c).before 5 t d = iblk m c 5 t :=
  before0_5_of m (vdats m xf suf K G rs sv 0 c) rfl (fun _ => by dsimp only [vdats]) t d
theorem vafter5 (c : Dev nD) (t : Fin cfg0.N) : (vdats m xf suf K G rs sv 0 c).after 5 t = iblk m c 5 t := by dsimp only [vdats]
theorem vafter6 (c : Dev nD) (t : Fin cfg0.N) : (vdats m xf suf K G rs sv 0 c).after 6 t = tileAt xf suf K G rs sv c t.val := by dsimp only [vdats]
theorem vafter7 (c : Dev nD) (t : Fin cfg0.N) : (vdats m xf suf K G rs sv 0 c).after 7 t = XRv (xf c) (suf c) := by dsimp only [vdats]

theorem cond_zero : ∀ t : Fin grid0.N, k0_cond1 (grid0.coords t) ≠ 1#1 → t.val ≠ 0 := by decide +kernel

theorem idle7 : ∀ t : Fin grid0.N, idle0 7 (grid0.coords t) = decide (t.val ≠ 0) := by decide +kernel

theorem vbefore7 (c : Dev nD) (d) : ∀ (n : ℕ) (t : Fin cfg0.N), t.val = n + 1 → (vdats m xf suf K G rs sv 0 c).before 7 t d = XRv (xf c) (suf c)
  | n, t, h => by
    have ht : t.val < 14 := t.isLt
    rw [Dat.before_of_pos _ 7 t (by omega) rfl d, if_neg (by rw [flush0_7]; show ¬ (t.val - 1) % 14 = 13; omega)]
    have hid := idle7 ⟨t.val - 1, by show t.val - 1 < 14; omega⟩
    unfold Dat.left
    split
    · rename_i he
      have : decide (t.val - 1 ≠ 0) = true := hid.symm.trans he
      cases n with
      | zero => simp [h] at this
      | succ n => exact vbefore7 c d n _ (by show t.val - 1 = n + 1; omega)
    · exact vafter7 m xf suf K G rs sv c _

/-- What the second result's buffer holds after a point, as the pipeline asks for it. -/
theorem left7 (c : Dev nD) (t : Fin cfg0.N) (d : S128x4096.Idx → Elt Ideal .bf16) : owns (c : Thread nD τ) (stage0_7 (cfg0.slots t 7)) fullShare (XRv (xf c) (suf c) : S128x4096.Idx → Elt Ideal .bf16)
    ⊢ (match idle0 7 (grid0.coords t) with
      | true =>
        match (win0 7).flush t with
        | false => iprop(∃ d, owns (c : Thread nD τ) (stage0_7 (cfg0.slots t 7)) fullShare ((vdats m xf suf K G rs sv 0 c).before 7 t d))
        | true => owns (c : Thread nD τ) (stage0_7 (cfg0.slots t 7)) fullShare (XRv (xf c) (suf c) : S128x4096.Idx → Elt Ideal .bf16)
      | false => owns (c : Thread nD τ) (stage0_7 (cfg0.slots t 7)) fullShare (XRv (xf c) (suf c) : S128x4096.Idx → Elt Ideal .bf16) : sProp 𝕄) := by
  have hid := idle7 t
  split
  · rename_i he
    rw [he] at hid
    have h0 : t.val ≠ 0 := of_decide_eq_true hid.symm
    split
    · iintro H
      iexists d
      rw [vbefore7 m xf suf K G rs sv c d (t.val - 1) t (by omega)]
      iexact H
    · iintro H; iexact H
  · iintro H; iexact H

theorem cond_one : ∀ t : Fin grid0.N, k0_cond1 (grid0.coords t) = 1#1 → t.val = 0 := by decide +kernel

/-- A point's blocks of the weights, as rows of the whole arrays. -/
def In2At (c : Dev nD) (t : Fin cfg0.N) : Prop :=
  In2 (fun o w => K c (1024 * t.val + o) w) (fun o g => G c (1024 * t.val + o) g) (fun o => rs c (1024 * t.val + o)) (fun n => sv c (1024 * t.val + n))
    (iblk m c 1 t) (iblk m c 2 t) (iblk m c 3 t) (iblk m c 5 t)

theorem body_value (c : Dev nD) (hin : ∀ t, In1 (xf c) (suf c) (iblk m c 0 t) (iblk m c 4 t)) (hin2 : ∀ t, In2At m K G rs sv c t) :
    BodyObligationLoose (vdats m xf suf K G rs sv 0 c) (defs₀ (F := Ideal)) 𝒱v () Set.univ := fun t => by
  rw [bigSep_W0, bigSep_W0]
  sl_whnfR [defs₀, Defs.onTc]
  simp only [vbefore0, vbefore1, vbefore2, vbefore3, vbefore4, vbefore5]
  rw [show (vdats m xf suf K G rs sv 0 c).Φ t.succ = Carry xf suf c (t.val + 1) from rfl, show (vdats m xf suf K G rs sv 0 c).Φ t.castSucc = Carry xf suf c t.val from rfl,
    show (vdats m xf suf K G rs sv 0 c).owesAt () t.succ = (vdats m xf suf K G rs sv 0 c).owesAt () t.castSucc from rfl, vafter0, vafter1, vafter2, vafter3, vafter4, vafter5, vafter6, vafter7]
  unfold Carry
  iintro ⟨⟨%X9, %X10, S0, S1, S2, S3, S4, S5, Hr, %hk⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_full c _ _ _ _ _ _ _ _ _ _ _ _ _ _ _ _ _ _ _ _ _ _ _ _ _ _ _ _ _ (iblk m c 0 t) (iblk m c 1 t) (iblk m c 2 t) (iblk m c 3 t) (iblk m c 4 t) (iblk m c 5 t) ((vdats m xf suf K G rs sv 0 c).before 6 t d6) ((vdats m xf suf K G rs sv 0 c).before 7 t d7) X9 X10 (xf c) (suf c)
    (fun o w => K c (1024 * t.val + o) w) (fun o g => G c (1024 * t.val + o) g) (fun o => rs c (1024 * t.val + o)) (fun n => sv c (1024 * t.val + n)) (hin t) (hin2 t)
    (fun h => vbefore7 m xf suf K G rs sv c d7 (t.val - 1) t (by have := cond_zero t h; omega)) (fun h => hk (cond_zero t h)) _)
  isplitl [H0 H1 H2 H3 H4 H5 H6 H7 S0 S1 S2 S3 S4 S5]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [S0]; · iexact S0
    isplitl [S1]; · iexact S1
    isplitl [S2]; · iexact S2
    isplitl [S3]; · iexact S3
    isplitl [S4]; · iexact S4
    iexact S5
  iintro ⟨%Y9, %Y10, ⟨H0, H1, H2, H3, H4, H5, H6, H7, S0, S1, S2, S3, S4, S5⟩, %hk'⟩
  isplitl [S0 S1 S2 S3 S4 S5 Hr]
  · iexists Y9
    iexists Y10
    isplitl [S0]; · iexact S0
    isplitl [S1]; · iexact S1
    isplitl [S2]; · iexact S2
    isplitl [S3]; · iexact S3
    isplitl [S4]; · iexact S4
    isplitl [S5]; · iexact S5
    isplitl [Hr]; · iexact Hr
    ipureintro
    exact fun _ => hk'
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iapply (left7 m xf suf K G rs sv c t d7); iexact H7

set_option backward.isDefEq.respectTransparency.types false in
theorem vrun (hin : ∀ c t, In1 (xf c) (suf c) (iblk m c 0 t) (iblk m c 4 t)) (hin2 : ∀ c t, In2At m K G rs sv c t) : θ_run defs (onTc (τ := τ) (main (F := Ideal))) (s₀ m ρ)
    (fun r => Pipeline.FramePost cfgs (vdats m xf suf K G rs sv) (0 : Fin 1) (V m) r ∧ r.2.sem = fun _ => 0) :=
  Pipeline.θ_run_frame_track (Q' := _) cfgs (vdats m xf suf K G rs sv) (0 : Fin 1) launch0 defs₀ 𝒱v m ρ main
    (hbody := fun c => body_value m xf suf K G rs sv c (hin c) (hin2 c)) (hshare := fun c => (vdats m xf suf K G rs sv 0 c).share_full fun _ => rfl)
    (howed := fun _ _ => rfl) (V := V m) (hmain := hmain m 𝒱v) (hA := fun _ _ => rfl) (hin := fun c => carry_in xf suf c) (hout := fun c => carry_out xf suf c _)

/-- The first result: every tile of 1024 columns. -/
def Yv (c : Dev nD) : S128x14336.Idx → EReal := fun i => tileAt xf suf K G rs sv c ((i 1).val / 1024) (ix2 ⟨(i 0).val, (i 0).isLt⟩ ⟨(i 1).val % 1024, Nat.mod_lt _ (by decide)⟩)

theorem final6 (c : Dev nD) : (vdats m xf suf K G rs sv 0 c).arrAt 6 cfg0.N = Yv xf suf K G rs sv c := by
  refine (vdats m xf suf K G rs sv 0 c).arrAt_eq_of_covers 6 _ (by decide +kernel) fun t hf y => ?_
  have e : ∀ t : Fin cfg0.N, win0_6.index t = ![0, t.val] := by decide +kernel
  obtain ⟨a, b, rfl⟩ : ∃ (a : Fin 128) (b : Fin 1024), y = ix2 a b := ⟨y 0, y 1, eq_ix2 y⟩
  rw [vafter6]
  blk_simp [e]
  have h : (win0_6.blk t).view.emb (ix2 a b) = ix2 a ⟨1024 * t.val + b.val, by have : t.val < 14 := t.isLt; omega⟩ := by blk_ext [e]
  rw [h]
  have e1 : (1024 * t.val + b.val) / 1024 = t.val := by omega
  have e2 : (⟨(1024 * t.val + b.val) % 1024, Nat.mod_lt _ (by decide)⟩ : Fin 1024) = b := Fin.ext (by show (1024 * t.val + b.val) % 1024 = b.val; omega)
  show _ = tileAt xf suf K G rs sv c ((1024 * t.val + b.val) / 1024) (ix2 a ⟨(1024 * t.val + b.val) % 1024, Nat.mod_lt _ (by decide)⟩)
  rw [e1, e2]

theorem final7 (c : Dev nD) : (vdats m xf suf K G rs sv 0 c).arrAt 7 cfg0.N = XRv (xf c) (suf c) := by
  refine (vdats m xf suf K G rs sv 0 c).arrAt_eq_of_after_last 7 ⟨13, by decide⟩ (by decide +kernel) _ fun j => ?_
  rw [vafter7]; rfl

theorem V_main_v0 (c : Dev nD) : V m c main_v0 = shapeCast S128x4096 (m ((c : Thread nD τ).loc main_arg0)) shapeCasts_S1x128x4096_S128x4096 := rfl
theorem V_main_v2 (c : Dev nD) : V m c main_v2 = shapeCast S1x4096 (m ((c : Thread nD τ).loc main_arg4)) shapeCasts_S4096_S1x4096 := rfl

end Cert.Proof.KernelIdeal

end

end
-- ==== Proof.KernelIdeal.Fin.lean ====
/- What the precondition says: every entry of four arguments is a real number. -/
module

public import proofs.«01_k».proof.Proof.KernelIdeal.ValJ
public import proofs.«01_k».proof.Defs

@[expose] public section

set_option maxRecDepth 65536

noncomputable section

namespace Cert.Proof.KernelIdeal

open Idealize.ShloMosaic Idealize.ShloMosaic.TcCoe Idealize.ShloMosaic.Pipeline

theorem preFacts : Cert.Pre_finite.Facts where
  bcast_S_S1x128x4096 := by decide
  bcast_S_S14336 := by decide
  bcast_S_S14336x16 := by decide
  bcast_S_S4096 := by decide

/-- A value whose absolute value lies below infinity is a real number. -/
theorem real_of_abs (x : EReal) (h : max x (-x) < ⊤) : x = ((x.toReal : ℝ) : EReal) := by
  refine (EReal.coe_toReal ?_ ?_).symm
  · rintro rfl; simp at h
  · rintro rfl; simp at h

theorem real_of_bit {φ : FTy} (x : Ideal φ) (h : BitVec.ofBool (decide (FloatOps.absf x < (⊤ : EReal))) = 1#1) :
    x = (((x : EReal).toReal : ℝ) : EReal) := by
  refine real_of_abs x ?_
  by_contra hn
  have e : decide (FloatOps.absf x < (⊤ : EReal)) = false := decide_eq_false hn
  rw [e] at h
  exact absurd h (by decide)

theorem fin0 (a0 a1 a2 a3 a4 a5)
    (h : (@Cert.Pre_finite.fn preFacts Ideal _ a0 a1 a2 a3 a4 a5).1 = fun _ => 1#1) (s : Fin 128) (k : Fin 4096) :
    a0 (ix3 0 s k) = (((a0 (ix3 0 s k) : EReal).toReal : ℝ) : EReal) := by
  have h' := congrFun h (ix3 0 s k)
  revert h'
  pointwise [Cert.Pre_finite.fn, top16]
  exact fun h' => real_of_bit _ h'

theorem fin2 (a0 a1 a2 a3 a4 a5)
    (h : (@Cert.Pre_finite.fn preFacts Ideal _ a0 a1 a2 a3 a4 a5).2.1 = fun _ => 1#1) (k : Fin 14336) :
    a2 (ix1 k) = (((a2 (ix1 k) : EReal).toReal : ℝ) : EReal) := by
  have h' := congrFun h (ix1 k)
  revert h'
  pointwise [Cert.Pre_finite.fn, top32]
  exact fun h' => real_of_bit _ h'

theorem fin3 (a0 a1 a2 a3 a4 a5)
    (h : (@Cert.Pre_finite.fn preFacts Ideal _ a0 a1 a2 a3 a4 a5).2.2.1 = fun _ => 1#1) (s : Fin 14336) (k : Fin 16) :
    a3 (ix2 s k) = (((a3 (ix2 s k) : EReal).toReal : ℝ) : EReal) := by
  have h' := congrFun h (ix2 s k)
  revert h'
  pointwise [Cert.Pre_finite.fn, top32]
  exact fun h' => real_of_bit _ h'

theorem fin4 (a0 a1 a2 a3 a4 a5)
    (h : (@Cert.Pre_finite.fn preFacts Ideal _ a0 a1 a2 a3 a4 a5).2.2.2 = fun _ => 1#1) (k : Fin 4096) :
    a4 (ix1 k) = (((a4 (ix1 k) : EReal).toReal : ℝ) : EReal) := by
  have h' := congrFun h (ix1 k)
  revert h'
  pointwise [Cert.Pre_finite.fn, top32]
  exact fun h' => real_of_bit _ h'

section

open Cert.KernelIdeal Cert.KernelIdeal.Gen

theorem cast0 (x : FVec Ideal S1x128x4096 .bf16) (s : Fin 128) (k : Fin 4096) :
    shapeCast S128x4096 x shapeCasts_S1x128x4096_S128x4096 (ix2 s k) = x (ix3 0 s k) := by pointwise

theorem cast4 (x : FVec Ideal S4096 .f32) (k : Fin 4096) :
    shapeCast S1x4096 x shapeCasts_S4096_S1x4096 (ix2 0 k) = x (ix1 k) := by pointwise

theorem V_main_v1 (m : (ℓ : Loc nD τ sig) → Buf (Elt Ideal) ℓ) (c : Dev nD) : V m c main_v1 = shapeCast S1x14336 (m ((c : Thread nD τ).loc main_arg2)) shapeCasts_S14336_S1x14336 := rfl
theorem V_main_v3 (m : (ℓ : Loc nD τ sig) → Buf (Elt Ideal) ℓ) (c : Dev nD) : V m c main_v3 = shapeCast S1x14336 (m ((c : Thread nD τ).loc main_arg5)) shapeCasts_S14336_S1x14336 := rfl

theorem cast14 (x : FVec Ideal S14336 .f32) (k : Fin 14336) :
    shapeCast S1x14336 x shapeCasts_S14336_S1x14336 (ix2 0 k) = x (ix1 k) := by pointwise

variable (m : (ℓ : Loc nD τ sig) → Buf (Elt Ideal) ℓ) (c : Dev nD)

/-- The activations, as real numbers. -/
def xfOf (s k : ℕ) : ℝ :=
  if h : s < 128 ∧ k < 4096 then
    ((m ((c.tc : Thread nD τ).loc main_arg0) : FVec Ideal S1x128x4096 .bf16) (ix3 0 ⟨s, h.1⟩ ⟨k, h.2⟩) : EReal).toReal else 0

/-- The activations' scales, as real numbers. -/
def sufOf (k : ℕ) : ℝ :=
  if h : k < 4096 then ((m ((c.tc : Thread nD τ).loc main_arg4) : FVec Ideal S4096 .f32) (ix1 ⟨k, h⟩) : EReal).toReal else 0

/-- The codes. -/
def KOf (r w : ℕ) : BitVec 16 :=
  if h : r < 14336 ∧ w < 512 then (m ((c.tc : Thread nD τ).loc main_arg1) : IVec S14336x512 16) (ix2 ⟨r, h.1⟩ ⟨w, h.2⟩) else 0

/-- The row scales, as real numbers. -/
def rsOf (k : ℕ) : ℝ :=
  if h : k < 14336 then ((m ((c.tc : Thread nD τ).loc main_arg2) : FVec Ideal S14336 .f32) (ix1 ⟨k, h⟩) : EReal).toReal else 0

/-- The group scales, as real numbers. -/
def GOf (r g : ℕ) : ℝ :=
  if h : r < 14336 ∧ g < 16 then ((m ((c.tc : Thread nD τ).loc main_arg3) : FVec Ideal S14336x16 .f32) (ix2 ⟨r, h.1⟩ ⟨g, h.2⟩) : EReal).toReal else 0

/-- The output signs. -/
def svOf (k : ℕ) : EReal :=
  if h : k < 14336 then (m ((c.tc : Thread nD τ).loc main_arg5) : FVec Ideal S14336 .f32) (ix1 ⟨k, h⟩) else 0

variable {m} (hP : Cert.Pre_KernelIdeal_finite (hPre_finite := preFacts) m)
include hP

theorem xfOf_eq (s : Fin 128) (k : Fin 4096) :
    (m ((c.tc : Thread nD τ).loc main_arg0) : FVec Ideal S1x128x4096 .bf16) (ix3 0 s k) = ((xfOf m c s.val k.val : ℝ) : EReal) := by
  have h := fin0 _ _ _ _ _ _ (hP c).1 s k
  rw [h, xfOf, dif_pos ⟨s.isLt, k.isLt⟩]

theorem sufOf_eq (k : Fin 4096) :
    (m ((c.tc : Thread nD τ).loc main_arg4) : FVec Ideal S4096 .f32) (ix1 k) = ((sufOf m c k.val : ℝ) : EReal) := by
  have h := fin4 _ _ _ _ _ _ (hP c).2.2.2 k
  rw [h, sufOf, dif_pos k.isLt]

omit hP in
theorem KOf_eq (r : Fin 14336) (w : Fin 512) :
    (m ((c.tc : Thread nD τ).loc main_arg1) : IVec S14336x512 16) (ix2 r w) = KOf m c r.val w.val := by
  rw [KOf, dif_pos ⟨r.isLt, w.isLt⟩]

theorem rsOf_eq (k : Fin 14336) :
    (m ((c.tc : Thread nD τ).loc main_arg2) : FVec Ideal S14336 .f32) (ix1 k) = ((rsOf m c k.val : ℝ) : EReal) := by
  have h := fin2 _ _ _ _ _ _ (hP c).2.1 k
  rw [h, rsOf, dif_pos k.isLt]

theorem GOf_eq (r : Fin 14336) (g : Fin 16) :
    (m ((c.tc : Thread nD τ).loc main_arg3) : FVec Ideal S14336x16 .f32) (ix2 r g) = ((GOf m c r.val g.val : ℝ) : EReal) := by
  have h := fin3 _ _ _ _ _ _ (hP c).2.2.1 r g
  rw [h, GOf, dif_pos ⟨r.isLt, g.isLt⟩]

omit hP in
theorem svOf_eq (k : Fin 14336) :
    (m ((c.tc : Thread nD τ).loc main_arg5) : FVec Ideal S14336 .f32) (ix1 k) = svOf m c k.val := by
  rw [svOf, dif_pos k.isLt]

omit hP in
theorem iblk1_at (t : Fin cfg0.N) (o : Fin 1024) (w : Fin 512) :
    iblk m c 1 t (ix2 o w) = (m ((c.tc : Thread nD τ).loc main_arg1) : IVec S14336x512 16) (ix2 ⟨1024 * t.val + o.val, by have := t.isLt; have : cfg0.N = 14 := rfl; omega⟩ w) := by
  have e : ∀ t : Fin cfg0.N, win0_1.index t = ![t.val, 0] := by decide +kernel
  blk_simp [iblk, e]
  have h : (win0_1.blk t).view.emb (ix2 o w) = ix2 ⟨1024 * t.val + o.val, by have := t.isLt; have : cfg0.N = 14 := rfl; omega⟩ w := by blk_ext [e]
  rw [h, V_main_arg1]

omit hP in
theorem iblk2_at (t : Fin cfg0.N) (o : Fin 1024) :
    iblk m c 2 t (ix2 0 o) = (m ((c.tc : Thread nD τ).loc main_arg2) : FVec Ideal S14336 .f32) (ix1 ⟨1024 * t.val + o.val, by have := t.isLt; have : cfg0.N = 14 := rfl; omega⟩) := by
  have e : ∀ t : Fin cfg0.N, win0_2.index t = ![0, t.val] := by decide +kernel
  blk_simp [iblk, e]
  have h : (win0_2.blk t).view.emb (ix2 0 o) = ix2 0 ⟨1024 * t.val + o.val, by have := t.isLt; have : cfg0.N = 14 := rfl; omega⟩ := by blk_ext [e]
  rw [h, V_main_v1]
  exact cast14 _ _

omit hP in
theorem iblk3_at (t : Fin cfg0.N) (o : Fin 1024) (g : Fin 16) :
    iblk m c 3 t (ix2 o g) = (m ((c.tc : Thread nD τ).loc main_arg3) : FVec Ideal S14336x16 .f32) (ix2 ⟨1024 * t.val + o.val, by have := t.isLt; have : cfg0.N = 14 := rfl; omega⟩ g) := by
  have e : ∀ t : Fin cfg0.N, win0_3.index t = ![t.val, 0] := by decide +kernel
  blk_simp [iblk, e]
  have h : (win0_3.blk t).view.emb (ix2 o g) = ix2 ⟨1024 * t.val + o.val, by have := t.isLt; have : cfg0.N = 14 := rfl; omega⟩ g := by blk_ext [e]
  rw [h, V_main_arg3]

omit hP in
theorem iblk5_at (t : Fin cfg0.N) (o : Fin 1024) :
    iblk m c 5 t (ix2 0 o) = (m ((c.tc : Thread nD τ).loc main_arg5) : FVec Ideal S14336 .f32) (ix1 ⟨1024 * t.val + o.val, by have := t.isLt; have : cfg0.N = 14 := rfl; omega⟩) := by
  have e : ∀ t : Fin cfg0.N, win0_5.index t = ![0, t.val] := by decide +kernel
  blk_simp [iblk, e]
  have h : (win0_5.blk t).view.emb (ix2 0 o) = ix2 0 ⟨1024 * t.val + o.val, by have := t.isLt; have : cfg0.N = 14 := rfl; omega⟩ := by blk_ext [e]
  rw [h, V_main_v3]
  exact cast14 _ _

theorem in2_of (t : Fin cfg0.N) : In2At m (fun c => KOf m c) (fun c => GOf m c) (fun c => rsOf m c) (fun c => svOf m c) c t := by
  constructor
  · intro o w
    exact (iblk1_at c t o w).trans (KOf_eq c _ w)
  · intro o
    exact (iblk2_at c t o).trans (rsOf_eq c hP _)
  · intro o g
    exact (iblk3_at c t o g).trans (GOf_eq c hP _ g)
  · intro o
    exact (iblk5_at c t o).trans (svOf_eq c _)

omit hP in
theorem iblk0_at (t : Fin cfg0.N) (s : Fin 128) (k : Fin 4096) :
    iblk m c 0 t (ix2 s k) = (m ((c.tc : Thread nD τ).loc main_arg0) : FVec Ideal S1x128x4096 .bf16) (ix3 0 s k) := by
  have e : ∀ t : Fin cfg0.N, win0_0.index t = ![0, 0] := by decide +kernel
  blk_simp [iblk, e]
  have h : (win0_0.blk t).view.emb (ix2 s k) = ix2 s k := by blk_ext [e]
  rw [h, V_main_v0]
  exact cast0 _ s k

omit hP in
theorem iblk4_at (t : Fin cfg0.N) (k : Fin 4096) :
    iblk m c 4 t (ix2 0 k) = (m ((c.tc : Thread nD τ).loc main_arg4) : FVec Ideal S4096 .f32) (ix1 k) := by
  have e : ∀ t : Fin cfg0.N, win0_4.index t = ![0, 0] := by decide +kernel
  blk_simp [iblk, e]
  have h : (win0_4.blk t).view.emb (ix2 0 k) = ix2 0 k := by blk_ext [e]
  rw [h, V_main_v2]
  exact cast4 _ k

theorem in1_of (t : Fin cfg0.N) : In1 (xfOf m c) (sufOf m c) (iblk m c 0 t) (iblk m c 4 t) := by
  constructor
  · intro s k
    rw [← xfOf_eq c hP s k]
    exact iblk0_at c t s k
  · intro k
    rw [← sufOf_eq c hP k]
    exact iblk4_at c t k

end

end Cert.Proof.KernelIdeal

end
-- ==== Proof.KernelIdeal.RefX.lean ====
/- The second result of the reference, entry by entry: the Sylvester matrix, then the transform of the scaled input. -/
module

public import proofs.«01_k».proof.Proof.KernelIdeal.ValHad
public import proofs.«01_k».proof.Proof.Gen.ReferenceIdeal.Run

@[expose] public section

set_option maxRecDepth 65536

noncomputable section

namespace Cert.Proof.ReferenceIdeal

open Cert.ReferenceIdeal Cert.ReferenceIdeal.Gen Cert.ReferenceIdeal.Value
open Cert.Proof.KernelIdeal (sg sg_succ sg_comm par κ κ_eq XRr XRv coe_sum sumFin)
open Idealize.ShloMosaic Idealize.ShloMosaic.TcCoe

theorem sg_rec (n a b : ℕ) (ha : a < 2 ^ (n + 1)) (hb : b < 2 ^ (n + 1)) :
    sg (n + 1) a b = if a < 2 ^ n then (if b < 2 ^ n then sg n a b else sg n a (b - 2 ^ n))
      else (if b < 2 ^ n then sg n (a - 2 ^ n) b else - sg n (a - 2 ^ n) (b - 2 ^ n)) := by
  rw [pow_succ] at ha hb
  have h1 := fun (h : a < 2 ^ n) (k : b < 2 ^ n) => sg_succ n a b h k false false
  have h2 := fun (h : a < 2 ^ n) (k : ¬ b < 2 ^ n) => sg_succ n a (b - 2 ^ n) h (by omega) false true
  have h3 := fun (h : ¬ a < 2 ^ n) (k : b < 2 ^ n) => sg_succ n (a - 2 ^ n) b (by omega) k true false
  have h4 := fun (h : ¬ a < 2 ^ n) (k : ¬ b < 2 ^ n) => sg_succ n (a - 2 ^ n) (b - 2 ^ n) (by omega) (by omega) true true
  split_ifs with h k k
  · simpa using h1 h k
  · have e : 2 ^ n * true.toNat + (b - 2 ^ n) = b := by simp; omega
    have := h2 h k; rw [e] at this; simpa using this
  · have e : 2 ^ n * true.toNat + (a - 2 ^ n) = a := by simp; omega
    have := h3 h k; rw [e] at this; simpa using this
  · have e : 2 ^ n * true.toNat + (a - 2 ^ n) = a := by simp; omega
    have e' : 2 ^ n * true.toNat + (b - 2 ^ n) = b := by simp; omega
    have := h4 h k; rw [e, e'] at this; simpa using this

variable (V0 : Valuation τ sig (Elt Ideal))

theorem syl0 (a b : Fin 1) : res_main_v0 V0 (ix2 a b) = ((sg 0 a.val b.val : ℝ) : EReal) := by
  have e : sg 0 a.val b.val = 1 := by simp [sg, par]
  rw [e]
  pointwise [res_main_v0]
  exact EReal.coe_one.symm

theorem syl1 (a b : Fin 2) : res_main_v2 V0 (ix2 a b) = ((sg 1 a.val b.val : ℝ) : EReal) := by
  rw [sg_rec 0 _ _ a.isLt b.isLt]
  pointwise [res_main_v2]
  simp only [syl0]
  norm_num
  split_ifs <;> simp_all

theorem syl2 (a b : Fin 4) : res_main_v4 V0 (ix2 a b) = ((sg 2 a.val b.val : ℝ) : EReal) := by
  rw [sg_rec 1 _ _ a.isLt b.isLt]
  pointwise [res_main_v4]
  simp only [syl1]
  norm_num
  split_ifs <;> simp_all

theorem syl3 (a b : Fin 8) : res_main_v6 V0 (ix2 a b) = ((sg 3 a.val b.val : ℝ) : EReal) := by
  rw [sg_rec 2 _ _ a.isLt b.isLt]
  pointwise [res_main_v6]
  simp only [syl2]
  norm_num
  split_ifs <;> simp_all

theorem syl4 (a b : Fin 16) : res_main_v8 V0 (ix2 a b) = ((sg 4 a.val b.val : ℝ) : EReal) := by
  rw [sg_rec 3 _ _ a.isLt b.isLt]
  pointwise [res_main_v8]
  simp only [syl3]
  norm_num
  split_ifs <;> simp_all

theorem syl5 (a b : Fin 32) : res_main_v10 V0 (ix2 a b) = ((sg 5 a.val b.val : ℝ) : EReal) := by
  rw [sg_rec 4 _ _ a.isLt b.isLt]
  pointwise [res_main_v10]
  simp only [syl4]
  norm_num
  split_ifs <;> simp_all

theorem syl6 (a b : Fin 64) : res_main_v12 V0 (ix2 a b) = ((sg 6 a.val b.val : ℝ) : EReal) := by
  rw [sg_rec 5 _ _ a.isLt b.isLt]
  pointwise [res_main_v12]
  simp only [syl5]
  norm_num
  split_ifs <;> simp_all

theorem syl7 (a b : Fin 128) : res_main_v14 V0 (ix2 a b) = ((sg 7 a.val b.val : ℝ) : EReal) := by
  rw [sg_rec 6 _ _ a.isLt b.isLt]
  pointwise [res_main_v14]
  simp only [syl6]
  norm_num
  split_ifs <;> simp_all

theorem syl8 (a b : Fin 256) : res_main_v16 V0 (ix2 a b) = ((sg 8 a.val b.val : ℝ) : EReal) := by
  rw [sg_rec 7 _ _ a.isLt b.isLt]
  pointwise [res_main_v16]
  simp only [syl7]
  norm_num
  split_ifs <;> simp_all

theorem syl9 (a b : Fin 512) : res_main_v18 V0 (ix2 a b) = ((sg 9 a.val b.val : ℝ) : EReal) := by
  rw [sg_rec 8 _ _ a.isLt b.isLt]
  pointwise [res_main_v18]
  simp only [syl8]
  norm_num
  split_ifs <;> simp_all

theorem syl10 (a b : Fin 1024) : res_main_v20 V0 (ix2 a b) = ((sg 10 a.val b.val : ℝ) : EReal) := by
  rw [sg_rec 9 _ _ a.isLt b.isLt]
  pointwise [res_main_v20]
  simp only [syl9]
  norm_num
  split_ifs <;> simp_all

/-- The second result's composed term. -/
def xr0 : FVec Ideal S128x4096 .bf16 :=
  truncf .bf16 (shapeCast _ (mulf (Host.dotGeneral (φ₁ := .f32) (φ₂ := .f32) dot_S128x4x1024_S1024x1024_S128x4x1024_2_1_01_0_n_n (some .fp32) (shapeCast _ (mulf (extf .f32 (shapeCast _ (V0 (Proc.devRef .tc main_arg0)) shapeCasts_S1x128x4096_S128x4096) bitsLt_bf16_f32) (broadcastInDim S128x4096 ![0, 1] bcast_S1x4096_S128x4096_0_1 (broadcastInDim S1x4096 ![1] bcast_S4096_S1x4096_1 (V0 (Proc.devRef .tc main_arg4))))) shapeCasts_S128x4096_S128x4x1024) (res_main_v20 V0)) (broadcastInDim S128x4x1024 ![] bcast_S_S128x4x1024 (constant S_ .f32 0x3D000000#32))) shapeCasts_S128x4x1024_S128x4096) bitsLt_bf16_f32

theorem xr0_at (xf : ℕ → ℕ → ℝ) (suf : ℕ → ℝ)
    (h0 : ∀ (s : Fin 128) (k : Fin 4096), V0 (Proc.devRef .tc main_arg0) (ix3 0 s k) = ((xf s.val k.val : ℝ) : EReal))
    (h4 : ∀ k : Fin 4096, V0 (Proc.devRef .tc main_arg4) (ix1 k) = ((suf k.val : ℝ) : EReal)) (s : Fin 128) (k : Fin 4096) :
    xr0 V0 (ix2 s k) = ((XRr xf suf s.val k.val : ℝ) : EReal) := by
  unfold xr0
  pointwise
  simp only [syl10, h0, h4, κ_eq, ← EReal.coe_mul, coe_sum]
  unfold XRr
  rw [← sumFin 1024]
  refine congrArg (fun r : ℝ => ((r * κ : ℝ) : EReal)) (Finset.sum_congr rfl fun n _ => ?_)
  rw [sg_comm 10, Nat.mul_comm 1024]

end Cert.Proof.ReferenceIdeal

end
-- ==== Proof.KernelIdeal.RefT.lean ====
/- The decoded weights of the reference. -/
module

public import proofs.«01_k».proof.Proof.KernelIdeal.RefX
public import proofs.«01_k».proof.Proof.KernelIdeal.ValW

@[expose] public section

set_option maxRecDepth 65536

noncomputable section

namespace Cert.Proof.ReferenceIdeal

open Cert.ReferenceIdeal Cert.ReferenceIdeal.Gen Cert.ReferenceIdeal.Value
open Idealize.ShloMosaic Idealize.ShloMosaic.StableHlo Idealize.ShloMosaic.Tactic
open Cert.Proof.KernelIdeal (cat nxw dw dv wgt Asum XRr κ κ_eq sg decu decg dw_coe)

/-- The trellis state of field `f` of a word and the next one. -/
theorem state_eq (a b : BitVec 16) (f : Fin 8) :
    IntOp.andi (IntOp.ori (IntOp.shli ArithUnit.host (a.setWidth 32) (BitVec.ofNat 32 (2 * f.val)))
      (IntOp.shrui ArithUnit.host (b.setWidth 32) (IntOp.subi 16#32 (BitVec.ofNat 32 (2 * f.val))))) 65535#32
    = IntOp.shrui .vector (IntOp.shli .vector (cat a b) (BitVec.ofNat 32 (2 * f.val))) 16#32 := by
  have key : ∀ n : ℕ, n ≤ 16 → (((a.setWidth 32) <<< n ||| (b.setWidth 32) >>> (16 - n)) &&& (0#16 ++ BitVec.allOnes 16 : BitVec 32)) = ((a ++ b : BitVec 32) <<< n) >>> 16 := by
    intro n hn
    apply BitVec.eq_of_getLsbD_eq
    intro i hi
    rw [BitVec.getLsbD_and, BitVec.getLsbD_or, BitVec.getLsbD_shiftLeft, BitVec.getLsbD_ushiftRight, BitVec.getLsbD_ushiftRight, BitVec.getLsbD_shiftLeft, BitVec.getLsbD_setWidth, BitVec.getLsbD_setWidth,
      BitVec.getLsbD_append, BitVec.getLsbD_append, BitVec.getLsbD_allOnes]
    by_cases h : i < 16
    · have h1 : 16 + i < 32 := by omega
      have h3 : ¬ 16 + i < n := by omega
      have h4 : 16 - n + i < 32 := by omega
      have h6 : i - n < 32 := by omega
      by_cases h2 : i < n
      · have h5 : 16 + i - n < 16 := by omega
        have e : 16 - n + i = 16 + i - n := by omega
        simp [h, h1, h2, h3, h5, e, hi]; omega
      · have h5 : ¬ 16 + i - n < 16 := by omega
        have e : 16 + i - n - 16 = i - n := by omega
        have h7 : b.getLsbD (16 - n + i) = false := BitVec.getLsbD_of_ge _ _ (by omega)
        simp [h, h1, h2, h3, h5, e, hi, h7]; omega
    · have h1 : ¬ 16 + i < 32 := by omega
      simp [h, h1]
  have e : ∀ f : Fin 8, IntOp.shli ArithUnit.host (a.setWidth 32) (BitVec.ofNat 32 (2 * f.val)) = (a.setWidth 32) <<< (2 * f.val)
      ∧ IntOp.shrui ArithUnit.host (b.setWidth 32) (IntOp.subi 16#32 (BitVec.ofNat 32 (2 * f.val))) = (b.setWidth 32) >>> (16 - 2 * f.val)
      ∧ IntOp.shli .vector (cat a b) (BitVec.ofNat 32 (2 * f.val)) = (a ++ b : BitVec 32) <<< (2 * f.val) := by
    intro f
    fin_cases f <;> exact ⟨rfl, rfl, rfl⟩
  rw [(e f).1, (e f).2.1, (e f).2.2]
  exact key (2 * f.val) (by omega)

/-- A half-precision number of exponent at most 15, as the bits of a single-precision one. -/
def wid (s o l p q : BitVec 32) (v : BitVec 32) : BitVec 32 :=
  IntOp.ori (IntOp.shli ArithUnit.host (IntOp.shrui ArithUnit.host v s) o) (IntOp.addi (IntOp.shli ArithUnit.host (IntOp.andi v l) p) q)

theorem wid_hi (x : BitVec 32) :
    wid 15#32 31#32 32767#32 13#32 939524096#32 (IntOp.shrui ArithUnit.host (IntOp.xori (IntOp.andi x 2415890431#32) 996162400#32) 16#32)
    = IntOp.xori (IntOp.andi (IntOp.shrsi .vector x 3#32) 2181029888#32) 1064042496#32 := by
  show (((x &&& 2415890431#32 ^^^ 996162400#32) >>> 16) >>> 15) <<< 31 ||| (((((x &&& 2415890431#32 ^^^ 996162400#32) >>> 16) &&& 32767#32) <<< 13) + 939524096#32) = (x.sshiftRight 3 &&& 2181029888#32) ^^^ 1064042496#32
  rw [BitVec.add_eq_or_of_and_eq_zero]
  · apply BitVec.eq_of_getLsbD_eq
    intro i hi
    interval_cases i <;> simp [BitVec.getElem_sshiftRight, BitVec.msb_eq_getLsbD_last]
  · apply BitVec.eq_of_getLsbD_eq
    intro i hi
    interval_cases i <;> simp

theorem wid_lo (x : BitVec 32) :
    wid 15#32 31#32 32767#32 13#32 939524096#32 (IntOp.andi (IntOp.xori (IntOp.andi x 2415890431#32) 996162400#32) 65535#32)
    = IntOp.xori (IntOp.andi (IntOp.shrsi .vector (IntOp.shli .vector x 16#32) 3#32) 2181029888#32) 1064042496#32 := by
  show (((x &&& 2415890431#32 ^^^ 996162400#32) &&& 65535#32) >>> 15) <<< 31 ||| (((((x &&& 2415890431#32 ^^^ 996162400#32) &&& 65535#32) &&& 32767#32) <<< 13) + 939524096#32) = ((x <<< 16).sshiftRight 3 &&& 2181029888#32) ^^^ 1064042496#32
  rw [BitVec.add_eq_or_of_and_eq_zero]
  · apply BitVec.eq_of_getLsbD_eq
    intro i hi
    interval_cases i <;> simp [BitVec.getElem_sshiftRight, BitVec.msb_eq_getLsbD_last]
  · apply BitVec.eq_of_getLsbD_eq
    intro i hi
    interval_cases i <;> simp

variable (V0 : Valuation τ sig (Elt Ideal))

theorem v33_at (K : ℕ → ℕ → BitVec 16) (h1 : ∀ (r : Fin 14336) (w : Fin 512), V0 (Proc.devRef .tc main_arg1) (ix2 r w) = K r.val w.val) (r : Fin 14336) (g : Fin 16) (w : Fin 32) :
    res_main_v33 V0 (ix3 r g w) = (K r.val (32 * g.val + w.val)).setWidth 32 := by
  pointwise [res_main_v33]
  rw [h1]
  exact congrArg (fun n => (K r.val n).setWidth 32) (by simp only []; omega)

theorem v37_at (f : Fin 8) : res_main_v37 V0 (ix1 f) = BitVec.ofNat 32 (2 * f.val) := by
  pointwise [res_main_v37]
  have e : ∀ f : Fin 8, IntOp.muli (2#32) (BitVec.ofNat 32 f.val) = BitVec.ofNat 32 (2 * f.val) := by decide +kernel
  exact e f

theorem v60_at (K : ℕ → ℕ → BitVec 16) (h1 : ∀ (r : Fin 14336) (w : Fin 512), V0 (Proc.devRef .tc main_arg1) (ix2 r w) = K r.val w.val) (r : Fin 14336) (g : Fin 16) (w : Fin 32) (f : Fin 8) :
    res_main_v60 V0 (ix4 r g w f) = IntOp.xori (IntOp.andi (IntOp.addi (IntOp.muli
      (IntOp.shrui .vector (IntOp.shli .vector (cat (K r.val (32 * g.val + w.val)) (K r.val (nxw (32 * g.val + w.val)))) (BitVec.ofNat 32 (2 * f.val))) 16#32) 89226354#32) 64248484#32) 2415890431#32) 996162400#32 := by
  rw [← state_eq]
  pointwise [res_main_v60]
  have e : (if h : w.val < 31 then res_main_v33 V0 (ix3 r g ⟨1 + w.val, by omega⟩) else res_main_v33 V0 (ix3 r g ⟨w.val - 31, by omega⟩)) = (K r.val (nxw (32 * g.val + w.val))).setWidth 32 := by
    by_cases h : w.val < 31
    · rw [dif_pos h, v33_at V0 K h1]
      unfold nxw
      rw [if_neg (by omega)]
      exact congrArg (fun n => (K r.val n).setWidth 32) (by simp only []; omega)
    · rw [dif_neg h, v33_at V0 K h1]
      unfold nxw
      rw [if_pos (by omega)]
      exact congrArg (fun n => (K r.val n).setWidth 32) (by simp only []; omega)
  rw [e, v33_at V0 K h1, v37_at]

end Cert.Proof.ReferenceIdeal

end
-- ==== Proof.KernelIdeal.RefU.lean ====
/- The decoded weights of the reference. -/
module

public import proofs.«01_k».proof.Proof.KernelIdeal.RefT

@[expose] public section

set_option maxRecDepth 65536

noncomputable section

namespace Cert.Proof.ReferenceIdeal

open Cert.ReferenceIdeal Cert.ReferenceIdeal.Gen Cert.ReferenceIdeal.Value
open Idealize.ShloMosaic Idealize.ShloMosaic.StableHlo Idealize.ShloMosaic.Tactic
open Cert.Proof.KernelIdeal (cat nxw dw dv wgt Asum XRr κ κ_eq sg decu decg dw_coe)

variable (V0 : Valuation τ sig (Elt Ideal))

/-- The numbers of the halves of the words, at generic constants. -/
def wG (s o l p q : BitVec 32) (v : IVec S14336x16x32x8 32) : FVec Ideal S14336x16x32x8 .f32 :=
  bitcastToFloat (F := Ideal) .f32 (ori (Host.shli (Host.shrui v (broadcastInDim S14336x16x32x8 ![] bcast_S_S14336x16x32x8 (constantI S_ 32 s))) (broadcastInDim S14336x16x32x8 ![] bcast_S_S14336x16x32x8 (constantI S_ 32 o))) (addi (Host.shli (andi v (broadcastInDim S14336x16x32x8 ![] bcast_S_S14336x16x32x8 (constantI S_ 32 l))) (broadcastInDim S14336x16x32x8 ![] bcast_S_S14336x16x32x8 (constantI S_ 32 p))) (broadcastInDim S14336x16x32x8 ![] bcast_S_S14336x16x32x8 (constantI S_ 32 q))))

theorem wG_at (s o l p q : BitVec 32) (v : IVec S14336x16x32x8 32) (j : S14336x16x32x8.Idx) : wG s o l p q v j = Ideal.ofBits .f32 (wid s o l p q (v j)) := rfl

theorem v62_j (j : S14336x16x32x8.Idx) : res_main_v62 V0 j = IntOp.andi (res_main_v60 V0 j) 65535#32 := by
  have key (q : BitVec 32) (v : IVec S14336x16x32x8 32) : andi v (broadcastInDim S14336x16x32x8 ![] bcast_S_S14336x16x32x8 (constantI S_ 32 q)) j = IntOp.andi (v j) q := rfl
  unfold res_main_v62
  exact key _ _

theorem v76_j (j : S14336x16x32x8.Idx) : res_main_v76 V0 j = IntOp.shrui ArithUnit.host (res_main_v60 V0 j) 16#32 := by
  have key (q : BitVec 32) (v : IVec S14336x16x32x8 32) : Host.shrui v (broadcastInDim S14336x16x32x8 ![] bcast_S_S14336x16x32x8 (constantI S_ 32 q)) j = IntOp.shrui ArithUnit.host (v j) q := rfl
  unfold res_main_v76
  exact key _ _

/-- The decoded weights. -/
def wR : FVec Ideal S14336x16x32x8 .bf16 :=
  truncf .bf16 (addf (wG 15#32 31#32 32767#32 13#32 939524096#32 (res_main_v62 V0)) (wG 15#32 31#32 32767#32 13#32 939524096#32 (res_main_v76 V0))) bitsLt_bf16_f32

theorem wR_at (K : ℕ → ℕ → BitVec 16) (h1 : ∀ (r : Fin 14336) (w : Fin 512), V0 (Proc.devRef .tc main_arg1) (ix2 r w) = K r.val w.val) (r : Fin 14336) (g : Fin 16) (w : Fin 32) (f : Fin 8) :
    wR V0 (ix4 r g w f) = ((dv (K r.val (32 * g.val + w.val)) (K r.val (nxw (32 * g.val + w.val))) f.val : ℝ) : EReal) := by
  have e (a b : FVec Ideal S14336x16x32x8 .f32) (j : S14336x16x32x8.Idx) : (truncf .bf16 (addf a b) bitsLt_bf16_f32 : FVec Ideal S14336x16x32x8 .bf16) j = (a j + b j : EReal) := rfl
  unfold wR
  rw [e, wG_at, wG_at, v62_j, v76_j, v60_at V0 K h1, wid_hi, wid_lo, add_comm, ← dw_coe, dw, decu, decg]

end Cert.Proof.ReferenceIdeal

end
-- ==== Proof.KernelIdeal.RefV.lean ====
/- The decoded weights of the reference. -/
module

public import proofs.«01_k».proof.Proof.KernelIdeal.RefU

@[expose] public section

set_option maxRecDepth 65536

noncomputable section

namespace Cert.Proof.ReferenceIdeal

open Cert.ReferenceIdeal Cert.ReferenceIdeal.Gen Cert.ReferenceIdeal.Value
open Idealize.ShloMosaic Idealize.ShloMosaic.StableHlo Idealize.ShloMosaic.Tactic
open Cert.Proof.KernelIdeal (cat nxw dw dv wgt Asum XRr κ κ_eq sg decu decg dw_coe coe_sum sumFin sg_comm)

variable (V0 : Valuation τ sig (Elt Ideal))

/-- The scaled weights, as a matrix. -/
def mR (v : FVec Ideal S14336x16x32x8 .bf16) (x : FVec Ideal S14336x16 .f32) : FVec Ideal S14336x4096 .bf16 :=
  shapeCast _ (mulf v (broadcastInDim S14336x16x32x8 ![0, 1, 2, 3] bcast_S14336x16x1x1_S14336x16x32x8_0_1_2_3 (broadcastInDim S14336x16x1x1 ![0, 1] bcast_S14336x16_S14336x16x1x1_0_1 (truncf .bf16 x bitsLt_bf16_f32)))) shapeCasts_S14336x16x32x8_S14336x4096

theorem mR_ix (v : FVec Ideal S14336x16x32x8 .bf16) (x : FVec Ideal S14336x16 .f32) (r : Fin 14336) (k : Fin 4096) :
    mR v x (ix2 r k) = (v (ix4 r ⟨k.val / 256, by omega⟩ ⟨k.val / 8 % 32, by omega⟩ ⟨k.val % 8, by omega⟩) * x (ix2 r ⟨k.val / 256, by omega⟩) : EReal) := by
  unfold mR
  pointwise

theorem mR_at (K : ℕ → ℕ → BitVec 16) (G : ℕ → ℕ → ℝ) (h1 : ∀ (r : Fin 14336) (w : Fin 512), V0 (Proc.devRef .tc main_arg1) (ix2 r w) = K r.val w.val)
    (h3 : ∀ (r : Fin 14336) (g : Fin 16), V0 (Proc.devRef .tc main_arg3) (ix2 r g) = (G r.val g.val : EReal)) (r : Fin 14336) (k : Fin 4096) :
    mR (wR V0) (V0 (Proc.devRef .tc main_arg3)) (ix2 r k) = (wgt K G r.val k.val : EReal) := by
  rw [mR_ix, wR_at V0 K h1, h3, ← EReal.coe_mul, wgt]
  have e : 32 * (k.val / 256) + k.val / 8 % 32 = k.val / 8 := by omega
  simp only [e]

/-- The first result's composed term. -/
def yR (x : FVec Ideal S128x4096 .bf16) (w : FVec Ideal S14336x4096 .bf16) (h : FVec Ideal S1024x1024 .f32) (r : FVec Ideal S14336 .f32) (s : FVec Ideal S14336 .f32) : FVec Ideal S128x14336 .bf16 :=
  truncf .bf16 (mulf (shapeCast _ (mulf (Host.dotGeneral (φ₁ := .f32) (φ₂ := .f32) dot_S128x14x1024_S1024x1024_S128x14x1024_2_1_01_0_n_n (some .fp32) (shapeCast _ (mulf (Host.dotGeneral (φ₁ := .bf16) (φ₂ := .bf16) dot_S128x4096_S14336x4096_S128x14336_1_1_0_0_n_n none x w) (broadcastInDim S128x14336 ![0, 1] bcast_S1x14336_S128x14336_0_1 (broadcastInDim S1x14336 ![1] bcast_S14336_S1x14336_1 r))) shapeCasts_S128x14336_S128x14x1024) h) (broadcastInDim S128x14x1024 ![] bcast_S_S128x14x1024 (constant S_ .f32 0x3D000000#32))) shapeCasts_S128x14x1024_S128x14336) (broadcastInDim S128x14336 ![0, 1] bcast_S1x14336_S128x14336_0_1 (broadcastInDim S1x14336 ![1] bcast_S14336_S1x14336_1 s))) bitsLt_bf16_f32

theorem yR_ix (x : FVec Ideal S128x4096 .bf16) (w : FVec Ideal S14336x4096 .bf16) (h : FVec Ideal S1024x1024 .f32) (r : FVec Ideal S14336 .f32) (s : FVec Ideal S14336 .f32) (a : Fin 128) (n : Fin 14336)
    (X : ℕ → ℕ → ℝ) (W : ℕ → ℕ → ℝ) (R : ℕ → ℝ) (S : ℕ → EReal)
    (hx : ∀ (a : Fin 128) (k : Fin 4096), x (ix2 a k) = (X a.val k.val : EReal)) (hw : ∀ (n : Fin 14336) (k : Fin 4096), w (ix2 n k) = (W n.val k.val : EReal))
    (hh : ∀ a b : Fin 1024, h (ix2 a b) = (sg 10 a.val b.val : EReal)) (hr : ∀ n : Fin 14336, r (ix1 n) = (R n.val : EReal)) (hs : ∀ n : Fin 14336, s (ix1 n) = S n.val) :
    yR x w h r s (ix2 a n) = (((∑ o ∈ Finset.range 1024, (∑ c ∈ Finset.range 4096, W (1024 * (n.val / 1024) + o) c * X a.val c) * R (1024 * (n.val / 1024) + o) * sg 10 o (n.val % 1024)) * κ : ℝ) : EReal) * S n.val := by
  unfold yR
  pointwise
  simp only [hx, hw, hh, hr, hs, κ_eq, ← EReal.coe_mul, coe_sum]
  rw [← sumFin 1024]
  refine congrArg (fun z : ℝ => ((z * κ : ℝ) : EReal) * S n.val) (Finset.sum_congr rfl fun o _ => ?_)
  rw [sg_comm 10, Nat.mul_comm 1024]
  refine congrArg (fun z : ℝ => z * R (n.val / 1024 * 1024 + o.val) * sg 10 o.val (n.val % 1024)) ?_
  rw [← sumFin 4096]
  exact Finset.sum_congr rfl fun c _ => mul_comm _ _

end Cert.Proof.ReferenceIdeal

end
-- ==== Proof.KernelIdeal.AlgY.lean ====
/- The two programs' results, entry by entry. -/
module

public import proofs.«01_k».proof.Proof.KernelIdeal.Fin
public import proofs.«01_k».proof.Proof.KernelIdeal.RefV

@[expose] public section

set_option maxRecDepth 65536

noncomputable section

namespace Cert.Proof.KernelIdeal

open Cert.KernelIdeal Cert.KernelIdeal.Gen
open Idealize.ShloMosaic Idealize.ShloMosaic.TcCoe Idealize.ShloMosaic.Pipeline Idealize.ShloMosaic.Tactic Idealize.SL.Sem

variable {m : (ℓ : Loc nD τ sig) → Buf (Elt Ideal) ℓ}

variable (m) in
/-- The first result. -/
def YOf (c : Dev nD) : S128x14336.Idx → EReal :=
  Yv (fun c => xfOf m c) (fun c => sufOf m c) (fun c => KOf m c) (fun c => GOf m c) (fun c => rsOf m c) (fun c => svOf m c) c

theorem kernel_full (ρ : Dev nD → PrngReg) (hP : Cert.Pre_KernelIdeal_finite (hPre_finite := preFacts) m) :
    θ_run defs (onTc (τ := τ) (main (F := Ideal))) ⟨m, fun _ => 0, ρ⟩ (fun r => ∀ c : Dev nD,
      r.2.mem ((c.tc : Thread nD τ).loc main_v4_0) = YOf m c
      ∧ r.2.mem ((c.tc : Thread nD τ).loc main_v4_1) = XRv (xfOf m c) (sufOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨((h.1 c).1 6).trans (final6 m _ _ _ _ _ _ c), ((h.1 c).1 7).trans (final7 m _ _ _ _ _ _ c),
      ((h.1 c).2 main_arg0 (Pipeline.mem_restRefs_of main_arg0 (by decide) (by decide))).trans (V_main_arg0 m c),
      (((h.1 c).1 1).trans ((vdats m _ _ _ _ _ _ 0 c).arrAt_in 1 rfl _)).trans (V_main_arg1 m c),
      ((h.1 c).2 main_arg2 (Pipeline.mem_restRefs_of main_arg2 (by decide) (by decide))).trans (V_main_arg2 m c),
      (((h.1 c).1 3).trans ((vdats m _ _ _ _ _ _ 0 c).arrAt_in 3 rfl _)).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩)
    (vrun m ρ (fun c => xfOf m c) (fun c => sufOf m c) (fun c => KOf m c) (fun c => GOf m c) (fun c => rsOf m c) (fun c => svOf m c) (fun c t => in1_of c hP t) (fun c t => in2_of c hP t))

theorem ref_xr (hP : Cert.Pre_KernelIdeal_finite (hPre_finite := preFacts) m) (c : Dev nD)
    (m' : (ℓ : Loc Cert.ReferenceIdeal.nD Cert.ReferenceIdeal.τ Cert.ReferenceIdeal.sig) → Buf (Elt Ideal) ℓ)
    (h0 : m' ((c.tc : Thread Cert.ReferenceIdeal.nD Cert.ReferenceIdeal.τ).loc Cert.ReferenceIdeal.main_arg0) = m ((c.tc : Thread nD τ).loc main_arg0))
    (h4 : m' ((c.tc : Thread Cert.ReferenceIdeal.nD Cert.ReferenceIdeal.τ).loc Cert.ReferenceIdeal.main_arg4) = m ((c.tc : Thread nD τ).loc main_arg4)) :
    ReferenceIdeal.xr0 (StableHlo.launchContents m' c) = XRv (xfOf m c) (sufOf m c) := by
  funext i
  obtain ⟨s, k, rfl⟩ : ∃ s k, i = ix2 s k := ⟨i 0, i 1, eq_ix2 i⟩
  refine ReferenceIdeal.xr0_at _ (xfOf m c) (sufOf m c) (fun s k => ?_) (fun k => ?_) s k
  · rw [← xfOf_eq c hP s k, ← h0]
  · rw [← sufOf_eq c hP k, ← h4]

theorem ref_y (hP : Cert.Pre_KernelIdeal_finite (hPre_finite := preFacts) m) (c : Dev nD)
    (m' : (ℓ : Loc Cert.ReferenceIdeal.nD Cert.ReferenceIdeal.τ Cert.ReferenceIdeal.sig) → Buf (Elt Ideal) ℓ)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5)) :
    ReferenceIdeal.yR (ReferenceIdeal.xr0 (StableHlo.launchContents m' c))
      (ReferenceIdeal.mR (ReferenceIdeal.wR (StableHlo.launchContents m' c)) (StableHlo.launchContents m' c (Proc.devRef .tc Cert.ReferenceIdeal.main_arg3)))
      (Cert.ReferenceIdeal.Value.res_main_v20 (StableHlo.launchContents m' c))
      (StableHlo.launchContents m' c (Proc.devRef .tc Cert.ReferenceIdeal.main_arg2))
      (StableHlo.launchContents m' c (Proc.devRef .tc Cert.ReferenceIdeal.main_arg5)) = YOf m c := by
  funext i
  obtain ⟨s, n, rfl⟩ : ∃ s n, i = ix2 s n := ⟨i 0, i 1, eq_ix2 i⟩
  refine (ReferenceIdeal.yR_ix _ _ _ _ _ s n (XRr (xfOf m c) (sufOf m c)) (wgt (KOf m c) (GOf m c)) (rsOf m c) (svOf m c) (fun a k => ?_) (fun r k => ?_) (fun a b => ?_) (fun k => ?_) (fun k => ?_)).trans ?_
  · rw [ref_xr hP c m' h0 h4]; rfl
  · refine ReferenceIdeal.mR_at _ (KOf m c) (GOf m c) (fun r w => ?_) (fun r g => ?_) r k
    · rw [← KOf_eq c r w, ← h1]
    · rw [← GOf_eq c hP r g, ← h3]
  · exact ReferenceIdeal.syl10 _ a b
  · rw [← rsOf_eq c hP k, ← h2]
  · rw [← svOf_eq c k, ← h5]
  · show _ = tileAt _ _ _ _ _ _ c (n.val / 1024) (ix2 ⟨s.val, s.isLt⟩ ⟨n.val % 1024, Nat.mod_lt _ (by decide)⟩)
    unfold tileAt tile ytile Asum
    have e : 1024 * (n.val / 1024) + n.val % 1024 = n.val := Nat.div_add_mod _ _
    show _ = _ * svOf m c (1024 * (n.val / 1024) + n.val % 1024)
    rw [e]
    rfl

end Cert.Proof.KernelIdeal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Frame
public import proofs.«01_k».proof.Proof.KernelIdeal.Frame
public import proofs.«01_k».proof.Proof.KernelIdeal.AlgY
public import Idealize.ShloMosaic.Lib.Bf16Pair
public import Idealize.ShloMosaic.Adequacy
public import Idealize.ShloMosaic.Init

@[expose] public section

noncomputable section

namespace Cert.Proof

open Idealize.ShloMosaic Idealize.SL.Sem Cert.Kernel

theorem frame_r : Cert.quiescent_ReferenceIdeal (hReferenceIdeal := Cert.ReferenceIdeal.Gen.facts) := fun m g _ =>
  (θ_run Cert.ReferenceIdeal.defs _ _).mono
    (fun r h => ⟨fun c => (h c).2.2, Idealize.ShloMosaic.sem_eq_zero_of_no_sems (by decide) r.2⟩)
    (Cert.ReferenceIdeal.Value.run (F := Ideal) m g)

/-- Both results equal, whatever the output signs are. -/
theorem alg : Cert.algebraic_KernelIdeal_ReferenceIdeal_pre_finite (hKernelIdeal := Cert.KernelIdeal.Gen.facts)
    (hReferenceIdeal := Cert.ReferenceIdeal.Gen.facts) (hPre_finite := KernelIdeal.preFacts) := by
  intro m g m' g' hP hm
  refine ⟨fun c => KernelIdeal.YOf m c, fun c => KernelIdeal.XRv (KernelIdeal.xfOf m c) (KernelIdeal.sufOf m c), KernelIdeal.kernel_full g hP, ?_⟩
  refine (θ_run _ _ _).mono (fun r h c => ?_) (Cert.ReferenceIdeal.Value.run (F := Ideal) m' g')
  obtain ⟨h0, h1, h2, h3, h4, h5⟩ := hm c
  exact ⟨(h c).1.trans (KernelIdeal.ref_y hP c m' h0 h1 h2 h3 h4 h5), (h c).2.1.trans (KernelIdeal.ref_xr hP c m' h0 h4), (h c).2.2⟩

theorem claim : Cert.Claim := ⟨Cert.Kernel.Gen.facts, Cert.KernelIdeal.Gen.facts, Cert.ReferenceIdeal.Gen.facts, KernelIdeal.preFacts,
  fun m g _ => Kernel.frame m g, fun m g _ => KernelIdeal.frame m g, fun m g _ => KernelIdeal.frame m g, frame_r,
  fun m g _ => frame_r m g trivial,
  ⟨IdealRules.bf16_pair.packStatement _, IdealRules.bf16_pair.statement _ _⟩, alg⟩

end Cert.Proof

end
